-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S100000 : Shape := ⟨1, ![100000]⟩
abbrev S1024x128 : Shape := ⟨2, ![1024, 128]⟩
abbrev S1024 : Shape := ⟨1, ![1024]⟩
abbrev S_ : Shape := ⟨0, ![]⟩
abbrev S100352x128 : Shape := ⟨2, ![100352, 128]⟩
abbrev S100352 : Shape := ⟨1, ![100352]⟩
abbrev S1024x1 : Shape := ⟨2, ![1024, 1]⟩
abbrev S1024x100352 : Shape := ⟨2, ![1024, 100352]⟩
abbrev S2048x128 : Shape := ⟨2, ![2048, 128]⟩
abbrev S1024x2048 : Shape := ⟨2, ![1024, 2048]⟩
abbrev S49x1x2048 : Shape := ⟨3, ![49, 1, 2048]⟩
abbrev S49x1024x16 : Shape := ⟨3, ![49, 1024, 16]⟩
abbrev S1024x6272 : Shape := ⟨2, ![1024, 6272]⟩
abbrev S1x1x2048 : Shape := ⟨3, ![1, 1, 2048]⟩
abbrev S1x1024x16 : Shape := ⟨3, ![1, 1024, 16]⟩
abbrev S1x2048 : Shape := ⟨2, ![1, 2048]⟩
abbrev S2048x16 : Shape := ⟨2, ![2048, 16]⟩
abbrev S1024x16 : Shape := ⟨2, ![1024, 16]⟩
abbrev S1024x49x16 : Shape := ⟨3, ![1024, 49, 16]⟩
abbrev S1024x784 : Shape := ⟨2, ![1024, 784]⟩
abbrev S784x784 : Shape := ⟨2, ![784, 784]⟩
abbrev S1x1 : Shape := ⟨2, ![1, 1]⟩
abbrev S128x128 : Shape := ⟨2, ![128, 128]⟩
abbrev S1 : Shape := ⟨1, ![1]⟩

abbrev nBuf : Space → Nat
  | .hbm => 32
  | .vmem => 53
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S1024x128, .f32⟩
  | .hbm, ⟨3, _⟩ => ⟨S1024, .i32⟩
  | .hbm, ⟨4, _⟩ => ⟨S_, .f32⟩
  | .hbm, ⟨5, _⟩ => ⟨S_, .f32⟩
  | .hbm, ⟨6, _⟩ => ⟨S100352x128, .f32⟩
  | .hbm, ⟨7, _⟩ => ⟨S_, .i32⟩
  | .hbm, ⟨8, _⟩ => ⟨S_, .i32⟩
  | .hbm, ⟨9, _⟩ => ⟨S100352, .i32⟩
  | .hbm, ⟨10, _⟩ => ⟨S1024x1, .i32⟩
  | .hbm, ⟨11, _⟩ => ⟨S1024x100352, .i8⟩
  | .hbm, ⟨12, _⟩ => ⟨S1024x1, .i32⟩
  | .hbm, ⟨13, _⟩ => ⟨S1024x1, .i32⟩
  | .hbm, ⟨14, _⟩ => ⟨S1024x1, .i32⟩
  | .hbm, ⟨15, _⟩ => ⟨S1024x1, .i32⟩
  | .hbm, ⟨16, _⟩ => ⟨S49x1x2048, .i32⟩
  | .hbm, ⟨17, _⟩ => ⟨S1024x1, .i32⟩
  | .hbm, ⟨18, _⟩ => ⟨S1024x1, .i32⟩
  | .hbm, ⟨19, _⟩ => ⟨S49x1024x16, .i32⟩
  | .hbm, ⟨20, _⟩ => ⟨S49x1024x16, .i32⟩
  | .hbm, ⟨21, _⟩ => ⟨S1024x6272, .i32⟩
  | .hbm, ⟨22, _⟩ => ⟨S1024x6272, .i32⟩
  | .hbm, ⟨23, _⟩ => ⟨S1024x49x16, .i32⟩
  | .hbm, ⟨24, _⟩ => ⟨S1024x784, .i32⟩
  | .hbm, ⟨25, _⟩ => ⟨S1024x49x16, .i32⟩
  | .hbm, ⟨26, _⟩ => ⟨S1024x784, .i32⟩
  | .hbm, ⟨27, _⟩ => ⟨S1024x1, .i32⟩
  | .hbm, ⟨28, _⟩ => ⟨S1024x1, .i32⟩
  | .hbm, ⟨29, _⟩ => ⟨S1024x1, .i32⟩
  | .hbm, ⟨30, _⟩ => ⟨S1x1, .f32⟩
  | .hbm, ⟨31, _⟩ => ⟨S_, .f32⟩
  | .local _ .vmem, ⟨0, _⟩ => ⟨S1024x128, .f32⟩
  | .local _ .vmem, ⟨1, _⟩ => ⟨S2048x128, .f32⟩
  | .local _ .vmem, ⟨2, _⟩ => ⟨S2048x128, .f32⟩
  | .local _ .vmem, ⟨3, _⟩ => ⟨S1024x2048, .i8⟩
  | .local _ .vmem, ⟨4, _⟩ => ⟨S1024x2048, .i8⟩
  | .local _ .vmem, ⟨5, _⟩ => ⟨S1024x1, .i32⟩
  | .local _ .vmem, ⟨6, _⟩ => ⟨S1024x1, .i32⟩
  | .local _ .vmem, ⟨7, _⟩ => ⟨S1024x1, .i32⟩
  | .local _ .vmem, ⟨8, _⟩ => ⟨S1024x2048, .i8⟩
  | .local _ .vmem, ⟨9, _⟩ => ⟨S1024x2048, .i8⟩
  | .local _ .vmem, ⟨10, _⟩ => ⟨S1024x1, .i32⟩
  | .local _ .vmem, ⟨11, _⟩ => ⟨S1024x1, .i32⟩
  | .local _ .vmem, ⟨12, _⟩ => ⟨S1024x1, .i32⟩
  | .local _ .vmem, ⟨13, _⟩ => ⟨S1024x1, .i32⟩
  | .local _ .vmem, ⟨14, _⟩ => ⟨S1024x1, .i32⟩
  | .local _ .vmem, ⟨15, _⟩ => ⟨S1024x1, .i32⟩
  | .local _ .vmem, ⟨16, _⟩ => ⟨S1024x1, .i32⟩
  | .local _ .vmem, ⟨17, _⟩ => ⟨S1024x1, .i32⟩
  | .local _ .vmem, ⟨18, _⟩ => ⟨S1024x2048, .i8⟩
  | .local _ .vmem, ⟨19, _⟩ => ⟨S1024x2048, .i8⟩
  | .local _ .vmem, ⟨20, _⟩ => ⟨S1x1x2048, .i32⟩
  | .local _ .vmem, ⟨21, _⟩ => ⟨S1x1x2048, .i32⟩
  | .local _ .vmem, ⟨22, _⟩ => ⟨S1024x1, .i32⟩
  | .local _ .vmem, ⟨23, _⟩ => ⟨S1024x1, .i32⟩
  | .local _ .vmem, ⟨24, _⟩ => ⟨S1024x1, .i32⟩
  | .local _ .vmem, ⟨25, _⟩ => ⟨S1024x1, .i32⟩
  | .local _ .vmem, ⟨26, _⟩ => ⟨S1x1024x16, .i32⟩
  | .local _ .vmem, ⟨27, _⟩ => ⟨S1x1024x16, .i32⟩
  | .local _ .vmem, ⟨28, _⟩ => ⟨S1x1024x16, .i32⟩
  | .local _ .vmem, ⟨29, _⟩ => ⟨S1x1024x16, .i32⟩
  | .local _ .vmem, ⟨30, _⟩ => ⟨S1024x128, .i32⟩
  | .local _ .vmem, ⟨31, _⟩ => ⟨S1024x128, .i32⟩
  | .local _ .vmem, ⟨32, _⟩ => ⟨S1024x128, .i32⟩
  | .local _ .vmem, ⟨33, _⟩ => ⟨S1024x128, .i32⟩
  | .local _ .vmem, ⟨34, _⟩ => ⟨S1024x784, .i32⟩
  | .local _ .vmem, ⟨35, _⟩ => ⟨S1024x784, .i32⟩
  | .local _ .vmem, ⟨36, _⟩ => ⟨S1024x1, .i32⟩
  | .local _ .vmem, ⟨37, _⟩ => ⟨S1024x1, .i32⟩
  | .local _ .vmem, ⟨38, _⟩ => ⟨S1024x1, .i32⟩
  | .local _ .vmem, ⟨39, _⟩ => ⟨S1024x1, .i32⟩
  | .local _ .vmem, ⟨40, _⟩ => ⟨S1024x1, .i32⟩
  | .local _ .vmem, ⟨41, _⟩ => ⟨S1024x128, .i32⟩
  | .local _ .vmem, ⟨42, _⟩ => ⟨S1024x128, .i32⟩
  | .local _ .vmem, ⟨43, _⟩ => ⟨S1024x128, .i32⟩
  | .local _ .vmem, ⟨44, _⟩ => ⟨S1024x128, .i32⟩
  | .local _ .vmem, ⟨45, _⟩ => ⟨S1024x1, .i32⟩
  | .local _ .vmem, ⟨46, _⟩ => ⟨S1024x1, .i32⟩
  | .local _ .vmem, ⟨47, _⟩ => ⟨S1024x1, .i32⟩
  | .local _ .vmem, ⟨48, _⟩ => ⟨S1x1, .f32⟩
  | .local _ .vmem, ⟨49, _⟩ => ⟨S1024x1, .i32⟩
  | .local _ .vmem, ⟨50, _⟩ => ⟨S1024x1, .i32⟩
  | .local _ .vmem, ⟨51, _⟩ => ⟨S1024x1, .i32⟩
  | .local _ .vmem, ⟨52, _⟩ => ⟨S1024x1, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_v0 : Ref sig .tc := ⟨.hbm, 6, rfl⟩
abbrev main_c : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v12 : Ref sig .tc := ⟨.hbm, 30, rfl⟩
abbrev main_v13 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc2_stg9_0 : Ref sig .tc := ⟨.vmem, 32, rfl⟩
abbrev cc2_stg9_1 : Ref sig .tc := ⟨.vmem, 33, rfl⟩
abbrev cc3_stg0_0 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_scratch0 : Ref sig .tc := ⟨.vmem, 49, rfl⟩
abbrev cc4_scratch1 : Ref sig .tc := ⟨.vmem, 50, rfl⟩
abbrev cc4_scratch2 : Ref sig .tc := ⟨.vmem, 51, rfl⟩
abbrev cc4_scratch3 : Ref sig .tc := ⟨.vmem, 52, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc2_sem7_0 : DmaSem sig := 24
abbrev cc2_sem7_1 : DmaSem sig := 25
abbrev cc2_sem8_0 : DmaSem sig := 26
abbrev cc2_sem8_1 : DmaSem sig := 27
abbrev cc2_sem9_0 : DmaSem sig := 28
abbrev cc2_sem9_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem3_0 : DmaSem sig := 42
abbrev cc4_sem4_0 : DmaSem sig := 43
abbrev cc4_sem5_0 : DmaSem sig := 44

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![3, 49], ![false, false]⟩

def k1_cond3 (i : grid1.Coords) : BitVec 1 :=
  let arg1 : BitVec 32 := BitVec.ofNat 32 (i 1).val
  let c48_i32 : BitVec 32 := 48#32
  let v60 : BitVec 1 := Scalar.cmpi .eq arg1 c48_i32
  let v61 : BitVec 32 := Scalar.extui v60
  let c0_i32_26 : BitVec 32 := 0#32
  let v62 : BitVec 1 := Scalar.cmpi .ne v61 c0_i32_26
  v62

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x2048 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1024x2048 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1 .i32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x1024x16 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1024x16 .i32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1024x128 .i32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1024x128 .i32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := .none

abbrev stage3_0 : Fin 1 → Memref sig .tc .vmem S1024x784 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1024x784 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1024x1 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1024x1 .i32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1024x1 .i32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1024x1 .i32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1024x1 .i32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev grid4 : Pipeline.Grid := ⟨1, ![49], ![false]⟩

def k4_cond2 (i : grid4.Coords) : BitVec 1 :=
  let arg0 : BitVec 32 := BitVec.ofNat 32 (i 0).val
  let c48_i32 : BitVec 32 := 48#32
  let v124 : BitVec 1 := Scalar.cmpi .eq arg0 c48_i32
  let v125 : BitVec 32 := Scalar.extui v124
  let c0_i32_44 : BitVec 32 := 0#32
  let v126 : BitVec 1 := Scalar.cmpi .ne v125 c0_i32_44
  v126

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1024x128 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x128 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1024x1 .i32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1024x1 .i32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1024x1 .i32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]
-- ==== ReferenceIdeal.lean ====
abbrev S100000x128 : Shape := ⟨2, ![100000, 128]⟩
abbrev S100000 : Shape := ⟨1, ![100000]⟩
abbrev S1024x128 : Shape := ⟨2, ![1024, 128]⟩
abbrev S1024 : Shape := ⟨1, ![1024]⟩
abbrev S_ : Shape := ⟨0, ![]⟩
abbrev S128x100000 : Shape := ⟨2, ![128, 100000]⟩
abbrev S1024x100000 : Shape := ⟨2, ![1024, 100000]⟩
abbrev S1024x1 : Shape := ⟨2, ![1024, 1]⟩
abbrev S1x100000 : Shape := ⟨2, ![1, 100000]⟩
abbrev S1024x100 : Shape := ⟨2, ![1024, 100]⟩
abbrev S102400 : Shape := ⟨1, ![102400]⟩
abbrev S102400x1 : Shape := ⟨2, ![102400, 1]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S1024x128, .f32⟩
  | .hbm, ⟨3, _⟩ => ⟨S1024, .i32⟩
  | .hbm, ⟨4, _⟩ => ⟨S_, .f32⟩
  | .hbm, ⟨5, _⟩ => ⟨S100000x128, .f32⟩
  | .hbm, ⟨6, _⟩ => ⟨S100000x128, .i1⟩
  | .hbm, ⟨7, _⟩ => ⟨S_, .f32⟩
  | .hbm, ⟨8, _⟩ => ⟨S_, .f32⟩
  | .hbm, ⟨9, _⟩ => ⟨S100000x128, .f32⟩
  | .hbm, ⟨10, _⟩ => ⟨S100000x128, .f32⟩
  | .hbm, ⟨11, _⟩ => ⟨S100000x128, .f32⟩
  | .hbm, ⟨12, _⟩ => ⟨S100000x128, .f32⟩
  | .hbm, ⟨13, _⟩ => ⟨S_, .f32⟩
  | .hbm, ⟨14, _⟩ => ⟨S1024x128, .f32⟩
  | .hbm, ⟨15, _⟩ => ⟨S1024x128, .i1⟩
  | .hbm, ⟨16, _⟩ => ⟨S_, .f32⟩
  | .hbm, ⟨17, _⟩ => ⟨S_, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S128x100000, .f32⟩
  | .hbm, ⟨23, _⟩ => ⟨S1024x100000, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S_, .f32⟩
  | .hbm, ⟨28, _⟩ => ⟨S100000, .f32⟩
  | .hbm, ⟨29, _⟩ => ⟨S1x100000, .f32⟩
  | .hbm, ⟨30, _⟩ => ⟨S1024x100000, .f32⟩
  | .hbm, ⟨31, _⟩ => ⟨S1024x100000, .f32⟩
  | .hbm, ⟨32, _⟩ => ⟨S1024x100000, .f32⟩
  | .hbm, ⟨33, _⟩ => ⟨S_, .f32⟩
  | .hbm, ⟨34, _⟩ => ⟨S1024x100000, .f32⟩
  | .hbm, ⟨35, _⟩ => ⟨S1024x100000, .f32⟩
  | .hbm, ⟨36, _⟩ => ⟨S1024x100000, .f32⟩
  | .hbm, ⟨37, _⟩ => ⟨S1024x100000, .f32⟩
  | .hbm, ⟨38, _⟩ => ⟨S1024x100, .f32⟩
  | .hbm, ⟨39, _⟩ => ⟨S1024x100, .i32⟩
  | .hbm, ⟨40, _⟩ => ⟨S102400, .i32⟩
  | .hbm, ⟨41, _⟩ => ⟨S_, .i32⟩
  | .hbm, ⟨42, _⟩ => ⟨S102400, .i32⟩
  | .hbm, ⟨43, _⟩ => ⟨S102400, .i1⟩
  | .hbm, ⟨44, _⟩ => ⟨S_, .i32⟩
  | .hbm, ⟨45, _⟩ => ⟨S102400, .i32⟩
  | .hbm, ⟨46, _⟩ => ⟨S102400, .i32⟩
  | .hbm, ⟨47, _⟩ => ⟨S102400, .i32⟩
  | .hbm, ⟨48, _⟩ => ⟨S102400x1, .i32⟩
  | .hbm, ⟨49, _⟩ => ⟨S102400, .i32⟩
  | .hbm, ⟨50, _⟩ => ⟨S1024x100, .i32⟩
  | .hbm, ⟨51, _⟩ => ⟨S1024x1, .i32⟩
  | .hbm, ⟨52, _⟩ => ⟨S1024x100, .i32⟩
  | .hbm, ⟨53, _⟩ => ⟨S1024x100, .i1⟩
  | .hbm, ⟨54, _⟩ => ⟨S1024x100, .f32⟩
  | .hbm, ⟨55, _⟩ => ⟨S_, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_cst_4 : Ref sig .tc := ⟨.hbm, 17, rfl⟩
abbrev main_call1_v0 : Ref sig .tc := ⟨.hbm, 18, rfl⟩
abbrev main_call1_v1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_5 : Ref sig .tc := ⟨.hbm, 24, rfl⟩
abbrev main_v10 : Ref sig .tc := ⟨.hbm, 25, rfl⟩
abbrev main_v11 : Ref sig .tc := ⟨.hbm, 26, rfl⟩
abbrev main_cst_6 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_7 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_values : Ref sig .tc := ⟨.hbm, 38, rfl⟩
abbrev main_indices : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_cst_10 : Ref sig .tc := ⟨.hbm, 57, rfl⟩
abbrev main_v35 : Ref sig .tc := ⟨.hbm, 58, rfl⟩
abbrev main_v36 : Ref sig .tc := ⟨.hbm, 59, rfl⟩
abbrev main_cst_11 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩

abbrev nD : Nat := 1
abbrev τ : Topo := Topo.v7x

variable {F : FTy → Type} [FloatOps F]
-- ==== Proof.Ideal.Common.lean ====
/-
The setting every kernel region of the program is run in: the libraries, the user algebra and the short names.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.FrameSuffix
public import Idealize.ShloMosaic.Lib.Pipeline.RegionArrays
public import Idealize.ShloMosaic.Lib.Ring
public import Idealize.ShloMosaic.Lib.Tactic
public import Idealize.ShloMosaic.Lib.WordCmp
public import Idealize.ShloMosaic.Lib.Exec
public import Idealize.ShloMosaic.Lib.VecWindow
public import Idealize.ShloMosaic.Lib.Pipeline.Kit

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the rounds of the staging cells alone. -/
abbrev U : Type := UR sig nD τ

/-- What a core's buffers hold between two items of @main. -/
abbrev Vals (F : FTy → Type) : Type := Dev nD → Valuation τ sig (Elt F)

section Whole

variable {κ : Kind} {sp : Space} {e : EltTy} {Val : EltTy → Type}

/-- A load of a whole two-dimensional view reads the view. -/
theorem readAt_whole2 {a b : ℕ} (v : View sig κ sp ⟨2, ![a, b]⟩ e) (f : v.ty.Contents Val) {off : Fin 2 → ℕ}
    (inb : ∀ x, off x + (![a, b] : Fin 2 → ℕ) x ≤ (⟨2, ![a, b]⟩ : Shape).size x) :
    v.readAt Val (Rect.unit (s := ⟨2, ![a, b]⟩) off ![a, b] inb).toLoadRect f = v.read Val f := View.readAt_full v f inb

/-- A load of a whole three-dimensional view reads the view. -/
theorem readAt_whole3 {a b d : ℕ} (v : View sig κ sp ⟨3, ![a, b, d]⟩ e) (f : v.ty.Contents Val) {off : Fin 3 → ℕ}
    (inb : ∀ x, off x + (![a, b, d] : Fin 3 → ℕ) x ≤ (⟨3, ![a, b, d]⟩ : Shape).size x) :
    v.readAt Val (Rect.unit (s := ⟨3, ![a, b, d]⟩) off ![a, b, d] inb).toLoadRect f = v.read Val f := View.readAt_full v f inb

/-- After a store of a whole two-dimensional view the view reads what was stored. -/
theorem read_stored2 {a b : ℕ} (v : View sig κ sp ⟨2, ![a, b]⟩ e) (f : v.ty.Contents Val) {off : Fin 2 → ℕ}
    (inb : ∀ x, off x + (![a, b] : Fin 2 → ℕ) x ≤ (⟨2, ![a, b]⟩ : Shape).size x)
    (w : (Rect.unit (s := ⟨2, ![a, b]⟩) off ![a, b] inb).shape.Idx → Val e) (L : List (View.Piece Val ⟨2, ![a, b]⟩ e)) :
    v.read Val (v.writes Val f (⟨Rect.unit (s := ⟨2, ![a, b]⟩) off ![a, b] inb, w⟩ :: L)) = w := View.read_writes_full v f inb w L

/-- After a store of a whole three-dimensional view the view reads what was stored. -/
theorem read_stored3 {a b d : ℕ} (v : View sig κ sp ⟨3, ![a, b, d]⟩ e) (f : v.ty.Contents Val) {off : Fin 3 → ℕ}
    (inb : ∀ x, off x + (![a, b, d] : Fin 3 → ℕ) x ≤ (⟨3, ![a, b, d]⟩ : Shape).size x)
    (w : (Rect.unit (s := ⟨3, ![a, b, d]⟩) off ![a, b, d] inb).shape.Idx → Val e) (L : List (View.Piece Val ⟨3, ![a, b, d]⟩ e)) :
    v.read Val (v.writes Val f (⟨Rect.unit (s := ⟨3, ![a, b, d]⟩) off ![a, b, d] inb, w⟩ :: L)) = w := View.read_writes_full v f inb w L

end Whole

end Cert.KernelIdeal.Hand

end
-- ==== Proof.Ideal.R0.lean ====
/-
Region 0 (the distances): what one grid point leaves, and that the body does it.
-/
module

public import proofs.«01_k».proof.Proof.Ideal.Common

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Gen

variable {F : FTy → Type} [FloatOps F]

local notation "𝕄" => MT nD τ sig Unit (Elt F) ℕ U ℕ

namespace R0

/-- The branch condition of the body: the grid point is the first. -/
abbrev cond (i : grid0.Coords) : Prop :=
  (Scalar.cmpi .ne (Scalar.extui (Scalar.cmpi .eq (BitVec.ofNat 32 (i 0).val) 0#32)) 0#32) = 1#1

theorem cond_iff : ∀ t : Fin cfg0.N, cond (grid0.coords t) ↔ t.val = 0 :=
  (fun t => by
    have ht : t.val < 49 := Nat.lt_of_lt_of_eq t.isLt N_0
    have e0 : (grid0.coords t 0).val = t.val / 1 % 49 := Pipeline.Grid.coords_val t 0 (by decide) rfl
    simp only [cond, e0]
    word_cmp
   : ∀ t : Fin grid0.N, cond (grid0.coords t) ↔ t.val = 0)

/-- The three running counts. -/
abbrev Cnt (F : FTy → Type) : Type := Vec F S1024x1 .i32 × Vec F S1024x1 .i32 × Vec F S1024x1 .i32

/-- The distances a point writes. -/
def dist (i : grid0.Coords) (x0 : Vec F S1024x128 .f32) (x1 : Vec F S2048x128 .f32) : Vec F S1024x2048 .i8 := k0_pay6 i x0 x1

/-- The counts after a point: the counts before it (none at the first point) and this tile's. -/
def step (i : grid0.Coords) (x0 : Vec F S1024x128 .f32) (x1 : Vec F S2048x128 .f32) (p : Cnt F) : Cnt F :=
  (k0_pay1 (k0_pay5 i x0 x1) (k0_pay7 (if cond i then k0_pay4 else p.1)) k0_pay8,
   k0_pay2 (k0_pay5 i x0 x1) (if cond i then k0_pay4 else p.2.1),
   k0_pay3 (k0_pay5 i x0 x1) (if cond i then k0_pay4 else p.2.2))

/-- At the first point the counts before do not matter. -/
theorem step_first {i : grid0.Coords} (h : cond i) (x0 : Vec F S1024x128 .f32) (x1 : Vec F S2048x128 .f32) (p p' : Cnt F) :
    step i x0 x1 p = step i x0 x1 p' := by simp only [step, if_pos h]

set_option maxHeartbeats 1000000 in
/-- The body on whole staging memrefs: the inputs kept, the distances written, the counts advanced. -/
theorem run (c : Dev nD) (i : grid0.Coords)
    (arg1 : Memref sig .tc .vmem S1024x128 .f32) (harg1 : arg1.IsWhole) (arg2 : Memref sig .tc .vmem S2048x128 .f32) (harg2 : arg2.IsWhole)
    (arg3 : Memref sig .tc .vmem S1024x2048 .i8) (harg3 : arg3.IsWhole) (arg4 : Memref sig .tc .vmem S1024x1 .i32) (harg4 : arg4.IsWhole)
    (arg5 : Memref sig .tc .vmem S1024x1 .i32) (harg5 : arg5.IsWhole) (arg6 : Memref sig .tc .vmem S1024x1 .i32) (harg6 : arg6.IsWhole)
    (x0 : Vec F S1024x128 .f32) (x1 : Vec F S2048x128 .f32) (p : Cnt F) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare p.1 ∗ owns (c : Thread nD τ) arg5 fullShare p.2.1 ∗ owns (c : Thread nD τ) arg6 fullShare p.2.2
        ∗ (iprop(owns (c : Thread nD τ) arg1 fullShare x0 ∗ owns (c : Thread nD τ) arg2 fullShare x1 ∗ owns (c : Thread nD τ) arg3 fullShare (dist i x0 x1)
            ∗ owns (c : Thread nD τ) arg4 fullShare (step i x0 x1 p).1 ∗ owns (c : Thread nD τ) arg5 fullShare (step i x0 x1 p).2.1
            ∗ owns (c : Thread nD τ) arg6 fullShare (step i x0 x1 p).2.2) -∗ K ⟨⟩))
      ⊢ wp frame (wpE (defs₀ (F := F)) Variants.none c none) E (cc0__dist_body i arg1 harg1 arg2 harg2 arg3 harg3 arg4 harg4 arg5 harg5 arg6 harg6) K := by
  obtain ⟨p1, p2, p3⟩ := p
  by_cases hc : cond i
  case' pos => simp only [step, dist, if_pos hc]
  case' neg => simp only [step, dist, if_neg hc]
  all_goals
    simp only [cc0__dist_body_eq_skeleton]; unfold cc0__dist_body_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, Hk⟩
    obtain rfl := harg1.eq_unread hf0; obtain rfl := harg2.eq_unread hf1
    obtain rfl := harg4.eq_unread hf3; obtain rfl := harg5.eq_unread hf4; obtain rfl := harg6.eq_unread hf5
    sl_exec (disch := first | sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr
      swap; · iexact H2
      ipureintro; simp only [read_stored2, readAt_whole2, hf0, hf1]
    isplitl [H3]
    · iexists _; isplitr
      swap; · iexact H3
      ipureintro; (try sl_unfold_run_names); simp only [View.readCov, read_stored2, readAt_whole2, hf0, hf1, hf3]
    isplitl [H4]
    · iexists _; isplitr
      swap; · iexact H4
      ipureintro; (try sl_unfold_run_names); simp only [View.readCov, read_stored2, readAt_whole2, hf0, hf1, hf4]
    iexists _; isplitr
    swap; · iexact H5
    ipureintro; (try sl_unfold_run_names); simp only [View.readCov, read_stored2, readAt_whole2, hf0, hf1, hf5]

/-! ## The region's data: what its arrays and staging buffers hold, point by point -/

variable (V : Vals F)

/-- Window `w`'s block at point `t` of the array the region finds. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The counts after point `n`. -/
def st (c : Dev nD) : (n : ℕ) → n < cfg0.N → Cnt F
  | 0, h => step (grid0.coords ⟨0, h⟩) (iblk V c 0 ⟨0, h⟩) (iblk V c 1 ⟨0, h⟩) (k0_pay4, k0_pay4, k0_pay4)
  | n + 1, h => step (grid0.coords ⟨n + 1, h⟩) (iblk V c 0 ⟨n + 1, h⟩) (iblk V c 1 ⟨n + 1, h⟩) (st c n (Nat.lt_of_succ_lt h))

theorem st_first (c : Dev nD) (t : Fin cfg0.N) (h : t.val = 0) (p : Cnt F) :
    st V c t.val t.isLt = step (grid0.coords t) (iblk V c 0 t) (iblk V c 1 t) p := by
  obtain ⟨n, hn⟩ := t
  obtain rfl : n = 0 := h
  exact step_first ((cond_iff _).mpr rfl) _ _ _ _

theorem st_next (c : Dev nD) (t : Fin cfg0.N) (h : t.val ≠ 0) :
    st V c t.val t.isLt = step (grid0.coords t) (iblk V c 0 t) (iblk V c 1 t) (st V c (t.val - 1) (Nat.lt_of_le_of_lt (Nat.sub_le _ _) t.isLt)) := by
  obtain ⟨n, hn⟩ := t
  obtain ⟨n, rfl⟩ := Nat.exists_eq_succ_of_ne_zero h
  rfl

/-- The proof data: inputs left at their blocks, outputs at what the point writes, nothing owed. -/
def dat (c : Dev nD) : Dat τ (Elt F) Unit ℕ U ℕ cfg0 c where
  A w := V c (Pipeline.arrRef spec0 w)
  after w t := match w with
    | ⟨0, _⟩ => iblk V c 0 t
    | ⟨1, _⟩ => iblk V c 1 t
    | ⟨2, _⟩ => dist (grid0.coords t) (iblk V c 0 t) (iblk V c 1 t)
    | ⟨3, _⟩ => (st V c t.val t.isLt).1
    | ⟨4, _⟩ => (st V c t.val t.isLt).2.1
    | ⟨5, _⟩ => (st V c t.val t.isLt).2.2
  Φ _ := Pipeline.ΦA spec0 c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = dist (grid0.coords t) (iblk V c 0 t) (iblk V c 1 t) := by dsimp only [dat]
theorem after_3 (c : Dev nD) (t : Fin cfg0.N) : (dat V c).after 3 t = (st V c t.val t.isLt).1 := by dsimp only [dat]
theorem after_4 (c : Dev nD) (t : Fin cfg0.N) : (dat V c).after 4 t = (st V c t.val t.isLt).2.1 := by dsimp only [dat]
theorem after_5 (c : Dev nD) (t : Fin cfg0.N) : (dat V c).after 5 t = (st V c t.val t.isLt).2.2 := by dsimp only [dat]

/-- An input's staging buffer holds its block before every point. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)

/-- A count's staging buffer holds after the first point what the point before left. -/
theorem before_out (c : Dev nD) (t : Fin cfg0.N) (h : t.val ≠ 0) :
    (∀ d, (dat V c).before 3 t d = (st V c (t.val - 1) (Nat.lt_of_le_of_lt (Nat.sub_le _ _) t.isLt)).1)
    ∧ (∀ d, (dat V c).before 4 t d = (st V c (t.val - 1) (Nat.lt_of_le_of_lt (Nat.sub_le _ _) t.isLt)).2.1)
    ∧ (∀ d, (dat V c).before 5 t d = (st V c (t.val - 1) (Nat.lt_of_le_of_lt (Nat.sub_le _ _) t.isLt)).2.2) := by
  have hN : t.val < 49 := lt_of_lt_of_eq t.isLt (show cfg0.N = 49 from N_0)
  refine ⟨fun d => ?_, fun d => ?_, fun d => ?_⟩
  · rw [Dat.before_out_kept _ 3 rfl t (by omega) (Bool.eq_false_iff.mpr fun h => by have := (flush0_3 _).mp h; dsimp only at this; omega)
      (fun _ => rfl) (fun _ _ => rfl), after_3]
  · rw [Dat.before_out_kept _ 4 rfl t (by omega) (Bool.eq_false_iff.mpr fun h => by have := (flush0_4 _).mp h; dsimp only at this; omega)
      (fun _ => rfl) (fun _ _ => rfl), after_4]
  · rw [Dat.before_out_kept _ 5 rfl t (by omega) (Bool.eq_false_iff.mpr fun h => by have := (flush0_5 _).mp h; dsimp only at this; omega)
      (fun _ => rfl) (fun _ _ => rfl), after_5]

/-! ## The body's obligation -/

/-- A window's staging memref at point `t`. -/
abbrev ms (t : Fin cfg0.N) (w : Fin cfg0.W) := (cfg0.win w).stage (cfg0.slots t w)

/-- From the counts the buffers hold (`p`), the body leaves the point's outputs. -/
theorem body_run (c : Dev nD) (t : Fin cfg0.N) (p : Cnt F) (hp : st V c t.val t.isLt = step (grid0.coords t) (iblk V c 0 t) (iblk V c 1 t) p) :
    iprop((dat V c).Φ t.castSucc ∗ (dat V c).owesAt () t.castSucc
        ∗ owns (c : Thread nD τ) (win0_0.stage (cfg0.slots t 0)) fullShare (iblk V c 0 t)
        ∗ owns (c : Thread nD τ) (win0_1.stage (cfg0.slots t 1)) fullShare (iblk V c 1 t)
        ∗ (∃ d, owns (c : Thread nD τ) (win0_2.stage (cfg0.slots t 2)) fullShare d)
        ∗ owns (c : Thread nD τ) (win0_3.stage (cfg0.slots t 3)) fullShare p.1
        ∗ owns (c : Thread nD τ) (win0_4.stage (cfg0.slots t 4)) fullShare p.2.1
        ∗ owns (c : Thread nD τ) (win0_5.stage (cfg0.slots t 5)) fullShare p.2.2)
      ⊢ wp frame (wpE (defs₀ (F := F)) Variants.none c none) Set.univ (bodyAt0 t) (fun _ =>
        iprop((dat V c).Φ t.succ ∗ (dat V c).owesAt () t.succ
          ∗ owns (c : Thread nD τ) (win0_0.stage (cfg0.slots t 0)) fullShare ((dat V c).after 0 t)
          ∗ owns (c : Thread nD τ) (win0_1.stage (cfg0.slots t 1)) fullShare ((dat V c).after 1 t)
          ∗ owns (c : Thread nD τ) (win0_2.stage (cfg0.slots t 2)) fullShare ((dat V c).after 2 t)
          ∗ owns (c : Thread nD τ) (win0_3.stage (cfg0.slots t 3)) fullShare ((dat V c).after 3 t)
          ∗ owns (c : Thread nD τ) (win0_4.stage (cfg0.slots t 4)) fullShare ((dat V c).after 4 t)
          ∗ owns (c : Thread nD τ) (win0_5.stage (cfg0.slots t 5)) fullShare ((dat V c).after 5 t))) := by
  unfold bodyAt0
  rw [show (dat V c).Φ t.succ = (dat V c).Φ t.castSucc from rfl,
    show (dat V c).owesAt () t.succ = (dat V c).owesAt () t.castSucc from rfl,
    after_0, after_1, after_2, after_3, after_4, after_5, hp]
  iintro ⟨HΦ, Ho, H0, H1, H2, H3, H4, H5⟩
  iapply (run c (grid0.coords t) _ _ _ _ _ _ _ _ _ _ _ _ (iblk V c 0 t) (iblk V c 1 t) p Set.univ _)
  isplitl [H0]; · iexact H0
  isplitl [H1]; · iexact H1
  isplitl [H2]; · iexact H2
  isplitl [H3]; · iexact H3
  isplitl [H4]; · iexact H4
  isplitl [H5]; · iexact H5
  iintro H
  isplitl [HΦ]; · iexact HΦ
  isplitl [Ho]; · iexact Ho
  iexact H

theorem body_at (c : Dev nD) (t : Fin cfg0.N) :
    iprop((dat V c).Φ t.castSucc ∗ (dat V c).owesAt () t.castSucc
        ∗ (∃ d, owns (c : Thread nD τ) (win0_0.stage (cfg0.slots t 0)) fullShare ((dat V c).before 0 t d))
        ∗ (∃ d, owns (c : Thread nD τ) (win0_1.stage (cfg0.slots t 1)) fullShare ((dat V c).before 1 t d))
        ∗ (∃ d, owns (c : Thread nD τ) (win0_2.stage (cfg0.slots t 2)) fullShare ((dat V c).before 2 t d))
        ∗ (∃ d, owns (c : Thread nD τ) (win0_3.stage (cfg0.slots t 3)) fullShare ((dat V c).before 3 t d))
        ∗ (∃ d, owns (c : Thread nD τ) (win0_4.stage (cfg0.slots t 4)) fullShare ((dat V c).before 4 t d))
        ∗ (∃ d, owns (c : Thread nD τ) (win0_5.stage (cfg0.slots t 5)) fullShare ((dat V c).before 5 t d)))
      ⊢ wp frame (wpE (defs₀ (F := F)) Variants.none c none) Set.univ (bodyAt0 t) (fun _ =>
        iprop((dat V c).Φ t.succ ∗ (dat V c).owesAt () t.succ
          ∗ owns (c : Thread nD τ) (win0_0.stage (cfg0.slots t 0)) fullShare ((dat V c).after 0 t)
          ∗ owns (c : Thread nD τ) (win0_1.stage (cfg0.slots t 1)) fullShare ((dat V c).after 1 t)
          ∗ owns (c : Thread nD τ) (win0_2.stage (cfg0.slots t 2)) fullShare ((dat V c).after 2 t)
          ∗ owns (c : Thread nD τ) (win0_3.stage (cfg0.slots t 3)) fullShare ((dat V c).after 3 t)
          ∗ owns (c : Thread nD τ) (win0_4.stage (cfg0.slots t 4)) fullShare ((dat V c).after 4 t)
          ∗ owns (c : Thread nD τ) (win0_5.stage (cfg0.slots t 5)) fullShare ((dat V c).after 5 t))) := by
  simp only [before_0, before_1]
  iintro ⟨HΦ, Ho, ⟨%_d0, H0⟩, ⟨%_d1, H1⟩, ⟨%d2, H2⟩, ⟨%d3, H3⟩, ⟨%d4, H4⟩, ⟨%d5, H5⟩⟩
  by_cases h : t.val = 0
  · iapply (body_run V c t (_, _, _) (st_first V c t h _))
    isplitl [HΦ]; · iexact HΦ
    isplitl [Ho]; · iexact Ho
    isplitl [H0]; · iexact H0
    isplitl [H1]; · iexact H1
    isplitl [H2]; · iexists _; iexact H2
    isplitl [H3]; · iexact H3
    isplitl [H4]; · iexact H4
    iexact H5
  · obtain ⟨h3, h4, h5⟩ := before_out V c t h
    rw [h3 d3, h4 d4, h5 d5]
    iapply (body_run V c t _ (st_next V c t h))
    isplitl [HΦ]; · iexact HΦ
    isplitl [Ho]; · iexact Ho
    isplitl [H0]; · iexact H0
    isplitl [H1]; · iexact H1
    isplitl [H2]; · iexists _; iexact H2
    isplitl [H3]; · iexact H3
    isplitl [H4]; · iexact H4
    iexact H5

/-- The kernel's table at the region's body is the body at the point. -/
theorem defs₀_row (t : Fin cfg0.N) : defs₀ .tc cfg0.body (cfg0.bodyArgs t (cfg0.slots t)) = bodyAt0 (F := F) t := by
  unfold defs₀; rw [Defs.onTc_tc]

/-- The body meets the pipeline's obligation at every point. -/
theorem body_obligation (c : Dev nD) : BodyObligation (dat V c) (defs₀ (F := F)) Variants.none () Set.univ := fun t => by
  rw [bigSep_W0, bigSep_W0, defs₀_row]
  exact triple_restated (body_at V c t) rfl .rfl fun _ => .rfl

end R0

end Cert.KernelIdeal.Hand

end
-- ==== Proof.Ideal.R1.lean ====
/-
Region 1 (the k-th distance by search): what one grid point leaves, and that the body does it.
-/
module

public import proofs.«01_k».proof.Proof.Ideal.Common

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Gen

variable {F : FTy → Type} [FloatOps F]

local notation "𝕄" => MT nD τ sig Unit (Elt F) ℕ U ℕ

namespace R1

/-- The body's branch conditions: the first point of all; the first point of a pass; the last point of a pass. -/
abbrev cond0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cond1 (i : grid1.Coords) : Prop := (Scalar.cmpi .ne (Scalar.extui (Scalar.cmpi .eq (BitVec.ofNat 32 (i 1).val) 0#32)) 0#32) = 1#1
abbrev cond2 (i : grid1.Coords) : Prop := k1_cond3 i = 1#1

theorem cond0_iff : ∀ t : Fin cfg1.N, cond0 (grid1.coords t) ↔ t.val = 0 :=
  (fun t => by
    have ht : t.val < 147 := Nat.lt_of_lt_of_eq t.isLt N_1
    have e0 : (grid1.coords t 0).val = t.val / 49 % 3 := Pipeline.Grid.coords_val t 0 (by decide) rfl
    have e1 : (grid1.coords t 1).val = t.val / 1 % 49 := Pipeline.Grid.coords_val t 1 (by decide) rfl
    simp only [cond0, e0, e1]
    word_cmp
   : ∀ t : Fin grid1.N, cond0 (grid1.coords t) ↔ t.val = 0)

theorem cond1_iff : ∀ t : Fin cfg1.N, cond1 (grid1.coords t) ↔ t.val % 49 = 0 :=
  (fun t => by
    have ht : t.val < 147 := Nat.lt_of_lt_of_eq t.isLt N_1
    have e1 : (grid1.coords t 1).val = t.val / 1 % 49 := Pipeline.Grid.coords_val t 1 (by decide) rfl
    simp only [cond1, e1]
    word_cmp
   : ∀ t : Fin grid1.N, cond1 (grid1.coords t) ↔ t.val % 49 = 0)

theorem cond2_iff : ∀ t : Fin cfg1.N, cond2 (grid1.coords t) ↔ t.val % 49 = 48 :=
  (fun t => by
    have ht : t.val < 147 := Nat.lt_of_lt_of_eq t.isLt N_1
    have e1 : (grid1.coords t 1).val = t.val / 1 % 49 := Pipeline.Grid.coords_val t 1 (by decide) rfl
    simp only [cond2, k1_cond3, e1]
    word_cmp
   : ∀ t : Fin grid1.N, cond2 (grid1.coords t) ↔ t.val % 49 = 48)

/-- How the conditions exclude each other: the first point opens a pass, and no point both opens and closes one. -/
theorem excl (t : Fin cfg1.N) : (cond0 (grid1.coords t) → cond1 (grid1.coords t)) ∧ (cond1 (grid1.coords t) → ¬cond2 (grid1.coords t)) := by
  rw [cond0_iff, cond1_iff, cond2_iff]; omega

theorem last_ne_zero (t : Fin cfg1.N) (h : cond2 (grid1.coords t)) : t.val ≠ 0 := by
  have := (cond2_iff t).mp h; omega

/-- The four carried scratch arrays. -/
abbrev Scr (F : FTy → Type) : Type := Vec F S1024x1 .i32 × Vec F S1024x1 .i32 × Vec F S1024x1 .i32 × Vec F S1024x1 .i32

/-- The width of a quarter of the interval searched in a pass. -/
abbrev wid (i : grid1.Coords) : BitVec 32 :=
  Scalar.select (Scalar.cmpi .eq (BitVec.ofNat 32 (i 0).val) 0#32) 9#32 (Scalar.select (Scalar.cmpi .eq (BitVec.ofNat 32 (i 0).val) 1#32) 3#32 1#32)

/-- The lower end of the interval and the three counts, as a point adds its tile to them. -/
def low (i : grid1.Coords) (x0 : Vec F S1024x2048 .i8) (x1 : Vec F S1024x1 .i32) (x2 : Vec F S1024x1 .i32) (x3 : Vec F S1024x1 .i32) (p : Scr F) : Vec F S1024x1 .i32 := if cond0 i then k1_pay4 x1 x2 x3 else p.1
def cnt1 (i : grid1.Coords) (x0 : Vec F S1024x2048 .i8) (x1 : Vec F S1024x1 .i32) (x2 : Vec F S1024x1 .i32) (x3 : Vec F S1024x1 .i32) (p : Scr F) : Vec F S1024x1 .i32 :=
  k1_pay10 i (low i x0 x1 x2 x3 p) x0 (if cond1 i then k1_pay6 else p.2.1)
def cnt2 (i : grid1.Coords) (x0 : Vec F S1024x2048 .i8) (x1 : Vec F S1024x1 .i32) (x2 : Vec F S1024x1 .i32) (x3 : Vec F S1024x1 .i32) (p : Scr F) : Vec F S1024x1 .i32 :=
  k1_pay1 (low i x0 x1 x2 x3 p) (k1_pay9 x0) (if cond1 i then k1_pay7 else p.2.2.1) (Scalar.muli 2#32 (wid i))
def cnt3 (i : grid1.Coords) (x0 : Vec F S1024x2048 .i8) (x1 : Vec F S1024x1 .i32) (x2 : Vec F S1024x1 .i32) (x3 : Vec F S1024x1 .i32) (p : Scr F) : Vec F S1024x1 .i32 :=
  k1_pay2 (wid i) (low i x0 x1 x2 x3 p) (k1_pay9 x0) (if cond1 i then k1_pay8 else p.2.2.2)

/-- The lower end after a pass. -/
def res (i : grid1.Coords) (x0 : Vec F S1024x2048 .i8) (x1 : Vec F S1024x1 .i32) (x2 : Vec F S1024x1 .i32) (x3 : Vec F S1024x1 .i32) (p : Scr F) : Vec F S1024x1 .i32 :=
  k1_pay3 (wid i) (cnt1 i x0 x1 x2 x3 p) (cnt2 i x0 x1 x2 x3 p) (cnt3 i x0 x1 x2 x3 p) (low i x0 x1 x2 x3 p)

/-- The scratch after a point. -/
def step (i : grid1.Coords) (x0 : Vec F S1024x2048 .i8) (x1 : Vec F S1024x1 .i32) (x2 : Vec F S1024x1 .i32) (x3 : Vec F S1024x1 .i32) (p : Scr F) : Scr F :=
  (if cond2 i then res i x0 x1 x2 x3 p else low i x0 x1 x2 x3 p, cnt1 i x0 x1 x2 x3 p, cnt2 i x0 x1 x2 x3 p, cnt3 i x0 x1 x2 x3 p)

/-- At the first point the scratch before does not matter. -/
theorem step_first {i : grid1.Coords} (h : cond0 i) (h1 : cond1 i) (x0 : Vec F S1024x2048 .i8) (x1 : Vec F S1024x1 .i32) (x2 : Vec F S1024x1 .i32) (x3 : Vec F S1024x1 .i32) (p p' : Scr F) :
    step i x0 x1 x2 x3 p = step i x0 x1 x2 x3 p' := by simp only [step, res, cnt1, cnt2, cnt3, low, if_pos h, if_pos h1]

set_option maxHeartbeats 4000000 in
/-- The body on whole memrefs: the inputs kept, the scratch advanced, the result written where the last condition holds
    and its buffer untouched elsewhere. -/
theorem run (c : Dev nD) (i : grid1.Coords)
    (arg2 : Memref sig .tc .vmem S1024x2048 .i8) (harg2 : arg2.IsWhole)
    (arg3 : Memref sig .tc .vmem S1024x1 .i32) (harg3 : arg3.IsWhole)
    (arg4 : Memref sig .tc .vmem S1024x1 .i32) (harg4 : arg4.IsWhole)
    (arg5 : Memref sig .tc .vmem S1024x1 .i32) (harg5 : arg5.IsWhole)
    (arg6 : Memref sig .tc .vmem S1024x1 .i32) (harg6 : arg6.IsWhole)
    (arg7 : Memref sig .tc .vmem S1024x1 .i32) (harg7 : arg7.IsWhole)
    (arg8 : Memref sig .tc .vmem S1024x1 .i32) (harg8 : arg8.IsWhole)
    (arg9 : Memref sig .tc .vmem S1024x1 .i32) (harg9 : arg9.IsWhole)
    (arg10 : Memref sig .tc .vmem S1024x1 .i32) (harg10 : arg10.IsWhole)
    (x0 : Vec F S1024x2048 .i8) (x1 : Vec F S1024x1 .i32) (x2 : Vec F S1024x1 .i32) (x3 : Vec F S1024x1 .i32) (d : Vec F S1024x1 .i32) (p : Scr F) (hex : (cond0 i → cond1 i) ∧ (cond1 i → ¬cond2 i)) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare d
        ∗ owns (c : Thread nD τ) arg7 fullShare p.1
        ∗ owns (c : Thread nD τ) arg8 fullShare p.2.1
        ∗ owns (c : Thread nD τ) arg9 fullShare p.2.2.1
        ∗ owns (c : Thread nD τ) arg10 fullShare p.2.2.2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (if cond2 i then res i x0 x1 x2 x3 p else d)
            ∗ owns (c : Thread nD τ) arg7 fullShare (step i x0 x1 x2 x3 p).1
            ∗ owns (c : Thread nD τ) arg8 fullShare (step i x0 x1 x2 x3 p).2.1
            ∗ owns (c : Thread nD τ) arg9 fullShare (step i x0 x1 x2 x3 p).2.2.1
            ∗ owns (c : Thread nD τ) arg10 fullShare (step i x0 x1 x2 x3 p).2.2.2) -∗ K ⟨⟩))
      ⊢ wp frame (wpE (defs₀ (F := F)) Variants.none c none) E (cc1__search_body i arg2 harg2 arg3 harg3 arg4 harg4 arg5 harg5 arg6 harg6 arg7 harg7 arg8 harg8 arg9 harg9 arg10 harg10) K := by
  obtain ⟨p0, p1, p2, p3⟩ := p
  by_cases hc0 : cond0 i
  case' pos =>
    have hc1 := hex.1 hc0
    have hc2 := hex.2 hc1
    simp only [step, res, cnt1, cnt2, cnt3, low, if_pos hc0, if_pos hc1, if_neg hc2]
  case' neg =>
    by_cases hc1 : cond1 i
    case' pos =>
      have hc2 := hex.2 hc1
      simp only [step, res, cnt1, cnt2, cnt3, low, if_neg hc0, if_pos hc1, if_neg hc2]
    case' neg =>
      by_cases hc2 : cond2 i
      case' pos => simp only [step, res, cnt1, cnt2, cnt3, low, if_neg hc0, if_neg hc1, if_pos hc2]
      case' neg => simp only [step, res, cnt1, cnt2, cnt3, low, if_neg hc0, if_neg hc1, if_neg hc2]
  all_goals
    simp only [cc1__search_body_eq_skeleton]; unfold cc1__search_body_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%g0, %hs0, HS0⟩, ⟨%g1, %hs1, HS1⟩, ⟨%g2, %hs2, HS2⟩, ⟨%g3, %hs3, HS3⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hs0; obtain rfl := harg8.eq_unread hs1; obtain rfl := harg9.eq_unread hs2; obtain rfl := harg10.eq_unread hs3
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro; (try sl_unfold_run_names); simp only [View.readCov, read_stored2, read_stored3, readAt_whole2, readAt_whole3, hf0, hf1, hf2, hf3, hf4, hs0, hs1, hs2, hs3]
    isplitl [HS0]
    · iexists _; isplitr
      swap; · iexact HS0
      ipureintro; (try sl_unfold_run_names); simp only [View.readCov, read_stored2, read_stored3, readAt_whole2, readAt_whole3, hf0, hf1, hf2, hf3, hf4, hs0, hs1, hs2, hs3]
    isplitl [HS1]
    · iexists _; isplitr
      swap; · iexact HS1
      ipureintro; (try sl_unfold_run_names); simp only [View.readCov, read_stored2, read_stored3, readAt_whole2, readAt_whole3, hf0, hf1, hf2, hf3, hf4, hs0, hs1, hs2, hs3]
    isplitl [HS2]
    · iexists _; isplitr
      swap; · iexact HS2
      ipureintro; (try sl_unfold_run_names); simp only [View.readCov, read_stored2, read_stored3, readAt_whole2, readAt_whole3, hf0, hf1, hf2, hf3, hf4, hs0, hs1, hs2, hs3]
    iexists _; isplitr
    swap; · iexact HS3
    ipureintro; (try sl_unfold_run_names); simp only [View.readCov, read_stored2, read_stored3, readAt_whole2, readAt_whole3, hf0, hf1, hf2, hf3, hf4, hs0, hs1, hs2, hs3]

/-! ## The region's data: what its arrays and staging buffers hold, point by point -/

variable (V : Vals F)

/-- Window `w`'s block at point `t` of the array the region finds. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch after point `n`. -/
def st (c : Dev nD) : (n : ℕ) → n < cfg1.N → Scr F
  | 0, h => step (grid1.coords ⟨0, h⟩) (iblk V c 0 ⟨0, h⟩) (iblk V c 1 ⟨0, h⟩) (iblk V c 2 ⟨0, h⟩) (iblk V c 3 ⟨0, h⟩) (k1_pay6, k1_pay6, k1_pay7, k1_pay8)
  | n + 1, h => step (grid1.coords ⟨n + 1, h⟩) (iblk V c 0 ⟨n + 1, h⟩) (iblk V c 1 ⟨n + 1, h⟩) (iblk V c 2 ⟨n + 1, h⟩) (iblk V c 3 ⟨n + 1, h⟩) (st c n (Nat.lt_of_succ_lt h))

/-- The scratch a point finds: what the point before left; anything at the first point. -/
def found (c : Dev nD) (n : ℕ) (p : Scr F) : Prop := ∀ (h0 : n ≠ 0) (h : n - 1 < cfg1.N), p = st V c (n - 1) h

theorem st_step (c : Dev nD) (t : Fin cfg1.N) (p : Scr F) (hp : found V c t.val p) :
    st V c t.val t.isLt = step (grid1.coords t) (iblk V c 0 t) (iblk V c 1 t) (iblk V c 2 t) (iblk V c 3 t) p := by
  obtain ⟨n, hn⟩ := t
  cases n with
  | zero => exact step_first ((cond0_iff _).mpr rfl) ((cond1_iff _).mpr rfl) _ _ _ _ _ _
  | succ n => rw [show p = st V c n (Nat.lt_of_succ_lt hn) from hp (Nat.succ_ne_zero n) _]; rfl

/-- The result at a point: from the scratch before it, a fixed one standing in at the first point. -/
def out (c : Dev nD) (t : Fin cfg1.N) : Vec F S1024x1 .i32 :=
  res (grid1.coords t) (iblk V c 0 t) (iblk V c 1 t) (iblk V c 2 t) (iblk V c 3 t) (if h : t.val = 0 then (k1_pay6, k1_pay6, k1_pay7, k1_pay8) else st V c (t.val - 1) (Nat.lt_of_le_of_lt (Nat.sub_le _ _) t.isLt))

theorem out_eq (c : Dev nD) (t : Fin cfg1.N) (h0 : t.val ≠ 0) (p : Scr F) (hp : found V c t.val p) :
    out V c t = res (grid1.coords t) (iblk V c 0 t) (iblk V c 1 t) (iblk V c 2 t) (iblk V c 3 t) p := by
  rw [out, dif_neg h0, hp h0 (Nat.lt_of_le_of_lt (Nat.sub_le _ _) t.isLt)]

/-- What is carried from point to point: the scratch the point finds, the other scoped buffers, the generator register. -/
def Phi (c : Dev nD) (n : ℕ) : sProp 𝕄 :=
  iprop(∃ p : Scr F, ⌜found V c n p⌝
    ∗ owns (c : Thread nD τ) (Memref.whole cc1_scratch0) fullShare p.1 ∗ owns (c : Thread nD τ) (Memref.whole cc1_scratch1) fullShare p.2.1
    ∗ owns (c : Thread nD τ) (Memref.whole cc1_scratch2) fullShare p.2.2.1 ∗ owns (c : Thread nD τ) (Memref.whole cc1_scratch3) fullShare p.2.2.2
    ∗ Pipeline.scopedRestBut (Ix := Unit) (Name := ℕ) (U := U) (Lvl := ℕ) (Val := Elt F) spec1 c [cc1_scratch0, cc1_scratch1, cc1_scratch2, cc1_scratch3]
    ∗ ∃ r, prngReg c r)

/-- At the start the scratch holds anything. -/
theorem Phi_in (c : Dev nD) : (Pipeline.ΦA spec1 c : sProp 𝕄) ⊢ Phi V c 0 := by
  unfold Pipeline.ΦA Phi; rw [scopedRest1_split]; simp only [owns_whole]
  iintro ⟨⟨⟨⟨%f0, H0⟩, ⟨%f1, H1⟩, ⟨%f2, H2⟩, ⟨%f3, H3⟩⟩, HR⟩, Hp⟩
  iexists (f0, f1, f2, f3)
  isplitr; · ipureintro; exact fun h => absurd rfl h
  isplitl [H0]; · iexact H0
  isplitl [H1]; · iexact H1
  isplitl [H2]; · iexact H2
  isplitl [H3]; · iexact H3
  isplitl [HR]; · iexact HR
  iexact Hp

/-- What the scratch holds may be forgotten. -/
theorem Phi_out (c : Dev nD) (n : ℕ) : Phi V c n ⊢ (Pipeline.ΦA spec1 c : sProp 𝕄) := by
  unfold Pipeline.ΦA Phi; rw [scopedRest1_split]; simp only [owns_whole]
  iintro ⟨%p, -, H0, H1, H2, H3, HR, Hp⟩
  isplitr [Hp]
  · isplitr [HR]
    · isplitl [H0]; · iexists _; iexact H0
      isplitl [H1]; · iexists _; iexact H1
      isplitl [H2]; · iexists _; iexact H2
      iexists _; iexact H3
    iexact HR
  iexact Hp

/-- The proof data: inputs left at their blocks, the result at what the point writes, the scratch carried, nothing owed. -/
def dat (c : Dev nD) : Dat τ (Elt F) Unit ℕ U ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => out V c t
  Φ t := Phi V c t.val
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = out V c t := by dsimp only [dat]

/-- An input's staging buffer holds its block before every point. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)

/-! ## The body's obligation -/

/-- The result's window is idle and not written back but where the last condition holds. -/
theorem idle_out : ∀ t : Fin cfg1.N, ¬cond2 (grid1.coords t) → cfg1.idle 4 (grid1.coords t) = true ∧ (cfg1.win 4).flush t = false := by
  intro t h
  have hN : t.val < 147 := lt_of_lt_of_eq t.isLt (show cfg1.N = 147 from N_1)
  have h' : ¬t.val % 49 = 48 := fun e => h ((cond2_iff t).mpr e)
  constructor
  · have key : ∀ t : Fin cfg1.N, t.val % 49 ≠ 48 → cfg1.idle 4 (grid1.coords t) = true := by decide +kernel
    exact key t h'
  · exact Bool.eq_false_iff.mpr fun e => by have := (flush1_4 t).mp e; omega

theorem live_out : ∀ t : Fin cfg1.N, cond2 (grid1.coords t) → cfg1.idle 4 (grid1.coords t) = false := by
  intro t h
  have key : ∀ t : Fin cfg1.N, t.val % 49 = 48 → cfg1.idle 4 (grid1.coords t) = false := by decide +kernel
  exact key t ((cond2_iff t).mp h)

theorem body_at (c : Dev nD) (t : Fin cfg1.N) :
    iprop((dat V c).Φ t.castSucc ∗ (dat V c).owesAt () t.castSucc
        ∗ (∃ d, owns (c : Thread nD τ) (win1_0.stage (cfg1.slots t 0)) fullShare ((dat V c).before 0 t d))
        ∗ (∃ d, owns (c : Thread nD τ) (win1_1.stage (cfg1.slots t 1)) fullShare ((dat V c).before 1 t d))
        ∗ (∃ d, owns (c : Thread nD τ) (win1_2.stage (cfg1.slots t 2)) fullShare ((dat V c).before 2 t d))
        ∗ (∃ d, owns (c : Thread nD τ) (win1_3.stage (cfg1.slots t 3)) fullShare ((dat V c).before 3 t d))
        ∗ (∃ d, owns (c : Thread nD τ) (win1_4.stage (cfg1.slots t 4)) fullShare ((dat V c).before 4 t d)))
      ⊢ wp frame (wpE (defs₀ (F := F)) Variants.none c none) Set.univ (bodyAt1 t) (fun _ =>
        iprop((dat V c).Φ t.succ ∗ (dat V c).owesAt () t.succ
          ∗ owns (c : Thread nD τ) (win1_0.stage (cfg1.slots t 0)) fullShare ((dat V c).after 0 t)
          ∗ owns (c : Thread nD τ) (win1_1.stage (cfg1.slots t 1)) fullShare ((dat V c).after 1 t)
          ∗ owns (c : Thread nD τ) (win1_2.stage (cfg1.slots t 2)) fullShare ((dat V c).after 2 t)
          ∗ owns (c : Thread nD τ) (win1_3.stage (cfg1.slots t 3)) fullShare ((dat V c).after 3 t)
          ∗ (dat V c).leavesExact 4 t)) := by
  unfold bodyAt1
  simp only [before_0, before_1, before_2, before_3]
  rw [show (dat V c).Φ t.succ = Phi V c (t.val + 1) from rfl, show (dat V c).Φ t.castSucc = Phi V c t.val from rfl,
    show (dat V c).owesAt () t.succ = (dat V c).owesAt () t.castSucc from rfl,
    after_0, after_1, after_2, after_3]
  iintro ⟨HΦ, Ho, ⟨%_d0, H0⟩, ⟨%_d1, H1⟩, ⟨%_d2, H2⟩, ⟨%_d3, H3⟩, ⟨%d, H4⟩⟩
  unfold Phi
  icases HΦ with ⟨%p, %hp, Hs0, Hs1, Hs2, Hs3, HR, Hg⟩
  iapply (run c (grid1.coords t) _ _ _ _ _ _ _ _ _ _ (Memref.whole cc1_scratch0) (Memref.isWhole_whole _) (Memref.whole cc1_scratch1) (Memref.isWhole_whole _)
    (Memref.whole cc1_scratch2) (Memref.isWhole_whole _) (Memref.whole cc1_scratch3) (Memref.isWhole_whole _) (iblk V c 0 t) (iblk V c 1 t) (iblk V c 2 t) (iblk V c 3 t) _ p (excl t) Set.univ _)
  isplitl [H0]; · iexact H0
  isplitl [H1]; · iexact H1
  isplitl [H2]; · iexact H2
  isplitl [H3]; · iexact H3
  isplitl [H4]; · iexact H4
  isplitl [Hs0]; · iexact Hs0
  isplitl [Hs1]; · iexact Hs1
  isplitl [Hs2]; · iexact Hs2
  isplitl [Hs3]; · iexact Hs3
  iintro ⟨H0, H1, H2, H3, H4, Hs0, Hs1, Hs2, Hs3⟩
  isplitl [Hs0 Hs1 Hs2 Hs3 HR Hg]
  · iexists (step (grid1.coords t) (iblk V c 0 t) (iblk V c 1 t) (iblk V c 2 t) (iblk V c 3 t) p)
    isplitr; · ipureintro; exact fun _ h => (st_step V c t p hp).symm
    isplitl [Hs0]; · iexact Hs0
    isplitl [Hs1]; · iexact Hs1
    isplitl [Hs2]; · iexact Hs2
    isplitl [Hs3]; · iexact Hs3
    isplitl [HR]; · iexact HR
    iexact Hg
  isplitl [Ho]; · iexact Ho
  isplitl [H0]; · iexact H0
  isplitl [H1]; · iexact H1
  isplitl [H2]; · iexact H2
  isplitl [H3]; · iexact H3
  by_cases hl : cond2 (grid1.coords t)
  · unfold Dat.leavesExact
    rw [live_out t hl, after_4, out_eq V c t (last_ne_zero t hl) p hp, if_pos hl]
    iexact H4
  · rw [Dat.leavesExact_idle (dat V c) 4 t (idle_out t hl).1 (idle_out t hl).2, if_neg hl]
    iexists _; iexact H4

/-- The kernel's table at the region's body is the body at the point. -/
theorem defs₀_row (t : Fin cfg1.N) : defs₀ .tc cfg1.body (cfg1.bodyArgs t (cfg1.slots t)) = bodyAt1 (F := F) t := by
  unfold defs₀; rw [Defs.onTc_tc]

/-- The body meets the pipeline's obligation at every point. -/
theorem body_obligation (c : Dev nD) : BodyObligation (dat V c) (defs₀ (F := F)) Variants.none () Set.univ := fun t => by
  rw [bigSep_W1, bigSep_W1, defs₀_row]
  exact triple_restated (body_at V c t) rfl .rfl fun _ => .rfl

end R1

end Cert.KernelIdeal.Hand

end
-- ==== Proof.Ideal.R2.lean ====
/-
Region 2 (the counts below and at the k-th distance, and the packed tie words): what one grid point leaves, and that the body does it.
-/
module

public import proofs.«01_k».proof.Proof.Ideal.Common

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Gen

variable {F : FTy → Type} [FloatOps F]

local notation "𝕄" => MT nD τ sig Unit (Elt F) ℕ U ℕ

namespace R2

/-- The branch condition of the body: the grid point is the first. -/
abbrev cond (i : grid2.Coords) : Prop :=
  (Scalar.cmpi .ne (Scalar.extui (Scalar.cmpi .eq (BitVec.ofNat 32 (i 0).val) 0#32)) 0#32) = 1#1

theorem cond_iff : ∀ t : Fin cfg2.N, cond (grid2.coords t) ↔ t.val = 0 :=
  (fun t => by
    have ht : t.val < 49 := Nat.lt_of_lt_of_eq t.isLt N_2
    have e0 : (grid2.coords t 0).val = t.val / 1 % 49 := Pipeline.Grid.coords_val t 0 (by decide) rfl
    simp only [cond, e0]
    word_cmp
   : ∀ t : Fin grid2.N, cond (grid2.coords t) ↔ t.val = 0)

/-- The two running counts: items nearer than the k-th distance, and the matches among them. -/
abbrev Cnt (F : FTy → Type) : Type := Vec F S1024x1 .i32 × Vec F S1024x1 .i32

/-- The counts after a point: those before it (none at the first point) and this tile's. -/
def step (i : grid2.Coords) (x0 : Vec F S1024x2048 .i8) (x1 : Vec F S1x1x2048 .i32) (x2 : Vec F S1024x1 .i32) (x3 : Vec F S1024x1 .i32) (p : Cnt F) : Cnt F :=
  (k2_pay14 x3 x0 (if cond i then k2_pay4 else p.1),
   k2_pay15 (k2_pay11 x3 x0 x1 x2) (if cond i then k2_pay5 else p.2))

/-- At the first point the counts before do not matter. -/
theorem step_first {i : grid2.Coords} (h : cond i) (x0 : Vec F S1024x2048 .i8) (x1 : Vec F S1x1x2048 .i32) (x2 : Vec F S1024x1 .i32) (x3 : Vec F S1024x1 .i32) (p p' : Cnt F) :
    step i x0 x1 x2 x3 p = step i x0 x1 x2 x3 p' := by simp only [step, if_pos h]

/-- The lanes of a packed word. -/
abbrev lanes : BitVec 32 := 16#32

/-- The four arrays a point writes a tile of: ties per chunk, matching ties per chunk, and the words of both. -/
def ties (x0 : Vec F S1024x2048 .i8) (x3 : Vec F S1024x1 .i32) : Vec F S1x1024x16 .i32 := k2_pay17 (k2_pay13 x3 x0)
def mties (x0 : Vec F S1024x2048 .i8) (x1 : Vec F S1x1x2048 .i32) (x2 : Vec F S1024x1 .i32) (x3 : Vec F S1024x1 .i32) : Vec F S1x1024x16 .i32 := k2_pay18 (k2_pay12 x3 x0 x1 x2) k2_pay16 (constant S1024x16 .f32 0x00000000#32)
def words (x0 : Vec F S1024x2048 .i8) (x3 : Vec F S1024x1 .i32) : Vec F S1024x128 .i32 :=
  k2_pay2 (k2_pay13 x3 x0) k2_pay19 lanes k2_pay20 k2_pay21 k2_pay22 k2_pay23
def mwords (x0 : Vec F S1024x2048 .i8) (x1 : Vec F S1x1x2048 .i32) (x2 : Vec F S1024x1 .i32) (x3 : Vec F S1024x1 .i32) : Vec F S1024x128 .i32 :=
  k2_pay3 (k2_pay12 x3 x0 x1 x2) k2_pay19 lanes k2_pay20 k2_pay21 k2_pay22 k2_pay23

set_option maxHeartbeats 1000000 in
/-- The body on whole staging memrefs: the inputs kept, the counts advanced, the four tiles written. -/
theorem run (c : Dev nD) (i : grid2.Coords)
    (arg1 : Memref sig .tc .vmem S1024x2048 .i8) (harg1 : arg1.IsWhole)
    (arg2 : Memref sig .tc .vmem S1x1x2048 .i32) (harg2 : arg2.IsWhole)
    (arg3 : Memref sig .tc .vmem S1024x1 .i32) (harg3 : arg3.IsWhole)
    (arg4 : Memref sig .tc .vmem S1024x1 .i32) (harg4 : arg4.IsWhole)
    (arg5 : Memref sig .tc .vmem S1024x1 .i32) (harg5 : arg5.IsWhole)
    (arg6 : Memref sig .tc .vmem S1024x1 .i32) (harg6 : arg6.IsWhole)
    (arg7 : Memref sig .tc .vmem S1x1024x16 .i32) (harg7 : arg7.IsWhole)
    (arg8 : Memref sig .tc .vmem S1x1024x16 .i32) (harg8 : arg8.IsWhole)
    (arg9 : Memref sig .tc .vmem S1024x128 .i32) (harg9 : arg9.IsWhole)
    (arg10 : Memref sig .tc .vmem S1024x128 .i32) (harg10 : arg10.IsWhole)
    (x0 : Vec F S1024x2048 .i8) (x1 : Vec F S1x1x2048 .i32) (x2 : Vec F S1024x1 .i32) (x3 : Vec F S1024x1 .i32) (p : Cnt F) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare p.1
        ∗ owns (c : Thread nD τ) arg6 fullShare p.2
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (step i x0 x1 x2 x3 p).1
            ∗ owns (c : Thread nD τ) arg6 fullShare (step i x0 x1 x2 x3 p).2
            ∗ owns (c : Thread nD τ) arg7 fullShare (ties x0 x3)
            ∗ owns (c : Thread nD τ) arg8 fullShare (mties x0 x1 x2 x3)
            ∗ owns (c : Thread nD τ) arg9 fullShare (words x0 x3)
            ∗ owns (c : Thread nD τ) arg10 fullShare (mwords x0 x1 x2 x3)) -∗ K ⟨⟩))
      ⊢ wp frame (wpE (defs₀ (F := F)) Variants.none c none) E (cc2__count_body i arg1 harg1 arg2 harg2 arg3 harg3 arg4 harg4 arg5 harg5 arg6 harg6 arg7 harg7 arg8 harg8 arg9 harg9 arg10 harg10) K := by
  obtain ⟨p1, p2⟩ := p
  by_cases hc : cond i
  case' pos => simp only [step, ties, mties, words, mwords, if_pos hc]
  case' neg => simp only [step, ties, mties, words, mwords, if_neg hc]
  all_goals
    simp only [cc2__count_body_eq_skeleton]; unfold cc2__count_body_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro; (try sl_unfold_run_names); simp only [View.readCov, read_stored2, read_stored3, readAt_whole2, readAt_whole3, hf0, hf1, hf2, hf3, hf4, hf5]
    isplitl [H5]
    · iexists _; isplitr
      swap; · iexact H5
      ipureintro; (try sl_unfold_run_names); simp only [View.readCov, read_stored2, read_stored3, readAt_whole2, readAt_whole3, hf0, hf1, hf2, hf3, hf4, hf5]
    isplitl [H6]
    · iexists _; isplitr
      swap; · iexact H6
      ipureintro; (try sl_unfold_run_names); simp only [View.readCov, read_stored2, read_stored3, readAt_whole2, readAt_whole3, hf0, hf1, hf2, hf3, hf4, hf5]
    isplitl [H7]
    · iexists _; isplitr
      swap; · iexact H7
      ipureintro; (try sl_unfold_run_names); simp only [View.readCov, read_stored2, read_stored3, readAt_whole2, readAt_whole3, hf0, hf1, hf2, hf3, hf4, hf5]
    isplitl [H8]
    · iexists _; isplitr
      swap; · iexact H8
      ipureintro; (try sl_unfold_run_names); simp only [View.readCov, read_stored2, read_stored3, readAt_whole2, readAt_whole3, hf0, hf1, hf2, hf3, hf4, hf5]
    iexists _; isplitr
    swap; · iexact H9
    ipureintro; (try sl_unfold_run_names); simp only [View.readCov, read_stored2, read_stored3, readAt_whole2, readAt_whole3, hf0, hf1, hf2, hf3, hf4, hf5]

/-! ## The region's data: what its arrays and staging buffers hold, point by point -/

variable (V : Vals F)

/-- Window `w`'s block at point `t` of the array the region finds. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The counts after point `n`. -/
def st (c : Dev nD) : (n : ℕ) → n < cfg2.N → Cnt F
  | 0, h => step (grid2.coords ⟨0, h⟩) (iblk V c 0 ⟨0, h⟩) (iblk V c 1 ⟨0, h⟩) (iblk V c 2 ⟨0, h⟩) (iblk V c 3 ⟨0, h⟩) (k2_pay4, k2_pay5)
  | n + 1, h => step (grid2.coords ⟨n + 1, h⟩) (iblk V c 0 ⟨n + 1, h⟩) (iblk V c 1 ⟨n + 1, h⟩) (iblk V c 2 ⟨n + 1, h⟩) (iblk V c 3 ⟨n + 1, h⟩) (st c n (Nat.lt_of_succ_lt h))

theorem st_first (c : Dev nD) (t : Fin cfg2.N) (h : t.val = 0) (p : Cnt F) :
    st V c t.val t.isLt = step (grid2.coords t) (iblk V c 0 t) (iblk V c 1 t) (iblk V c 2 t) (iblk V c 3 t) p := by
  obtain ⟨n, hn⟩ := t
  obtain rfl : n = 0 := h
  exact step_first ((cond_iff _).mpr rfl) _ _ _ _ _ _

theorem st_next (c : Dev nD) (t : Fin cfg2.N) (h : t.val ≠ 0) :
    st V c t.val t.isLt = step (grid2.coords t) (iblk V c 0 t) (iblk V c 1 t) (iblk V c 2 t) (iblk V c 3 t) (st V c (t.val - 1) (Nat.lt_of_le_of_lt (Nat.sub_le _ _) t.isLt)) := by
  obtain ⟨n, hn⟩ := t
  obtain ⟨n, rfl⟩ := Nat.exists_eq_succ_of_ne_zero h
  rfl

/-- The proof data: inputs left at their blocks, outputs at what the point writes, nothing owed. -/
def dat (c : Dev nD) : Dat τ (Elt F) Unit ℕ U ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (st V c t.val t.isLt).1
    | ⟨5, _⟩ => (st V c t.val t.isLt).2
    | ⟨6, _⟩ => ties (iblk V c 0 t) (iblk V c 3 t)
    | ⟨7, _⟩ => mties (iblk V c 0 t) (iblk V c 1 t) (iblk V c 2 t) (iblk V c 3 t)
    | ⟨8, _⟩ => words (iblk V c 0 t) (iblk V c 3 t)
    | ⟨9, _⟩ => mwords (iblk V c 0 t) (iblk V c 1 t) (iblk V c 2 t) (iblk V c 3 t)
  Φ _ := Pipeline.ΦA spec2 c
  q _ := fullShare
  owed _ := 0

theorem A_eq (c : Dev nD) (w : Fin cfg2.W) : (dat V c).A w = V c (Pipeline.arrRef spec2 w) := by dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = (st V c t.val t.isLt).1 := by dsimp only [dat]
theorem after_5 (c : Dev nD) (t : Fin cfg2.N) : (dat V c).after 5 t = (st V c t.val t.isLt).2 := by dsimp only [dat]
theorem after_6 (c : Dev nD) (t : Fin cfg2.N) : (dat V c).after 6 t = ties (iblk V c 0 t) (iblk V c 3 t) := by dsimp only [dat]
theorem after_7 (c : Dev nD) (t : Fin cfg2.N) : (dat V c).after 7 t = mties (iblk V c 0 t) (iblk V c 1 t) (iblk V c 2 t) (iblk V c 3 t) := by dsimp only [dat]
theorem after_8 (c : Dev nD) (t : Fin cfg2.N) : (dat V c).after 8 t = words (iblk V c 0 t) (iblk V c 3 t) := by dsimp only [dat]
theorem after_9 (c : Dev nD) (t : Fin cfg2.N) : (dat V c).after 9 t = mwords (iblk V c 0 t) (iblk V c 1 t) (iblk V c 2 t) (iblk V c 3 t) := by dsimp only [dat]

/-- An input's staging buffer holds its block before every point. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)

/-- A count's staging buffer holds after the first point what the point before left. -/
theorem before_out (c : Dev nD) (t : Fin cfg2.N) (h : t.val ≠ 0) :
    (∀ d, (dat V c).before 4 t d = (st V c (t.val - 1) (Nat.lt_of_le_of_lt (Nat.sub_le _ _) t.isLt)).1)
    ∧ (∀ d, (dat V c).before 5 t d = (st V c (t.val - 1) (Nat.lt_of_le_of_lt (Nat.sub_le _ _) t.isLt)).2) := by
  have hN : t.val < 49 := lt_of_lt_of_eq t.isLt (show cfg2.N = 49 from N_2)
  refine ⟨fun d => ?_, fun d => ?_⟩
  · rw [Dat.before_out_kept _ 4 rfl t (by omega) (Bool.eq_false_iff.mpr fun h => by have := (flush2_4 _).mp h; dsimp only at this; omega)
      (fun _ => rfl) (fun _ _ => rfl), after_4]
  · rw [Dat.before_out_kept _ 5 rfl t (by omega) (Bool.eq_false_iff.mpr fun h => by have := (flush2_5 _).mp h; dsimp only at this; omega)
      (fun _ => rfl) (fun _ _ => rfl), after_5]

/-! ## The body's obligation -/

/-- From the counts the buffers hold (`p`), the body leaves the point's outputs. -/
theorem body_run (c : Dev nD) (t : Fin cfg2.N) (p : Cnt F) (hp : st V c t.val t.isLt = step (grid2.coords t) (iblk V c 0 t) (iblk V c 1 t) (iblk V c 2 t) (iblk V c 3 t) p) :
    iprop((dat V c).Φ t.castSucc ∗ (dat V c).owesAt () t.castSucc
        ∗ owns (c : Thread nD τ) (win2_0.stage (cfg2.slots t 0)) fullShare (iblk V c 0 t)
        ∗ owns (c : Thread nD τ) (win2_1.stage (cfg2.slots t 1)) fullShare (iblk V c 1 t)
        ∗ owns (c : Thread nD τ) (win2_2.stage (cfg2.slots t 2)) fullShare (iblk V c 2 t)
        ∗ owns (c : Thread nD τ) (win2_3.stage (cfg2.slots t 3)) fullShare (iblk V c 3 t)
        ∗ owns (c : Thread nD τ) (win2_4.stage (cfg2.slots t 4)) fullShare p.1
        ∗ owns (c : Thread nD τ) (win2_5.stage (cfg2.slots t 5)) fullShare p.2
        ∗ (∃ d, owns (c : Thread nD τ) (win2_6.stage (cfg2.slots t 6)) fullShare d)
        ∗ (∃ d, owns (c : Thread nD τ) (win2_7.stage (cfg2.slots t 7)) fullShare d)
        ∗ (∃ d, owns (c : Thread nD τ) (win2_8.stage (cfg2.slots t 8)) fullShare d)
        ∗ (∃ d, owns (c : Thread nD τ) (win2_9.stage (cfg2.slots t 9)) fullShare d))
      ⊢ wp frame (wpE (defs₀ (F := F)) Variants.none c none) Set.univ (bodyAt2 t) (fun _ =>
        iprop((dat V c).Φ t.succ ∗ (dat V c).owesAt () t.succ
          ∗ owns (c : Thread nD τ) (win2_0.stage (cfg2.slots t 0)) fullShare ((dat V c).after 0 t)
          ∗ owns (c : Thread nD τ) (win2_1.stage (cfg2.slots t 1)) fullShare ((dat V c).after 1 t)
          ∗ owns (c : Thread nD τ) (win2_2.stage (cfg2.slots t 2)) fullShare ((dat V c).after 2 t)
          ∗ owns (c : Thread nD τ) (win2_3.stage (cfg2.slots t 3)) fullShare ((dat V c).after 3 t)
          ∗ owns (c : Thread nD τ) (win2_4.stage (cfg2.slots t 4)) fullShare ((dat V c).after 4 t)
          ∗ owns (c : Thread nD τ) (win2_5.stage (cfg2.slots t 5)) fullShare ((dat V c).after 5 t)
          ∗ owns (c : Thread nD τ) (win2_6.stage (cfg2.slots t 6)) fullShare ((dat V c).after 6 t)
          ∗ owns (c : Thread nD τ) (win2_7.stage (cfg2.slots t 7)) fullShare ((dat V c).after 7 t)
          ∗ owns (c : Thread nD τ) (win2_8.stage (cfg2.slots t 8)) fullShare ((dat V c).after 8 t)
          ∗ owns (c : Thread nD τ) (win2_9.stage (cfg2.slots t 9)) fullShare ((dat V c).after 9 t))) := by
  unfold bodyAt2
  rw [show (dat V c).Φ t.succ = (dat V c).Φ t.castSucc from rfl,
    show (dat V c).owesAt () t.succ = (dat V c).owesAt () t.castSucc from rfl,
    after_0, after_1, after_2, after_3, after_4, after_5, after_6, after_7, after_8, after_9, hp]
  iintro ⟨HΦ, Ho, H0, H1, H2, H3, H4, H5, H6, H7, H8, H9⟩
  iapply (run c (grid2.coords t) _ _ _ _ _ _ _ _ _ _ _ _ _ _ _ _ _ _ _ _ (iblk V c 0 t) (iblk V c 1 t) (iblk V c 2 t) (iblk V c 3 t) p Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro H
  isplitl [HΦ]; · iexact HΦ
  isplitl [Ho]; · iexact Ho
  iexact H

theorem body_at (c : Dev nD) (t : Fin cfg2.N) :
    iprop((dat V c).Φ t.castSucc ∗ (dat V c).owesAt () t.castSucc
        ∗ (∃ d, owns (c : Thread nD τ) (win2_0.stage (cfg2.slots t 0)) fullShare ((dat V c).before 0 t d))
        ∗ (∃ d, owns (c : Thread nD τ) (win2_1.stage (cfg2.slots t 1)) fullShare ((dat V c).before 1 t d))
        ∗ (∃ d, owns (c : Thread nD τ) (win2_2.stage (cfg2.slots t 2)) fullShare ((dat V c).before 2 t d))
        ∗ (∃ d, owns (c : Thread nD τ) (win2_3.stage (cfg2.slots t 3)) fullShare ((dat V c).before 3 t d))
        ∗ (∃ d, owns (c : Thread nD τ) (win2_4.stage (cfg2.slots t 4)) fullShare ((dat V c).before 4 t d))
        ∗ (∃ d, owns (c : Thread nD τ) (win2_5.stage (cfg2.slots t 5)) fullShare ((dat V c).before 5 t d))
        ∗ (∃ d, owns (c : Thread nD τ) (win2_6.stage (cfg2.slots t 6)) fullShare ((dat V c).before 6 t d))
        ∗ (∃ d, owns (c : Thread nD τ) (win2_7.stage (cfg2.slots t 7)) fullShare ((dat V c).before 7 t d))
        ∗ (∃ d, owns (c : Thread nD τ) (win2_8.stage (cfg2.slots t 8)) fullShare ((dat V c).before 8 t d))
        ∗ (∃ d, owns (c : Thread nD τ) (win2_9.stage (cfg2.slots t 9)) fullShare ((dat V c).before 9 t d)))
      ⊢ wp frame (wpE (defs₀ (F := F)) Variants.none c none) Set.univ (bodyAt2 t) (fun _ =>
        iprop((dat V c).Φ t.succ ∗ (dat V c).owesAt () t.succ
          ∗ owns (c : Thread nD τ) (win2_0.stage (cfg2.slots t 0)) fullShare ((dat V c).after 0 t)
          ∗ owns (c : Thread nD τ) (win2_1.stage (cfg2.slots t 1)) fullShare ((dat V c).after 1 t)
          ∗ owns (c : Thread nD τ) (win2_2.stage (cfg2.slots t 2)) fullShare ((dat V c).after 2 t)
          ∗ owns (c : Thread nD τ) (win2_3.stage (cfg2.slots t 3)) fullShare ((dat V c).after 3 t)
          ∗ owns (c : Thread nD τ) (win2_4.stage (cfg2.slots t 4)) fullShare ((dat V c).after 4 t)
          ∗ owns (c : Thread nD τ) (win2_5.stage (cfg2.slots t 5)) fullShare ((dat V c).after 5 t)
          ∗ owns (c : Thread nD τ) (win2_6.stage (cfg2.slots t 6)) fullShare ((dat V c).after 6 t)
          ∗ owns (c : Thread nD τ) (win2_7.stage (cfg2.slots t 7)) fullShare ((dat V c).after 7 t)
          ∗ owns (c : Thread nD τ) (win2_8.stage (cfg2.slots t 8)) fullShare ((dat V c).after 8 t)
          ∗ owns (c : Thread nD τ) (win2_9.stage (cfg2.slots t 9)) fullShare ((dat V c).after 9 t))) := by
  simp only [before_0, before_1, before_2, before_3]
  iintro ⟨HΦ, Ho, ⟨%_d0, H0⟩, ⟨%_d1, H1⟩, ⟨%_d2, H2⟩, ⟨%_d3, H3⟩, ⟨%d4, H4⟩, ⟨%d5, H5⟩, ⟨%d6, H6⟩, ⟨%d7, H7⟩, ⟨%d8, H8⟩, ⟨%d9, H9⟩⟩
  by_cases h : t.val = 0
  case' pos => iapply (body_run V c t (_, _) (st_first V c t h _))
  case' neg =>
    obtain ⟨h4, h5⟩ := before_out V c t h
    rw [h4 d4, h5 d5]
    iapply (body_run V c t _ (st_next V c t h))
  all_goals
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9

/-- The kernel's table at the region's body is the body at the point. -/
theorem defs₀_row (t : Fin cfg2.N) : defs₀ .tc cfg2.body (cfg2.bodyArgs t (cfg2.slots t)) = bodyAt2 (F := F) t := by
  unfold defs₀; rw [Defs.onTc_tc]

/-- The body meets the pipeline's obligation at every point. -/
theorem body_obligation (c : Dev nD) : BodyObligation (dat V c) (defs₀ (F := F)) Variants.none () Set.univ := fun t => by
  rw [bigSep_W2, bigSep_W2, defs₀_row]
  exact triple_restated (body_at V c t) rfl .rfl fun _ => .rfl

end R2

end Cert.KernelIdeal.Hand

end
-- ==== Proof.Ideal.R3.lean ====
/-
Region 3 (the chunk that holds the last tie taken): what the one call leaves, and that the body does it.
-/
module

public import proofs.«01_k».proof.Proof.Ideal.Common

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Gen

variable {F : FTy → Type} [FloatOps F]

local notation "𝕄" => MT nD τ sig Unit (Elt F) ℕ U ℕ

namespace R3

/-- The three results: the boundary chunk, the ties still needed in it, and the matches before it. -/
def cstar (x0 : Vec F S1024x784 .i32) (x2 : Vec F S1024x1 .i32) : Vec F S1024x1 .i32 := k3_pay4 x0 x2
def need (x0 : Vec F S1024x784 .i32) (x2 : Vec F S1024x1 .i32) : Vec F S1024x1 .i32 := k3_pay6 x0 x2 x0
def mbase (x0 x1 : Vec F S1024x784 .i32) (x2 x3 : Vec F S1024x1 .i32) : Vec F S1024x1 .i32 := k3_pay1 (k3_pay5 x0 x2 x1) x3

set_option maxHeartbeats 1000000 in
/-- The body on whole staging memrefs: the inputs kept, the three results written. -/
theorem run (c : Dev nD)
    (arg0 : Memref sig .tc .vmem S1024x784 .i32) (harg0 : arg0.IsWhole)
    (arg1 : Memref sig .tc .vmem S1024x784 .i32) (harg1 : arg1.IsWhole)
    (arg2 : Memref sig .tc .vmem S1024x1 .i32) (harg2 : arg2.IsWhole)
    (arg3 : Memref sig .tc .vmem S1024x1 .i32) (harg3 : arg3.IsWhole)
    (arg4 : Memref sig .tc .vmem S1024x1 .i32) (harg4 : arg4.IsWhole)
    (arg5 : Memref sig .tc .vmem S1024x1 .i32) (harg5 : arg5.IsWhole)
    (arg6 : Memref sig .tc .vmem S1024x1 .i32) (harg6 : arg6.IsWhole)
    (x0 : Vec F S1024x784 .i32) (x1 : Vec F S1024x784 .i32) (x2 : Vec F S1024x1 .i32) (x3 : Vec F S1024x1 .i32) (E : Set ℕ) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ (∃ d, owns (c : Thread nD τ) arg4 fullShare d)
        ∗ (∃ d, owns (c : Thread nD τ) arg5 fullShare d)
        ∗ (∃ d, owns (c : Thread nD τ) arg6 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare (cstar x0 x2)
            ∗ owns (c : Thread nD τ) arg5 fullShare (need x0 x2)
            ∗ owns (c : Thread nD τ) arg6 fullShare (mbase x0 x1 x2 x3)) -∗ K ⟨⟩))
      ⊢ wp frame (wpE (defs₀ (F := F)) Variants.none c none) E (cc3__select_body arg0 harg0 arg1 harg1 arg2 harg2 arg3 harg3 arg4 harg4 arg5 harg5 arg6 harg6) K := by
  simp only [cstar, need, mbase]
  all_goals
    simp only [cc3__select_body_eq_skeleton]; unfold cc3__select_body_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg0.eq_unread hf0; obtain rfl := harg1.eq_unread hf1
    obtain rfl := harg2.eq_unread hf2; obtain rfl := harg3.eq_unread hf3
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro; (try sl_unfold_run_names); simp only [View.readCov, read_stored2, readAt_whole2, hf0, hf1, hf2, hf3]
    isplitl [H5]
    · iexists _; isplitr
      swap; · iexact H5
      ipureintro; (try sl_unfold_run_names); simp only [View.readCov, read_stored2, readAt_whole2, hf0, hf1, hf2, hf3]
    iexists _; isplitr
    swap; · iexact H6
    ipureintro; (try sl_unfold_run_names); simp only [View.readCov, read_stored2, readAt_whole2, hf0, hf1, hf2, hf3]

/-! ## The region's data: what its arrays and staging buffers hold, point by point -/

variable (V : Vals F)

/-- Window `w`'s block at point `t` of the array the region finds. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data: inputs left at their blocks, outputs at what the call writes, nothing owed. -/
def dat (c : Dev nD) : Dat τ (Elt F) Unit ℕ U ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => cstar (iblk V c 0 t) (iblk V c 2 t)
    | ⟨5, _⟩ => need (iblk V c 0 t) (iblk V c 2 t)
    | ⟨6, _⟩ => mbase (iblk V c 0 t) (iblk V c 1 t) (iblk V c 2 t) (iblk V c 3 t)
  Φ _ := Pipeline.ΦA spec3 c
  q _ := fullShare
  owed _ := 0

theorem A_eq (c : Dev nD) (w : Fin cfg3.W) : (dat V c).A w = V c (Pipeline.arrRef spec3 w) := by dsimp only [dat]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = cstar (iblk V c 0 t) (iblk V c 2 t) := by dsimp only [dat]
theorem after_5 (c : Dev nD) (t : Fin cfg3.N) : (dat V c).after 5 t = need (iblk V c 0 t) (iblk V c 2 t) := by dsimp only [dat]
theorem after_6 (c : Dev nD) (t : Fin cfg3.N) : (dat V c).after 6 t = mbase (iblk V c 0 t) (iblk V c 1 t) (iblk V c 2 t) (iblk V c 3 t) := by dsimp only [dat]

/-- An input's staging buffer holds its block before every point. -/
theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg3.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)

/-! ## The body's obligation -/

theorem body_at (c : Dev nD) (t : Fin cfg3.N) :
    iprop((dat V c).Φ t.castSucc ∗ (dat V c).owesAt () t.castSucc
        ∗ (∃ d, owns (c : Thread nD τ) (win3_0.stage (cfg3.slots t 0)) fullShare ((dat V c).before 0 t d))
        ∗ (∃ d, owns (c : Thread nD τ) (win3_1.stage (cfg3.slots t 1)) fullShare ((dat V c).before 1 t d))
        ∗ (∃ d, owns (c : Thread nD τ) (win3_2.stage (cfg3.slots t 2)) fullShare ((dat V c).before 2 t d))
        ∗ (∃ d, owns (c : Thread nD τ) (win3_3.stage (cfg3.slots t 3)) fullShare ((dat V c).before 3 t d))
        ∗ (∃ d, owns (c : Thread nD τ) (win3_4.stage (cfg3.slots t 4)) fullShare ((dat V c).before 4 t d))
        ∗ (∃ d, owns (c : Thread nD τ) (win3_5.stage (cfg3.slots t 5)) fullShare ((dat V c).before 5 t d))
        ∗ (∃ d, owns (c : Thread nD τ) (win3_6.stage (cfg3.slots t 6)) fullShare ((dat V c).before 6 t d)))
      ⊢ wp frame (wpE (defs₀ (F := F)) Variants.none c none) Set.univ (bodyAt3 t) (fun _ =>
        iprop((dat V c).Φ t.succ ∗ (dat V c).owesAt () t.succ
          ∗ owns (c : Thread nD τ) (win3_0.stage (cfg3.slots t 0)) fullShare ((dat V c).after 0 t)
          ∗ owns (c : Thread nD τ) (win3_1.stage (cfg3.slots t 1)) fullShare ((dat V c).after 1 t)
          ∗ owns (c : Thread nD τ) (win3_2.stage (cfg3.slots t 2)) fullShare ((dat V c).after 2 t)
          ∗ owns (c : Thread nD τ) (win3_3.stage (cfg3.slots t 3)) fullShare ((dat V c).after 3 t)
          ∗ owns (c : Thread nD τ) (win3_4.stage (cfg3.slots t 4)) fullShare ((dat V c).after 4 t)
          ∗ owns (c : Thread nD τ) (win3_5.stage (cfg3.slots t 5)) fullShare ((dat V c).after 5 t)
          ∗ owns (c : Thread nD τ) (win3_6.stage (cfg3.slots t 6)) fullShare ((dat V c).after 6 t))) := by
  unfold bodyAt3
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%_d0, H0⟩, ⟨%_d1, H1⟩, ⟨%_d2, H2⟩, ⟨%_d3, H3⟩, ⟨%d4, H4⟩, ⟨%d5, H5⟩, ⟨%d6, H6⟩⟩
  iapply (run c _ _ _ _ _ _ _ _ _ _ _ _ _ _ (iblk V c 0 t) (iblk V c 1 t) (iblk V c 2 t) (iblk V c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro H
  isplitl [HΦ]; · iexact HΦ
  isplitl [Ho]; · iexact Ho
  iexact H

/-- The kernel's table at the region's body is the body at the point. -/
theorem defs₀_row (t : Fin cfg3.N) : defs₀ .tc cfg3.body (cfg3.bodyArgs t (cfg3.slots t)) = bodyAt3 (F := F) t := by
  unfold defs₀; rw [Defs.onTc_tc]

/-- The body meets the pipeline's obligation at every point. -/
theorem body_obligation (c : Dev nD) : BodyObligation (dat V c) (defs₀ (F := F)) Variants.none () Set.univ := fun t => by
  rw [bigSep_W3, bigSep_W3, defs₀_row]
  exact triple_restated (body_at V c t) rfl .rfl fun _ => .rfl

end R3

end Cert.KernelIdeal.Hand

end
-- ==== Proof.Ideal.R4.lean ====
/-
Region 4 (the matches among the ties taken, and the result): what one grid point leaves, and that the body does it.
-/
module

public import proofs.«01_k».proof.Proof.Ideal.Common

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Gen

variable {F : FTy → Type} [FloatOps F]

local notation "𝕄" => MT nD τ sig Unit (Elt F) ℕ U ℕ

namespace R4

/-- The body's branch conditions: the first point; the last point. -/
abbrev cond0 (i : grid4.Coords) : Prop := (Scalar.cmpi .ne (Scalar.extui (Scalar.cmpi .eq (BitVec.ofNat 32 (i 0).val) 0#32)) 0#32) = 1#1
abbrev cond2 (i : grid4.Coords) : Prop := k4_cond2 i = 1#1

theorem cond0_iff : ∀ t : Fin cfg4.N, cond0 (grid4.coords t) ↔ t.val = 0 :=
  (fun t => by
    have ht : t.val < 49 := Nat.lt_of_lt_of_eq t.isLt N_4
    have e0 : (grid4.coords t 0).val = t.val / 1 % 49 := Pipeline.Grid.coords_val t 0 (by decide) rfl
    simp only [cond0, e0]
    word_cmp
   : ∀ t : Fin grid4.N, cond0 (grid4.coords t) ↔ t.val = 0)

theorem cond2_iff : ∀ t : Fin cfg4.N, cond2 (grid4.coords t) ↔ t.val = 48 :=
  (fun t => by
    have ht : t.val < 49 := Nat.lt_of_lt_of_eq t.isLt N_4
    have e0 : (grid4.coords t 0).val = t.val / 1 % 49 := Pipeline.Grid.coords_val t 0 (by decide) rfl
    simp only [cond2, k4_cond2, e0]
    word_cmp
   : ∀ t : Fin grid4.N, cond2 (grid4.coords t) ↔ t.val = 48)

/-- No point is both the first and the last. -/
theorem excl (t : Fin cfg4.N) : cond0 (grid4.coords t) → ¬cond2 (grid4.coords t) := by
  rw [cond0_iff, cond2_iff]; omega

theorem last_ne_zero (t : Fin cfg4.N) (h : cond2 (grid4.coords t)) : t.val ≠ 0 := by
  have := (cond2_iff t).mp h; omega

/-- The four carried scratch arrays. -/
abbrev Scr (F : FTy → Type) : Type := Vec F S1024x1 .i32 × Vec F S1024x1 .i32 × Vec F S1024x1 .i32 × Vec F S1024x1 .i32

/-- What a point computes of the tile: the boundary mask, the tie counts of the words and the running tie count. -/
def mine (i : grid4.Coords) (x2 : Vec F S1024x1 .i32) : IVec S1024x128 1 := k4_pay93 i x2
def pe (i : grid4.Coords) (x0 : Vec F S1024x128 .i32) (x2 : Vec F S1024x1 .i32) : IVec S1024x128 32 := k4_pay95 (mine i x2) (k4_pay94 x0)
def incl (i : grid4.Coords) (x0 : Vec F S1024x128 .i32) (x2 : Vec F S1024x1 .i32) : IVec S1024x128 32 := k4_pay96 (F := F) (mine i x2) (k4_pay94 x0)

/-- The scratch after a point: the word in which the last tie taken lies, its matches, how many of its ties are taken,
    and the matches of the words taken whole. -/
def step (i : grid4.Coords) (x0 : Vec F S1024x128 .i32) (x1 : Vec F S1024x128 .i32) (x2 : Vec F S1024x1 .i32) (x3 : Vec F S1024x1 .i32) (x4 : Vec F S1024x1 .i32) (p : Scr F) : Scr F :=
  (k4_pay102 (k4_pay91 x0) (mine i x2) (pe i x0 x2) (incl i x0 x2) (k4_pay97 x3) (if cond0 i then k4_pay87 else p.1),
   k4_pay103 (k4_pay92 x1) (mine i x2) (pe i x0 x2) (incl i x0 x2) (k4_pay97 x3) (if cond0 i then k4_pay88 else p.2.1),
   k4_pay1 (if cond0 i then k4_pay89 else p.2.2.1) (k4_pay104 (mine i x2) (pe i x0 x2) (incl i x0 x2) (k4_pay97 x3)),
   k4_pay99 (if cond0 i then k4_pay90 else p.2.2.2) (k4_pay98 (k4_pay92 x1) (mine i x2) (k4_pay94 x0) x3))

/-- At the first point the scratch before does not matter. -/
theorem step_first {i : grid4.Coords} (h : cond0 i) (x0 : Vec F S1024x128 .i32) (x1 : Vec F S1024x128 .i32) (x2 : Vec F S1024x1 .i32) (x3 : Vec F S1024x1 .i32) (x4 : Vec F S1024x1 .i32) (p p' : Scr F) :
    step i x0 x1 x2 x3 x4 p = step i x0 x1 x2 x3 x4 p' := by simp only [step, if_pos h]

/-- The matches among the first ties of the boundary word, lowest bit first, sixteen times; then the sum over the queries. -/
def tail (v127 v128 v129 v477 v479 : Vec F S1024x1 .i32) : Vec F S1x1 .f32 :=
  have v146 := k4_pay6 v127 v128 v129; have v150 := k4_pay7 v127 v129; have v153 := k4_pay8 v127
  have v160 := k4_pay10 v127 v129; have v164 := k4_pay11 v127 v128 v129
  have v190 := k4_pay17 v128 v129 v146 v150 v153 v160 v164 0#32 k4_pay12; have v194 := k4_pay18 v129 v150 v153 v160; have v197 := k4_pay19 v153
  have v204 := k4_pay21 v129 v150 v153 v160; have v208 := k4_pay22 v128 v129 v150 v153 v160
  have v234 := k4_pay28 v128 v129 v190 v194 v197 v204 v208 0#32 k4_pay23; have v238 := k4_pay29 v129 v194 v197 v204; have v241 := k4_pay30 v197
  have v248 := k4_pay32 v129 v194 v197 v204; have v252 := k4_pay33 v128 v129 v194 v197 v204
  have v278 := k4_pay39 v128 v129 v234 v238 v241 v248 v252 0#32 k4_pay34; have v282 := k4_pay40 v129 v238 v241 v248; have v285 := k4_pay41 v241
  have v292 := k4_pay43 v129 v238 v241 v248; have v296 := k4_pay44 v128 v129 v238 v241 v248
  have v322 := k4_pay50 v128 v129 v278 v282 v285 v292 v296 0#32 k4_pay45; have v326 := k4_pay51 v129 v282 v285 v292; have v329 := k4_pay52 v285
  have v336 := k4_pay54 v129 v282 v285 v292; have v340 := k4_pay55 v128 v129 v282 v285 v292
  have v366 := k4_pay61 v128 v129 v322 v326 v329 v336 v340 0#32 k4_pay56; have v370 := k4_pay62 v129 v326 v329 v336; have v373 := k4_pay63 v329
  have v380 := k4_pay65 v129 v326 v329 v336; have v384 := k4_pay66 v128 v129 v326 v329 v336
  have v410 := k4_pay72 v128 v129 v366 v370 v373 v380 v384 0#32 k4_pay67; have v414 := k4_pay73 v129 v370 v373 v380; have v417 := k4_pay74 v373
  have v424 := k4_pay76 v129 v370 v373 v380; have v428 := k4_pay77 v128 v129 v370 v373 v380
  k4_pay2 (k4_pay83 v128 v129 v410 v414 v417 v424 v428 0#32 k4_pay78) (k4_pay84 v128 v129 v414 v417 v424) 0#32 k4_pay85 v477 v479

/-- The result, from the scratch after the last point. -/
def res (i : grid4.Coords) (x0 : Vec F S1024x128 .i32) (x1 : Vec F S1024x128 .i32) (x2 : Vec F S1024x1 .i32) (x3 : Vec F S1024x1 .i32) (x4 : Vec F S1024x1 .i32) (p : Scr F) : Vec F S1x1 .f32 :=
  tail (step i x0 x1 x2 x3 x4 p).1 (step i x0 x1 x2 x3 x4 p).2.1 (step i x0 x1 x2 x3 x4 p).2.2.1 x4 (step i x0 x1 x2 x3 x4 p).2.2.2

set_option maxHeartbeats 4000000 in
/-- The body on whole memrefs: the inputs kept, the scratch advanced, the result written where the last condition holds
    and its buffer untouched elsewhere. -/
theorem run (c : Dev nD) (i : grid4.Coords)
    (arg1 : Memref sig .tc .vmem S1024x128 .i32) (harg1 : arg1.IsWhole)
    (arg2 : Memref sig .tc .vmem S1024x128 .i32) (harg2 : arg2.IsWhole)
    (arg3 : Memref sig .tc .vmem S1024x1 .i32) (harg3 : arg3.IsWhole)
    (arg4 : Memref sig .tc .vmem S1024x1 .i32) (harg4 : arg4.IsWhole)
    (arg5 : Memref sig .tc .vmem S1024x1 .i32) (harg5 : arg5.IsWhole)
    (arg6 : Memref sig .tc .vmem S1x1 .f32) (harg6 : arg6.IsWhole)
    (arg7 : Memref sig .tc .vmem S1024x1 .i32) (harg7 : arg7.IsWhole)
    (arg8 : Memref sig .tc .vmem S1024x1 .i32) (harg8 : arg8.IsWhole)
    (arg9 : Memref sig .tc .vmem S1024x1 .i32) (harg9 : arg9.IsWhole)
    (arg10 : Memref sig .tc .vmem S1024x1 .i32) (harg10 : arg10.IsWhole)
    (x0 : Vec F S1024x128 .i32) (x1 : Vec F S1024x128 .i32) (x2 : Vec F S1024x1 .i32) (x3 : Vec F S1024x1 .i32) (x4 : Vec F S1024x1 .i32) (d : Vec F S1x1 .f32) (p : Scr F) (hex : cond0 i → ¬cond2 i) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare d
        ∗ owns (c : Thread nD τ) arg7 fullShare p.1
        ∗ owns (c : Thread nD τ) arg8 fullShare p.2.1
        ∗ owns (c : Thread nD τ) arg9 fullShare p.2.2.1
        ∗ owns (c : Thread nD τ) arg10 fullShare p.2.2.2
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (if cond2 i then res i x0 x1 x2 x3 x4 p else d)
            ∗ owns (c : Thread nD τ) arg7 fullShare (step i x0 x1 x2 x3 x4 p).1
            ∗ owns (c : Thread nD τ) arg8 fullShare (step i x0 x1 x2 x3 x4 p).2.1
            ∗ owns (c : Thread nD τ) arg9 fullShare (step i x0 x1 x2 x3 x4 p).2.2.1
            ∗ owns (c : Thread nD τ) arg10 fullShare (step i x0 x1 x2 x3 x4 p).2.2.2) -∗ K ⟨⟩))
      ⊢ wp frame (wpE (defs₀ (F := F)) Variants.none c none) E (cc4__tie_body i arg1 harg1 arg2 harg2 arg3 harg3 arg4 harg4 arg5 harg5 arg6 harg6 arg7 harg7 arg8 harg8 arg9 harg9 arg10 harg10) K := by
  obtain ⟨p0, p1, p2, p3⟩ := p
  by_cases hc0 : cond0 i
  case' pos =>
    have hc2 := hex hc0
    simp only [res, step, mine, pe, incl, if_pos hc0, if_neg hc2]
  case' neg =>
    by_cases hc2 : cond2 i
    case' pos => simp only [res, tail, step, mine, pe, incl, if_neg hc0, if_pos hc2]
    case' neg => simp only [res, step, mine, pe, incl, if_neg hc0, if_neg hc2]
  all_goals
    simp only [cc4__tie_body_eq_skeleton]; unfold cc4__tie_body_skel
    simp only [k4_part1_eq_skeleton, k4_part2_eq_skeleton, k4_part3_eq_skeleton, k4_part4_eq_skeleton, k4_part5_eq_skeleton, k4_part6_eq_skeleton, k4_part7_eq_skeleton, k4_part8_eq_skeleton, k4_part9_eq_skeleton, k4_part10_eq_skeleton, k4_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hs0, HS0⟩, ⟨%g1, %hs1, HS1⟩, ⟨%g2, %hs2, HS2⟩, ⟨%g3, %hs3, HS3⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hs0; obtain rfl := harg8.eq_unread hs1; obtain rfl := harg9.eq_unread hs2; obtain rfl := harg10.eq_unread hs3
    sl_exec (disch := first | sl_exact hc0 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr
      swap; · iexact H5
      ipureintro; (try sl_unfold_run_names); simp only [View.readCov, read_stored2, read_stored3, readAt_whole2, readAt_whole3, hf0, hf1, hf2, hf3, hf4, hf5, hs0, hs1, hs2, hs3]
    isplitl [HS0]
    · iexists _; isplitr
      swap; · iexact HS0
      ipureintro; (try sl_unfold_run_names); simp only [View.readCov, read_stored2, read_stored3, readAt_whole2, readAt_whole3, hf0, hf1, hf2, hf3, hf4, hf5, hs0, hs1, hs2, hs3]
    isplitl [HS1]
    · iexists _; isplitr
      swap; · iexact HS1
      ipureintro; (try sl_unfold_run_names); simp only [View.readCov, read_stored2, read_stored3, readAt_whole2, readAt_whole3, hf0, hf1, hf2, hf3, hf4, hf5, hs0, hs1, hs2, hs3]
    isplitl [HS2]
    · iexists _; isplitr
      swap; · iexact HS2
      ipureintro; (try sl_unfold_run_names); simp only [View.readCov, read_stored2, read_stored3, readAt_whole2, readAt_whole3, hf0, hf1, hf2, hf3, hf4, hf5, hs0, hs1, hs2, hs3]
    iexists _; isplitr
    swap; · iexact HS3
    ipureintro; (try sl_unfold_run_names); simp only [View.readCov, read_stored2, read_stored3, readAt_whole2, readAt_whole3, hf0, hf1, hf2, hf3, hf4, hf5, hs0, hs1, hs2, hs3]

/-! ## The region's data: what its arrays and staging buffers hold, point by point -/

variable (V : Vals F)

/-- Window `w`'s block at point `t` of the array the region finds. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch after point `n`. -/
def st (c : Dev nD) : (n : ℕ) → n < cfg4.N → Scr F
  | 0, h => step (grid4.coords ⟨0, h⟩) (iblk V c 0 ⟨0, h⟩) (iblk V c 1 ⟨0, h⟩) (iblk V c 2 ⟨0, h⟩) (iblk V c 3 ⟨0, h⟩) (iblk V c 4 ⟨0, h⟩) (k4_pay87, k4_pay88, k4_pay89, k4_pay90)
  | n + 1, h => step (grid4.coords ⟨n + 1, h⟩) (iblk V c 0 ⟨n + 1, h⟩) (iblk V c 1 ⟨n + 1, h⟩) (iblk V c 2 ⟨n + 1, h⟩) (iblk V c 3 ⟨n + 1, h⟩) (iblk V c 4 ⟨n + 1, h⟩) (st c n (Nat.lt_of_succ_lt h))

/-- The scratch a point finds: what the point before left; anything at the first point. -/
def found (c : Dev nD) (n : ℕ) (p : Scr F) : Prop := ∀ (h0 : n ≠ 0) (h : n - 1 < cfg4.N), p = st V c (n - 1) h

theorem st_step (c : Dev nD) (t : Fin cfg4.N) (p : Scr F) (hp : found V c t.val p) :
    st V c t.val t.isLt = step (grid4.coords t) (iblk V c 0 t) (iblk V c 1 t) (iblk V c 2 t) (iblk V c 3 t) (iblk V c 4 t) p := by
  obtain ⟨n, hn⟩ := t
  cases n with
  | zero => exact step_first ((cond0_iff _).mpr rfl) _ _ _ _ _ _ _
  | succ n => rw [show p = st V c n (Nat.lt_of_succ_lt hn) from hp (Nat.succ_ne_zero n) _]; rfl

/-- The result at a point: from the scratch before it, a fixed one standing in at the first point. -/
def out (c : Dev nD) (t : Fin cfg4.N) : Vec F S1x1 .f32 :=
  res (grid4.coords t) (iblk V c 0 t) (iblk V c 1 t) (iblk V c 2 t) (iblk V c 3 t) (iblk V c 4 t) (if h : t.val = 0 then (k4_pay87, k4_pay88, k4_pay89, k4_pay90) else st V c (t.val - 1) (Nat.lt_of_le_of_lt (Nat.sub_le _ _) t.isLt))

theorem out_eq (c : Dev nD) (t : Fin cfg4.N) (h0 : t.val ≠ 0) (p : Scr F) (hp : found V c t.val p) :
    out V c t = res (grid4.coords t) (iblk V c 0 t) (iblk V c 1 t) (iblk V c 2 t) (iblk V c 3 t) (iblk V c 4 t) p := by
  rw [out, dif_neg h0, hp h0 (Nat.lt_of_le_of_lt (Nat.sub_le _ _) t.isLt)]

/-- What is carried from point to point: the scratch the point finds, the other scoped buffers, the generator register. -/
def Phi (c : Dev nD) (n : ℕ) : sProp 𝕄 :=
  iprop(∃ p : Scr F, ⌜found V c n p⌝
    ∗ owns (c : Thread nD τ) (Memref.whole cc4_scratch0) fullShare p.1 ∗ owns (c : Thread nD τ) (Memref.whole cc4_scratch1) fullShare p.2.1
    ∗ owns (c : Thread nD τ) (Memref.whole cc4_scratch2) fullShare p.2.2.1 ∗ owns (c : Thread nD τ) (Memref.whole cc4_scratch3) fullShare p.2.2.2
    ∗ Pipeline.scopedRestBut (Ix := Unit) (Name := ℕ) (U := U) (Lvl := ℕ) (Val := Elt F) spec4 c [cc4_scratch0, cc4_scratch1, cc4_scratch2, cc4_scratch3]
    ∗ ∃ r, prngReg c r)

/-- At the start the scratch holds anything. -/
theorem Phi_in (c : Dev nD) : (Pipeline.ΦA spec4 c : sProp 𝕄) ⊢ Phi V c 0 := by
  unfold Pipeline.ΦA Phi; rw [scopedRest4_split]; simp only [owns_whole]
  iintro ⟨⟨⟨⟨%f0, H0⟩, ⟨%f1, H1⟩, ⟨%f2, H2⟩, ⟨%f3, H3⟩⟩, HR⟩, Hp⟩
  iexists (f0, f1, f2, f3)
  isplitr; · ipureintro; exact fun h => absurd rfl h
  isplitl [H0]; · iexact H0
  isplitl [H1]; · iexact H1
  isplitl [H2]; · iexact H2
  isplitl [H3]; · iexact H3
  isplitl [HR]; · iexact HR
  iexact Hp

/-- What the scratch holds may be forgotten. -/
theorem Phi_out (c : Dev nD) (n : ℕ) : Phi V c n ⊢ (Pipeline.ΦA spec4 c : sProp 𝕄) := by
  unfold Pipeline.ΦA Phi; rw [scopedRest4_split]; simp only [owns_whole]
  iintro ⟨%p, -, H0, H1, H2, H3, HR, Hp⟩
  isplitr [Hp]
  · isplitr [HR]
    · isplitl [H0]; · iexists _; iexact H0
      isplitl [H1]; · iexists _; iexact H1
      isplitl [H2]; · iexists _; iexact H2
      iexists _; iexact H3
    iexact HR
  iexact Hp

/-- The proof data: inputs left at their blocks, the result at what the point writes, the scratch carried, nothing owed. -/
def dat (c : Dev nD) : Dat τ (Elt F) Unit ℕ U ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out V c t
  Φ t := Phi V c t.val
  q _ := fullShare
  owed _ := 0

theorem A_eq (c : Dev nD) (w : Fin cfg4.W) : (dat V c).A w = V c (Pipeline.arrRef spec4 w) := by dsimp only [dat]
theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) : (dat V c).after 4 t = iblk V c 4 t := by dsimp only [dat]
theorem after_5 (c : Dev nD) (t : Fin cfg4.N) : (dat V c).after 5 t = out V c t := by dsimp only [dat]

/-- An input's staging buffer holds its block before every point. -/
theorem before_0 (c : Dev nD) (t : Fin cfg4.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg4.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg4.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg4.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
theorem before_4 (c : Dev nD) (t : Fin cfg4.N) (d) : (dat V c).before 4 t d = iblk V c 4 t :=
  ((dat V c).before_in_eq_fetched 4 rfl (fun _ => rfl) (fun _ _ _ => rfl) (fun t => by rw [after_4]; unfold Dat.blockOf iblk; rw [A_eq]) t d).trans
    (by unfold Dat.fetched Dat.blockOf iblk; rw [A_eq]; rfl)

/-! ## The body's obligation -/

/-- The result's window is idle and not written back but where the last condition holds. -/
theorem idle_out : ∀ t : Fin cfg4.N, ¬cond2 (grid4.coords t) → cfg4.idle 5 (grid4.coords t) = true ∧ (cfg4.win 5).flush t = false := by
  intro t h
  have hN : t.val < 49 := lt_of_lt_of_eq t.isLt (show cfg4.N = 49 from N_4)
  have h' : ¬t.val = 48 := fun e => h ((cond2_iff t).mpr e)
  constructor
  · have key : ∀ t : Fin cfg4.N, t.val ≠ 48 → cfg4.idle 5 (grid4.coords t) = true := by decide +kernel
    exact key t h'
  · exact Bool.eq_false_iff.mpr fun e => by have := (flush4_5 t).mp e; omega

theorem live_out : ∀ t : Fin cfg4.N, cond2 (grid4.coords t) → cfg4.idle 5 (grid4.coords t) = false := by
  intro t h
  have key : ∀ t : Fin cfg4.N, t.val = 48 → cfg4.idle 5 (grid4.coords t) = false := by decide +kernel
  exact key t ((cond2_iff t).mp h)

theorem body_at (c : Dev nD) (t : Fin cfg4.N) :
    iprop((dat V c).Φ t.castSucc ∗ (dat V c).owesAt () t.castSucc
        ∗ (∃ d, owns (c : Thread nD τ) (win4_0.stage (cfg4.slots t 0)) fullShare ((dat V c).before 0 t d))
        ∗ (∃ d, owns (c : Thread nD τ) (win4_1.stage (cfg4.slots t 1)) fullShare ((dat V c).before 1 t d))
        ∗ (∃ d, owns (c : Thread nD τ) (win4_2.stage (cfg4.slots t 2)) fullShare ((dat V c).before 2 t d))
        ∗ (∃ d, owns (c : Thread nD τ) (win4_3.stage (cfg4.slots t 3)) fullShare ((dat V c).before 3 t d))
        ∗ (∃ d, owns (c : Thread nD τ) (win4_4.stage (cfg4.slots t 4)) fullShare ((dat V c).before 4 t d))
        ∗ (∃ d, owns (c : Thread nD τ) (win4_5.stage (cfg4.slots t 5)) fullShare ((dat V c).before 5 t d)))
      ⊢ wp frame (wpE (defs₀ (F := F)) Variants.none c none) Set.univ (bodyAt4 t) (fun _ =>
        iprop((dat V c).Φ t.succ ∗ (dat V c).owesAt () t.succ
          ∗ owns (c : Thread nD τ) (win4_0.stage (cfg4.slots t 0)) fullShare ((dat V c).after 0 t)
          ∗ owns (c : Thread nD τ) (win4_1.stage (cfg4.slots t 1)) fullShare ((dat V c).after 1 t)
          ∗ owns (c : Thread nD τ) (win4_2.stage (cfg4.slots t 2)) fullShare ((dat V c).after 2 t)
          ∗ owns (c : Thread nD τ) (win4_3.stage (cfg4.slots t 3)) fullShare ((dat V c).after 3 t)
          ∗ owns (c : Thread nD τ) (win4_4.stage (cfg4.slots t 4)) fullShare ((dat V c).after 4 t)
          ∗ (dat V c).leavesExact 5 t)) := by
  unfold bodyAt4
  simp only [before_0, before_1, before_2, before_3, before_4]
  rw [show (dat V c).Φ t.succ = Phi V c (t.val + 1) from rfl, show (dat V c).Φ t.castSucc = Phi V c t.val from rfl,
    show (dat V c).owesAt () t.succ = (dat V c).owesAt () t.castSucc from rfl,
    after_0, after_1, after_2, after_3, after_4]
  iintro ⟨HΦ, Ho, ⟨%_d0, H0⟩, ⟨%_d1, H1⟩, ⟨%_d2, H2⟩, ⟨%_d3, H3⟩, ⟨%_d4, H4⟩, ⟨%d, H5⟩⟩
  unfold Phi
  icases HΦ with ⟨%p, %hp, Hs0, Hs1, Hs2, Hs3, HR, Hg⟩
  iapply (run c (grid4.coords t) _ _ _ _ _ _ _ _ _ _ _ _ (Memref.whole cc4_scratch0) (Memref.isWhole_whole _) (Memref.whole cc4_scratch1) (Memref.isWhole_whole _)
    (Memref.whole cc4_scratch2) (Memref.isWhole_whole _) (Memref.whole cc4_scratch3) (Memref.isWhole_whole _) (iblk V c 0 t) (iblk V c 1 t) (iblk V c 2 t) (iblk V c 3 t) (iblk V c 4 t) _ p (excl t) Set.univ _)
  isplitl [H0]; · iexact H0
  isplitl [H1]; · iexact H1
  isplitl [H2]; · iexact H2
  isplitl [H3]; · iexact H3
  isplitl [H4]; · iexact H4
  isplitl [H5]; · iexact H5
  isplitl [Hs0]; · iexact Hs0
  isplitl [Hs1]; · iexact Hs1
  isplitl [Hs2]; · iexact Hs2
  isplitl [Hs3]; · iexact Hs3
  iintro ⟨H0, H1, H2, H3, H4, H5, Hs0, Hs1, Hs2, Hs3⟩
  isplitl [Hs0 Hs1 Hs2 Hs3 HR Hg]
  · iexists (step (grid4.coords t) (iblk V c 0 t) (iblk V c 1 t) (iblk V c 2 t) (iblk V c 3 t) (iblk V c 4 t) p)
    isplitr; · ipureintro; exact fun _ h => (st_step V c t p hp).symm
    isplitl [Hs0]; · iexact Hs0
    isplitl [Hs1]; · iexact Hs1
    isplitl [Hs2]; · iexact Hs2
    isplitl [Hs3]; · iexact Hs3
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  by_cases hl : cond2 (grid4.coords t)
  · unfold Dat.leavesExact
    rw [live_out t hl, after_5, out_eq V c t (last_ne_zero t hl) p hp, if_pos hl]
    iexact H5
  · rw [Dat.leavesExact_idle (dat V c) 5 t (idle_out t hl).1 (idle_out t hl).2, if_neg hl]
    iexists _; iexact H5

/-- The kernel's table at the region's body is the body at the point. -/
theorem defs₀_row (t : Fin cfg4.N) : defs₀ .tc cfg4.body (cfg4.bodyArgs t (cfg4.slots t)) = bodyAt4 (F := F) t := by
  unfold defs₀; rw [Defs.onTc_tc]

/-- The body meets the pipeline's obligation at every point. -/
theorem body_obligation (c : Dev nD) : BodyObligation (dat V c) (defs₀ (F := F)) Variants.none () Set.univ := fun t => by
  rw [bigSep_W4, bigSep_W4, defs₀_row]
  exact triple_restated (body_at V c t) rfl .rfl fun _ => .rfl

end R4

end Cert.KernelIdeal.Hand

end
-- ==== Proof.Ideal.Vals.lean ====
/-
The five regions between the host's operations: what every buffer holds after each item, that is each region's results.
-/
module

public import proofs.«01_k».proof.Proof.Ideal.R0
public import proofs.«01_k».proof.Proof.Ideal.R1
public import proofs.«01_k».proof.Proof.Ideal.R2
public import proofs.«01_k».proof.Proof.Ideal.R3
public import proofs.«01_k».proof.Proof.Ideal.R4

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)
open Gen

variable {F : FTy → Type} [FloatOps F]

local notation "𝕄" => MT nD τ sig Unit (Elt F) ℕ U ℕ

variable (m : (ℓ : Loc nD τ sig) → Buf (Elt F) ℓ)

/-! ## The buffers' contents after each region -/

/-- The buffers after region 0: its results are what its data leave. -/
def W6 : Vals F := fun c => Function.update (Function.update (Function.update (Function.update (V5 m c) main_v3_0 ((R0.dat (V5 m) c).arrAt 2 cfg0.N)) main_v3_1 ((R0.dat (V5 m) c).arrAt 3 cfg0.N)) main_v3_2 ((R0.dat (V5 m) c).arrAt 4 cfg0.N)) main_v3_3 ((R0.dat (V5 m) c).arrAt 5 cfg0.N)
theorem W6_main_v3_0 (c : Dev nD) : W6 m c main_v3_0 = (R0.dat (V5 m) c).arrAt 2 cfg0.N := by
  simp only [W6, Function.update_self, Function.update_of_ne (StableHlo.devRef_ne_of_ne (by decide : (main_v3_0 : Ref sig .tc) ≠ main_v3_1)), Function.update_of_ne (StableHlo.devRef_ne_of_ne (by decide : (main_v3_0 : Ref sig .tc) ≠ main_v3_2)), Function.update_of_ne (StableHlo.devRef_ne_of_ne (by decide : (main_v3_0 : Ref sig .tc) ≠ main_v3_3))]
theorem W6_main_v3_1 (c : Dev nD) : W6 m c main_v3_1 = (R0.dat (V5 m) c).arrAt 3 cfg0.N := by
  simp only [W6, Function.update_self, Function.update_of_ne (StableHlo.devRef_ne_of_ne (by decide : (main_v3_1 : Ref sig .tc) ≠ main_v3_2)), Function.update_of_ne (StableHlo.devRef_ne_of_ne (by decide : (main_v3_1 : Ref sig .tc) ≠ main_v3_3))]
theorem W6_main_v3_2 (c : Dev nD) : W6 m c main_v3_2 = (R0.dat (V5 m) c).arrAt 4 cfg0.N := by
  simp only [W6, Function.update_self, Function.update_of_ne (StableHlo.devRef_ne_of_ne (by decide : (main_v3_2 : Ref sig .tc) ≠ main_v3_3))]
theorem W6_main_v3_3 (c : Dev nD) : W6 m c main_v3_3 = (R0.dat (V5 m) c).arrAt 5 cfg0.N := by
  simp only [W6, Function.update_self]

/-- The buffers after region 1: its results are what its data leave. -/
def W7 : Vals F := fun c => Function.update (W6 m c) main_v4 ((R1.dat (W6 m) c).arrAt 4 cfg1.N)
theorem W7_main_v4 (c : Dev nD) : W7 m c main_v4 = (R1.dat (W6 m) c).arrAt 4 cfg1.N := by
  simp only [W7, Function.update_self]
/-- The buffers after the reshape of the labels. -/
def W8 : Vals F := fun c => StableHlo.after hostOps2 (W7 m c)

/-- The buffers after region 2: its results are what its data leave. -/
def W9 : Vals F := fun c => Function.update (Function.update (Function.update (Function.update (Function.update (Function.update (W8 m c) main_v6_0 ((R2.dat (W8 m) c).arrAt 4 cfg2.N)) main_v6_1 ((R2.dat (W8 m) c).arrAt 5 cfg2.N)) main_v6_2 ((R2.dat (W8 m) c).arrAt 6 cfg2.N)) main_v6_3 ((R2.dat (W8 m) c).arrAt 7 cfg2.N)) main_v6_4 ((R2.dat (W8 m) c).arrAt 8 cfg2.N)) main_v6_5 ((R2.dat (W8 m) c).arrAt 9 cfg2.N)
theorem W9_main_v6_0 (c : Dev nD) : W9 m c main_v6_0 = (R2.dat (W8 m) c).arrAt 4 cfg2.N := by
  simp only [W9, Function.update_self, Function.update_of_ne (StableHlo.devRef_ne_of_ne (by decide : (main_v6_0 : Ref sig .tc) ≠ main_v6_1)), Function.update_of_ne (StableHlo.devRef_ne_of_ne (by decide : (main_v6_0 : Ref sig .tc) ≠ main_v6_2)), Function.update_of_ne (StableHlo.devRef_ne_of_ne (by decide : (main_v6_0 : Ref sig .tc) ≠ main_v6_3)), Function.update_of_ne (StableHlo.devRef_ne_of_ne (by decide : (main_v6_0 : Ref sig .tc) ≠ main_v6_4)), Function.update_of_ne (StableHlo.devRef_ne_of_ne (by decide : (main_v6_0 : Ref sig .tc) ≠ main_v6_5))]
theorem W9_main_v6_1 (c : Dev nD) : W9 m c main_v6_1 = (R2.dat (W8 m) c).arrAt 5 cfg2.N := by
  simp only [W9, Function.update_self, Function.update_of_ne (StableHlo.devRef_ne_of_ne (by decide : (main_v6_1 : Ref sig .tc) ≠ main_v6_2)), Function.update_of_ne (StableHlo.devRef_ne_of_ne (by decide : (main_v6_1 : Ref sig .tc) ≠ main_v6_3)), Function.update_of_ne (StableHlo.devRef_ne_of_ne (by decide : (main_v6_1 : Ref sig .tc) ≠ main_v6_4)), Function.update_of_ne (StableHlo.devRef_ne_of_ne (by decide : (main_v6_1 : Ref sig .tc) ≠ main_v6_5))]
theorem W9_main_v6_2 (c : Dev nD) : W9 m c main_v6_2 = (R2.dat (W8 m) c).arrAt 6 cfg2.N := by
  simp only [W9, Function.update_self, Function.update_of_ne (StableHlo.devRef_ne_of_ne (by decide : (main_v6_2 : Ref sig .tc) ≠ main_v6_3)), Function.update_of_ne (StableHlo.devRef_ne_of_ne (by decide : (main_v6_2 : Ref sig .tc) ≠ main_v6_4)), Function.update_of_ne (StableHlo.devRef_ne_of_ne (by decide : (main_v6_2 : Ref sig .tc) ≠ main_v6_5))]
theorem W9_main_v6_3 (c : Dev nD) : W9 m c main_v6_3 = (R2.dat (W8 m) c).arrAt 7 cfg2.N := by
  simp only [W9, Function.update_self, Function.update_of_ne (StableHlo.devRef_ne_of_ne (by decide : (main_v6_3 : Ref sig .tc) ≠ main_v6_4)), Function.update_of_ne (StableHlo.devRef_ne_of_ne (by decide : (main_v6_3 : Ref sig .tc) ≠ main_v6_5))]
theorem W9_main_v6_4 (c : Dev nD) : W9 m c main_v6_4 = (R2.dat (W8 m) c).arrAt 8 cfg2.N := by
  simp only [W9, Function.update_self, Function.update_of_ne (StableHlo.devRef_ne_of_ne (by decide : (main_v6_4 : Ref sig .tc) ≠ main_v6_5))]
theorem W9_main_v6_5 (c : Dev nD) : W9 m c main_v6_5 = (R2.dat (W8 m) c).arrAt 9 cfg2.N := by
  simp only [W9, Function.update_self]
/-- The buffers after the transposes of the chunk counts. -/
def W10 : Vals F := fun c => StableHlo.after hostOps3 (W9 m c)

/-- The buffers after region 3: its results are what its data leave. -/
def W11 : Vals F := fun c => Function.update (Function.update (Function.update (W10 m c) main_v11_0 ((R3.dat (W10 m) c).arrAt 4 cfg3.N)) main_v11_1 ((R3.dat (W10 m) c).arrAt 5 cfg3.N)) main_v11_2 ((R3.dat (W10 m) c).arrAt 6 cfg3.N)
theorem W11_main_v11_0 (c : Dev nD) : W11 m c main_v11_0 = (R3.dat (W10 m) c).arrAt 4 cfg3.N := by
  simp only [W11, Function.update_self, Function.update_of_ne (StableHlo.devRef_ne_of_ne (by decide : (main_v11_0 : Ref sig .tc) ≠ main_v11_1)), Function.update_of_ne (StableHlo.devRef_ne_of_ne (by decide : (main_v11_0 : Ref sig .tc) ≠ main_v11_2))]
theorem W11_main_v11_1 (c : Dev nD) : W11 m c main_v11_1 = (R3.dat (W10 m) c).arrAt 5 cfg3.N := by
  simp only [W11, Function.update_self, Function.update_of_ne (StableHlo.devRef_ne_of_ne (by decide : (main_v11_1 : Ref sig .tc) ≠ main_v11_2))]
theorem W11_main_v11_2 (c : Dev nD) : W11 m c main_v11_2 = (R3.dat (W10 m) c).arrAt 6 cfg3.N := by
  simp only [W11, Function.update_self]

/-- The buffers after region 4: its results are what its data leave. -/
def W12 : Vals F := fun c => Function.update (W11 m c) main_v12 ((R4.dat (W11 m) c).arrAt 5 cfg4.N)
theorem W12_main_v12 (c : Dev nD) : W12 m c main_v12 = (R4.dat (W11 m) c).arrAt 5 cfg4.N := by
  simp only [W12, Function.update_self]

/-- The final contents. -/
def W13 : Vals F := fun c => StableHlo.after hostOps5 (W12 m c)

/-- The contents the regions leave, as the generated valuations take them. -/
def outs : Outs (F := F) := fun J r c => match J with
  | 6 => W6 m c r
  | 7 => W7 m c r
  | 9 => W9 m c r
  | 11 => W11 m c r
  | _ => W12 m c r

/-- Updates of equal functions by equal values are equal. -/
theorem upd1 {ι : Type} [DecidableEq ι] {β : ι → Type} {f g : (i : ι) → β i} (h : f = g) {r0 : ι} {x0 y0 : β r0} (h0 : x0 = y0) :
    Function.update (f) r0 x0 = Function.update (g) r0 y0 := by
  subst h; subst h0; rfl
theorem upd3 {ι : Type} [DecidableEq ι] {β : ι → Type} {f g : (i : ι) → β i} (h : f = g) {r0 r1 r2 : ι} {x0 y0 : β r0} (h0 : x0 = y0) {x1 y1 : β r1} (h1 : x1 = y1) {x2 y2 : β r2} (h2 : x2 = y2) :
    Function.update (Function.update (Function.update (f) r0 x0) r1 x1) r2 x2 = Function.update (Function.update (Function.update (g) r0 y0) r1 y1) r2 y2 := by
  subst h; subst h0; subst h1; subst h2; rfl
theorem upd4 {ι : Type} [DecidableEq ι] {β : ι → Type} {f g : (i : ι) → β i} (h : f = g) {r0 r1 r2 r3 : ι} {x0 y0 : β r0} (h0 : x0 = y0) {x1 y1 : β r1} (h1 : x1 = y1) {x2 y2 : β r2} (h2 : x2 = y2) {x3 y3 : β r3} (h3 : x3 = y3) :
    Function.update (Function.update (Function.update (Function.update (f) r0 x0) r1 x1) r2 x2) r3 x3 = Function.update (Function.update (Function.update (Function.update (g) r0 y0) r1 y1) r2 y2) r3 y3 := by
  subst h; subst h0; subst h1; subst h2; subst h3; rfl
theorem upd6 {ι : Type} [DecidableEq ι] {β : ι → Type} {f g : (i : ι) → β i} (h : f = g) {r0 r1 r2 r3 r4 r5 : ι} {x0 y0 : β r0} (h0 : x0 = y0) {x1 y1 : β r1} (h1 : x1 = y1) {x2 y2 : β r2} (h2 : x2 = y2) {x3 y3 : β r3} (h3 : x3 = y3) {x4 y4 : β r4} (h4 : x4 = y4) {x5 y5 : β r5} (h5 : x5 = y5) :
    Function.update (Function.update (Function.update (Function.update (Function.update (Function.update (f) r0 x0) r1 x1) r2 x2) r3 x3) r4 x4) r5 x5 = Function.update (Function.update (Function.update (Function.update (Function.update (Function.update (g) r0 y0) r1 y1) r2 y2) r3 y3) r4 y4) r5 y5 := by
  subst h; subst h0; subst h1; subst h2; subst h3; subst h4; subst h5; rfl

theorem outs_6 (r : Ref sig .tc) (c : Dev nD) : outs m 6 r c = W6 m c r := rfl
theorem outs_7 (r : Ref sig .tc) (c : Dev nD) : outs m 7 r c = W7 m c r := rfl
theorem outs_9 (r : Ref sig .tc) (c : Dev nD) : outs m 9 r c = W9 m c r := rfl
theorem outs_11 (r : Ref sig .tc) (c : Dev nD) : outs m 11 r c = W11 m c r := rfl
theorem outs_12 (r : Ref sig .tc) (c : Dev nD) : outs m 12 r c = W12 m c r := rfl
theorem V6_eq (c : Dev nD) : V6 m (outs m) c = W6 m c :=
  upd4 (rfl : V5 m c = V5 m c) (r0 := (Proc.devRef .tc main_v3_0 : DevRef τ sig)) (r1 := (Proc.devRef .tc main_v3_1 : DevRef τ sig)) (r2 := (Proc.devRef .tc main_v3_2 : DevRef τ sig)) (r3 := (Proc.devRef .tc main_v3_3 : DevRef τ sig)) ((outs_6 m main_v3_0 c).trans (W6_main_v3_0 m c)) ((outs_6 m main_v3_1 c).trans (W6_main_v3_1 m c)) ((outs_6 m main_v3_2 c).trans (W6_main_v3_2 m c)) ((outs_6 m main_v3_3 c).trans (W6_main_v3_3 m c))
theorem V7_eq (c : Dev nD) : V7 m (outs m) c = W7 m c :=
  upd1 (V6_eq m c) (r0 := (Proc.devRef .tc main_v4 : DevRef τ sig)) ((outs_7 m main_v4 c).trans (W7_main_v4 m c))
theorem V8_eq (c : Dev nD) : V8 m (outs m) c = W8 m c := by unfold V8 W8; rw [V7_eq]
theorem V9_eq (c : Dev nD) : V9 m (outs m) c = W9 m c :=
  upd6 (V8_eq m c) (r0 := (Proc.devRef .tc main_v6_0 : DevRef τ sig)) (r1 := (Proc.devRef .tc main_v6_1 : DevRef τ sig)) (r2 := (Proc.devRef .tc main_v6_2 : DevRef τ sig)) (r3 := (Proc.devRef .tc main_v6_3 : DevRef τ sig)) (r4 := (Proc.devRef .tc main_v6_4 : DevRef τ sig)) (r5 := (Proc.devRef .tc main_v6_5 : DevRef τ sig)) ((outs_9 m main_v6_0 c).trans (W9_main_v6_0 m c)) ((outs_9 m main_v6_1 c).trans (W9_main_v6_1 m c)) ((outs_9 m main_v6_2 c).trans (W9_main_v6_2 m c)) ((outs_9 m main_v6_3 c).trans (W9_main_v6_3 m c)) ((outs_9 m main_v6_4 c).trans (W9_main_v6_4 m c)) ((outs_9 m main_v6_5 c).trans (W9_main_v6_5 m c))
theorem V10_eq (c : Dev nD) : V10 m (outs m) c = W10 m c := by unfold V10 W10; rw [V9_eq]
theorem V11_eq (c : Dev nD) : V11 m (outs m) c = W11 m c :=
  upd3 (V10_eq m c) (r0 := (Proc.devRef .tc main_v11_0 : DevRef τ sig)) (r1 := (Proc.devRef .tc main_v11_1 : DevRef τ sig)) (r2 := (Proc.devRef .tc main_v11_2 : DevRef τ sig)) ((outs_11 m main_v11_0 c).trans (W11_main_v11_0 m c)) ((outs_11 m main_v11_1 c).trans (W11_main_v11_1 m c)) ((outs_11 m main_v11_2 c).trans (W11_main_v11_2 m c))
theorem V12_eq (c : Dev nD) : V12 m (outs m) c = W12 m c :=
  upd1 (V11_eq m c) (r0 := (Proc.devRef .tc main_v12 : DevRef τ sig)) ((outs_12 m main_v12 c).trans (W12_main_v12 m c))
theorem V13_eq (c : Dev nD) : V13 m (outs m) c = W13 m c := by unfold V13 W13; rw [V12_eq]

end Cert.KernelIdeal.Hand

end
-- ==== Proof.Ideal.Main.lean ====
/-
The five regions between the host's operations: what every buffer holds after each item, the regions' records, and the
run of the whole program.
-/
module

public import proofs.«01_k».proof.Proof.Ideal.Vals

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg HostSeg RegionSeg)
open Gen

variable {F : FTy → Type} [FloatOps F]

local notation "𝕄" => MT nD τ sig Unit (Elt F) ℕ U ℕ

variable (m : (ℓ : Loc nD τ sig) → Buf (Elt F) ℓ)

/-! ## The regions' data and records -/

/-- Every region's proof data, each on the contents the items before it leave. -/
def pdats : (p : Fin 5) → (c : Dev nD) → Dat τ (Elt F) Unit ℕ U ℕ (cfgs p) c
  | 0 => fun c => R0.dat (V5 m) c
  | 1 => fun c => R1.dat (W6 m) c
  | 2 => fun c => R2.dat (W8 m) c
  | 3 => fun c => R3.dat (W10 m) c
  | 4 => fun c => R4.dat (W11 m) c

/-- Nobody waits for anybody: one index at every semaphore of the cores, all levels equal. -/
def L : GSem nD τ sig → Finset Unit := fun g => if g.1.2 = .tc then {()} else ∅
def lv : GSem nD τ sig → Unit → ℕ := fun _ _ => 0

/-- What a core holds beside the buffers between two items. -/
abbrev Er (c : Dev nD) : sProp 𝕄 := iprop((∃ r, prngReg c r) ∗ ∃ W, owes (c : Thread nD τ) (0 : CellTallies nD τ sig Unit) W)

theorem into {gr Wn : Nat} (win : Fin Wn → Pipeline.WinSpec sig gr) (hs : Pipeline.arrRefs (τ := τ) win ⊆ Pipeline.ucRefs τ sig)
    (c : Dev nD) (V : Valuation τ sig (Elt F)) :
    iprop(StableHlo.held (c : Thread nD τ) (Pipeline.ucRefs τ sig) V ∗ Er c)
      ⊢ (iprop(StableHlo.held (c : Thread nD τ) (Pipeline.arrRefs win) V ∗ (∃ r, prngReg c r)
          ∗ StableHlo.held (c : Thread nD τ) (Pipeline.ucRefs τ sig \ Pipeline.arrRefs win) V
          ∗ ∃ W, owes (c : Thread nD τ) (0 : CellTallies nD τ sig Unit) W) : sProp 𝕄) := by
  rw [StableHlo.held_sub_split (c : Thread nD τ) hs V]
  iintro ⟨⟨H, Hr⟩, Hg, Ho⟩
  isplitl [H]; · iexact H
  isplitl [Hg]; · iexact Hg
  isplitl [Hr]; · iexact Hr
  iexact Ho

theorem back {gr Wn : Nat} (win : Fin Wn → Pipeline.WinSpec sig gr) (hs : Pipeline.arrRefs (τ := τ) win ⊆ Pipeline.ucRefs τ sig)
    (c : Dev nD) (V V' : Valuation τ sig (Elt F)) (h : ∀ b ∈ Pipeline.ucRefs τ sig \ Pipeline.arrRefs win, V b = V' b) :
    iprop(StableHlo.held (c : Thread nD τ) (Pipeline.arrRefs win) V' ∗ (∃ r, prngReg c r)
          ∗ StableHlo.held (c : Thread nD τ) (Pipeline.ucRefs τ sig \ Pipeline.arrRefs win) V
          ∗ ∃ W, owes (c : Thread nD τ) (0 : CellTallies nD τ sig Unit) W)
      ⊢ (iprop(StableHlo.held (c : Thread nD τ) (Pipeline.ucRefs τ sig) V' ∗ Er c) : sProp 𝕄) := by
  rw [StableHlo.held_sub_split (c : Thread nD τ) hs V', StableHlo.held_congr (c : Thread nD τ) h]
  iintro ⟨H, Hg, Hr, Ho⟩
  isplitl [H Hr]
  · isplitl [H]; · iexact H
    iexact Hr
  isplitl [Hg]; · iexact Hg
  iexact Ho

/-- A window's array is among the arrays. -/
theorem mem_arr {gr Wn : Nat} (win : Fin Wn → Pipeline.WinSpec sig gr) (w : Fin Wn) :
    (Proc.devRef .tc (Pipeline.arrRef win w) : DevRef τ sig) ∈ Pipeline.arrRefs (τ := τ) win :=
  Finset.mem_map.mpr ⟨Pipeline.arrRef win w, Finset.mem_image.mpr ⟨w, Finset.mem_univ _, rfl⟩, rfl⟩

/-- Region 0 changes its results alone. -/
theorem rest0 (c : Dev nD) (b : DevRef τ sig) (hb : b ∈ Pipeline.ucRefs τ sig \ Pipeline.arrRefs spec0) : V5 m c b = W6 m c b := by
  have hn := (Finset.mem_sdiff.mp hb).2
  have ne : ∀ (r : Ref sig .tc) (w : Fin cfg0.W), Pipeline.arrRef spec0 w = r → b ≠ (Proc.devRef .tc r : DevRef τ sig) :=
    fun r w hr e => hn (by rw [e, ← hr]; exact mem_arr spec0 w)
  simp only [W6, Function.update_of_ne (ne _ 2 rfl), Function.update_of_ne (ne _ 3 rfl), Function.update_of_ne (ne _ 4 rfl), Function.update_of_ne (ne _ 5 rfl)]

theorem keep0 (c : Dev nD) (r : Ref sig .tc) (h : r ∉ ([main_v3_0, main_v3_1, main_v3_2, main_v3_3] : List (Ref sig .tc))) : W6 m c r = V5 m c r := by
  simp only [List.mem_cons, List.not_mem_nil, or_false, not_or] at h
  simp only [W6, Function.update_of_ne (StableHlo.devRef_ne_of_ne h.1 : (Proc.devRef .tc r : DevRef τ sig) ≠ Proc.devRef .tc main_v3_0), Function.update_of_ne (StableHlo.devRef_ne_of_ne h.2.1 : (Proc.devRef .tc r : DevRef τ sig) ≠ Proc.devRef .tc main_v3_1), Function.update_of_ne (StableHlo.devRef_ne_of_ne h.2.2.1 : (Proc.devRef .tc r : DevRef τ sig) ≠ Proc.devRef .tc main_v3_2), Function.update_of_ne (StableHlo.devRef_ne_of_ne h.2.2.2 : (Proc.devRef .tc r : DevRef τ sig) ≠ Proc.devRef .tc main_v3_3)]

/-- Region 0's arrays at its end. -/
theorem arr0 (c : Dev nD) : ∀ w : Fin cfg0.W, (R0.dat (V5 m) c).arrAt w cfg0.N = W6 m c (Proc.devRef .tc (Pipeline.arrRef spec0 w))
  | ⟨0, _⟩ => ((R0.dat (V5 m) c).arrAt_in 0 rfl _).trans ((R0.A_eq (V5 m) c 0).trans (keep0 m c _ (by decide)).symm)
  | ⟨1, _⟩ => ((R0.dat (V5 m) c).arrAt_in 1 rfl _).trans ((R0.A_eq (V5 m) c 1).trans (keep0 m c _ (by decide)).symm)
  | ⟨2, _⟩ => (W6_main_v3_0 m c).symm
  | ⟨3, _⟩ => (W6_main_v3_1 m c).symm
  | ⟨4, _⟩ => (W6_main_v3_2 m c).symm
  | ⟨5, _⟩ => (W6_main_v3_3 m c).symm

/-- Region 0's record. -/
def reg0 : RegionSeg (pcfgs (F := F)) adm (pdats m) () defs₀ Variants.none L lv 0 :=
  RegionSeg.ofHeld _ _ _ _ _ _ _ _ _ 0 (fun c => iprop(∃ r, prngReg c r)) (fun c => iprop(∃ r, prngReg c r)) launch0.toP rfl
    (fun c => (R0.body_obligation (V5 m) c).loose) (fun _ _ => rfl) (fun _ => rfl)
    (fun c w => by fin_cases w <;> rfl)
    (fun c => .rfl) (fun c => .rfl)
    (fun _ => 0) ⟨fun _ _ _ => by simp [L], fun _ _ _ => Nat.le_refl _, fun _ _ _ h => absurd h (by simp)⟩
    (fun c => StableHlo.held (c : Thread nD τ) (Pipeline.ucRefs τ sig \ Pipeline.arrRefs spec0) (V5 m c))
    (V5 m) (W6 m) (fun c w => R0.A_eq (V5 m) c w) (arr0 m)

theorem sub0 : Pipeline.arrRefs (τ := τ) spec0 ⊆ Pipeline.ucRefs τ sig := Pipeline.arrRefs_sub_ucRefs spec0 (by decide)

/-- Region 1 changes its results alone. -/
theorem rest1 (c : Dev nD) (b : DevRef τ sig) (hb : b ∈ Pipeline.ucRefs τ sig \ Pipeline.arrRefs spec1) : W6 m c b = W7 m c b := by
  have hn := (Finset.mem_sdiff.mp hb).2
  have ne : ∀ (r : Ref sig .tc) (w : Fin cfg1.W), Pipeline.arrRef spec1 w = r → b ≠ (Proc.devRef .tc r : DevRef τ sig) :=
    fun r w hr e => hn (by rw [e, ← hr]; exact mem_arr spec1 w)
  simp only [W7, Function.update_of_ne (ne _ 4 rfl)]

theorem keep1 (c : Dev nD) (r : Ref sig .tc) (h : r ∉ ([main_v4] : List (Ref sig .tc))) : W7 m c r = W6 m c r := by
  simp only [List.mem_cons, List.not_mem_nil, or_false, not_or] at h
  simp only [W7, Function.update_of_ne (StableHlo.devRef_ne_of_ne h : (Proc.devRef .tc r : DevRef τ sig) ≠ Proc.devRef .tc main_v4)]

/-- Region 1's arrays at its end. -/
theorem arr1 (c : Dev nD) : ∀ w : Fin cfg1.W, (R1.dat (W6 m) c).arrAt w cfg1.N = W7 m c (Proc.devRef .tc (Pipeline.arrRef spec1 w))
  | ⟨0, _⟩ => ((R1.dat (W6 m) c).arrAt_in 0 rfl _).trans ((R1.A_eq (W6 m) c 0).trans (keep1 m c _ (by decide)).symm)
  | ⟨1, _⟩ => ((R1.dat (W6 m) c).arrAt_in 1 rfl _).trans ((R1.A_eq (W6 m) c 1).trans (keep1 m c _ (by decide)).symm)
  | ⟨2, _⟩ => ((R1.dat (W6 m) c).arrAt_in 2 rfl _).trans ((R1.A_eq (W6 m) c 2).trans (keep1 m c _ (by decide)).symm)
  | ⟨3, _⟩ => ((R1.dat (W6 m) c).arrAt_in 3 rfl _).trans ((R1.A_eq (W6 m) c 3).trans (keep1 m c _ (by decide)).symm)
  | ⟨4, _⟩ => (W7_main_v4 m c).symm

/-- Region 1's record. -/
def reg1 : RegionSeg (pcfgs (F := F)) adm (pdats m) () defs₀ Variants.none L lv 1 :=
  RegionSeg.ofHeld _ _ _ _ _ _ _ _ _ 0 (fun c => iprop(∃ r, prngReg c r)) (fun c => iprop(∃ r, prngReg c r)) launch1.toP rfl
    (fun c => (R1.body_obligation (W6 m) c).loose) (fun _ _ => rfl) (fun _ => rfl)
    (fun c w => by fin_cases w <;> rfl)
    (fun c => R1.Phi_in (W6 m) c) (fun c => R1.Phi_out (W6 m) c _)
    (fun _ => 0) ⟨fun _ _ _ => by simp [L], fun _ _ _ => Nat.le_refl _, fun _ _ _ h => absurd h (by simp)⟩
    (fun c => StableHlo.held (c : Thread nD τ) (Pipeline.ucRefs τ sig \ Pipeline.arrRefs spec1) (W6 m c))
    (W6 m) (W7 m) (fun c w => R1.A_eq (W6 m) c w) (arr1 m)

theorem sub1 : Pipeline.arrRefs (τ := τ) spec1 ⊆ Pipeline.ucRefs τ sig := Pipeline.arrRefs_sub_ucRefs spec1 (by decide)

/-- Region 2 changes its results alone. -/
theorem rest2 (c : Dev nD) (b : DevRef τ sig) (hb : b ∈ Pipeline.ucRefs τ sig \ Pipeline.arrRefs spec2) : W8 m c b = W9 m c b := by
  have hn := (Finset.mem_sdiff.mp hb).2
  have ne : ∀ (r : Ref sig .tc) (w : Fin cfg2.W), Pipeline.arrRef spec2 w = r → b ≠ (Proc.devRef .tc r : DevRef τ sig) :=
    fun r w hr e => hn (by rw [e, ← hr]; exact mem_arr spec2 w)
  simp only [W9, Function.update_of_ne (ne _ 4 rfl), Function.update_of_ne (ne _ 5 rfl), Function.update_of_ne (ne _ 6 rfl), Function.update_of_ne (ne _ 7 rfl), Function.update_of_ne (ne _ 8 rfl), Function.update_of_ne (ne _ 9 rfl)]

theorem keep2 (c : Dev nD) (r : Ref sig .tc) (h : r ∉ ([main_v6_0, main_v6_1, main_v6_2, main_v6_3, main_v6_4, main_v6_5] : List (Ref sig .tc))) : W9 m c r = W8 m c r := by
  simp only [List.mem_cons, List.not_mem_nil, or_false, not_or] at h
  simp only [W9, Function.update_of_ne (StableHlo.devRef_ne_of_ne h.1 : (Proc.devRef .tc r : DevRef τ sig) ≠ Proc.devRef .tc main_v6_0), Function.update_of_ne (StableHlo.devRef_ne_of_ne h.2.1 : (Proc.devRef .tc r : DevRef τ sig) ≠ Proc.devRef .tc main_v6_1), Function.update_of_ne (StableHlo.devRef_ne_of_ne h.2.2.1 : (Proc.devRef .tc r : DevRef τ sig) ≠ Proc.devRef .tc main_v6_2), Function.update_of_ne (StableHlo.devRef_ne_of_ne h.2.2.2.1 : (Proc.devRef .tc r : DevRef τ sig) ≠ Proc.devRef .tc main_v6_3), Function.update_of_ne (StableHlo.devRef_ne_of_ne h.2.2.2.2.1 : (Proc.devRef .tc r : DevRef τ sig) ≠ Proc.devRef .tc main_v6_4), Function.update_of_ne (StableHlo.devRef_ne_of_ne h.2.2.2.2.2 : (Proc.devRef .tc r : DevRef τ sig) ≠ Proc.devRef .tc main_v6_5)]

/-- Region 2's arrays at its end. -/
theorem arr2 (c : Dev nD) : ∀ w : Fin cfg2.W, (R2.dat (W8 m) c).arrAt w cfg2.N = W9 m c (Proc.devRef .tc (Pipeline.arrRef spec2 w))
  | ⟨0, _⟩ => ((R2.dat (W8 m) c).arrAt_in 0 rfl _).trans ((R2.A_eq (W8 m) c 0).trans (keep2 m c _ (by decide)).symm)
  | ⟨1, _⟩ => ((R2.dat (W8 m) c).arrAt_in 1 rfl _).trans ((R2.A_eq (W8 m) c 1).trans (keep2 m c _ (by decide)).symm)
  | ⟨2, _⟩ => ((R2.dat (W8 m) c).arrAt_in 2 rfl _).trans ((R2.A_eq (W8 m) c 2).trans (keep2 m c _ (by decide)).symm)
  | ⟨3, _⟩ => ((R2.dat (W8 m) c).arrAt_in 3 rfl _).trans ((R2.A_eq (W8 m) c 3).trans (keep2 m c _ (by decide)).symm)
  | ⟨4, _⟩ => (W9_main_v6_0 m c).symm
  | ⟨5, _⟩ => (W9_main_v6_1 m c).symm
  | ⟨6, _⟩ => (W9_main_v6_2 m c).symm
  | ⟨7, _⟩ => (W9_main_v6_3 m c).symm
  | ⟨8, _⟩ => (W9_main_v6_4 m c).symm
  | ⟨9, _⟩ => (W9_main_v6_5 m c).symm

/-- Region 2's record. -/
def reg2 : RegionSeg (pcfgs (F := F)) adm (pdats m) () defs₀ Variants.none L lv 2 :=
  RegionSeg.ofHeld _ _ _ _ _ _ _ _ _ 0 (fun c => iprop(∃ r, prngReg c r)) (fun c => iprop(∃ r, prngReg c r)) launch2.toP rfl
    (fun c => (R2.body_obligation (W8 m) c).loose) (fun _ _ => rfl) (fun _ => rfl)
    (fun c w => by fin_cases w <;> rfl)
    (fun c => .rfl) (fun c => .rfl)
    (fun _ => 0) ⟨fun _ _ _ => by simp [L], fun _ _ _ => Nat.le_refl _, fun _ _ _ h => absurd h (by simp)⟩
    (fun c => StableHlo.held (c : Thread nD τ) (Pipeline.ucRefs τ sig \ Pipeline.arrRefs spec2) (W8 m c))
    (W8 m) (W9 m) (fun c w => R2.A_eq (W8 m) c w) (arr2 m)

theorem sub2 : Pipeline.arrRefs (τ := τ) spec2 ⊆ Pipeline.ucRefs τ sig := Pipeline.arrRefs_sub_ucRefs spec2 (by decide)

/-- Region 3 changes its results alone. -/
theorem rest3 (c : Dev nD) (b : DevRef τ sig) (hb : b ∈ Pipeline.ucRefs τ sig \ Pipeline.arrRefs spec3) : W10 m c b = W11 m c b := by
  have hn := (Finset.mem_sdiff.mp hb).2
  have ne : ∀ (r : Ref sig .tc) (w : Fin cfg3.W), Pipeline.arrRef spec3 w = r → b ≠ (Proc.devRef .tc r : DevRef τ sig) :=
    fun r w hr e => hn (by rw [e, ← hr]; exact mem_arr spec3 w)
  simp only [W11, Function.update_of_ne (ne _ 4 rfl), Function.update_of_ne (ne _ 5 rfl), Function.update_of_ne (ne _ 6 rfl)]

theorem keep3 (c : Dev nD) (r : Ref sig .tc) (h : r ∉ ([main_v11_0, main_v11_1, main_v11_2] : List (Ref sig .tc))) : W11 m c r = W10 m c r := by
  simp only [List.mem_cons, List.not_mem_nil, or_false, not_or] at h
  simp only [W11, Function.update_of_ne (StableHlo.devRef_ne_of_ne h.1 : (Proc.devRef .tc r : DevRef τ sig) ≠ Proc.devRef .tc main_v11_0), Function.update_of_ne (StableHlo.devRef_ne_of_ne h.2.1 : (Proc.devRef .tc r : DevRef τ sig) ≠ Proc.devRef .tc main_v11_1), Function.update_of_ne (StableHlo.devRef_ne_of_ne h.2.2 : (Proc.devRef .tc r : DevRef τ sig) ≠ Proc.devRef .tc main_v11_2)]

/-- Region 3's arrays at its end. -/
theorem arr3 (c : Dev nD) : ∀ w : Fin cfg3.W, (R3.dat (W10 m) c).arrAt w cfg3.N = W11 m c (Proc.devRef .tc (Pipeline.arrRef spec3 w))
  | ⟨0, _⟩ => ((R3.dat (W10 m) c).arrAt_in 0 rfl _).trans ((R3.A_eq (W10 m) c 0).trans (keep3 m c _ (by decide)).symm)
  | ⟨1, _⟩ => ((R3.dat (W10 m) c).arrAt_in 1 rfl _).trans ((R3.A_eq (W10 m) c 1).trans (keep3 m c _ (by decide)).symm)
  | ⟨2, _⟩ => ((R3.dat (W10 m) c).arrAt_in 2 rfl _).trans ((R3.A_eq (W10 m) c 2).trans (keep3 m c _ (by decide)).symm)
  | ⟨3, _⟩ => ((R3.dat (W10 m) c).arrAt_in 3 rfl _).trans ((R3.A_eq (W10 m) c 3).trans (keep3 m c _ (by decide)).symm)
  | ⟨4, _⟩ => (W11_main_v11_0 m c).symm
  | ⟨5, _⟩ => (W11_main_v11_1 m c).symm
  | ⟨6, _⟩ => (W11_main_v11_2 m c).symm

/-- Region 3's record. -/
def reg3 : RegionSeg (pcfgs (F := F)) adm (pdats m) () defs₀ Variants.none L lv 3 :=
  RegionSeg.ofHeld _ _ _ _ _ _ _ _ _ 0 (fun c => iprop(∃ r, prngReg c r)) (fun c => iprop(∃ r, prngReg c r)) launch3.toP rfl
    (fun c => (R3.body_obligation (W10 m) c).loose) (fun _ _ => rfl) (fun _ => rfl)
    (fun c w => by fin_cases w <;> rfl)
    (fun c => .rfl) (fun c => .rfl)
    (fun _ => 0) ⟨fun _ _ _ => by simp [L], fun _ _ _ => Nat.le_refl _, fun _ _ _ h => absurd h (by simp)⟩
    (fun c => StableHlo.held (c : Thread nD τ) (Pipeline.ucRefs τ sig \ Pipeline.arrRefs spec3) (W10 m c))
    (W10 m) (W11 m) (fun c w => R3.A_eq (W10 m) c w) (arr3 m)

theorem sub3 : Pipeline.arrRefs (τ := τ) spec3 ⊆ Pipeline.ucRefs τ sig := Pipeline.arrRefs_sub_ucRefs spec3 (by decide)

/-- Region 4 changes its results alone. -/
theorem rest4 (c : Dev nD) (b : DevRef τ sig) (hb : b ∈ Pipeline.ucRefs τ sig \ Pipeline.arrRefs spec4) : W11 m c b = W12 m c b := by
  have hn := (Finset.mem_sdiff.mp hb).2
  have ne : ∀ (r : Ref sig .tc) (w : Fin cfg4.W), Pipeline.arrRef spec4 w = r → b ≠ (Proc.devRef .tc r : DevRef τ sig) :=
    fun r w hr e => hn (by rw [e, ← hr]; exact mem_arr spec4 w)
  simp only [W12, Function.update_of_ne (ne _ 5 rfl)]

theorem keep4 (c : Dev nD) (r : Ref sig .tc) (h : r ∉ ([main_v12] : List (Ref sig .tc))) : W12 m c r = W11 m c r := by
  simp only [List.mem_cons, List.not_mem_nil, or_false, not_or] at h
  simp only [W12, Function.update_of_ne (StableHlo.devRef_ne_of_ne h : (Proc.devRef .tc r : DevRef τ sig) ≠ Proc.devRef .tc main_v12)]

/-- Region 4's arrays at its end. -/
theorem arr4 (c : Dev nD) : ∀ w : Fin cfg4.W, (R4.dat (W11 m) c).arrAt w cfg4.N = W12 m c (Proc.devRef .tc (Pipeline.arrRef spec4 w))
  | ⟨0, _⟩ => ((R4.dat (W11 m) c).arrAt_in 0 rfl _).trans ((R4.A_eq (W11 m) c 0).trans (keep4 m c _ (by decide)).symm)
  | ⟨1, _⟩ => ((R4.dat (W11 m) c).arrAt_in 1 rfl _).trans ((R4.A_eq (W11 m) c 1).trans (keep4 m c _ (by decide)).symm)
  | ⟨2, _⟩ => ((R4.dat (W11 m) c).arrAt_in 2 rfl _).trans ((R4.A_eq (W11 m) c 2).trans (keep4 m c _ (by decide)).symm)
  | ⟨3, _⟩ => ((R4.dat (W11 m) c).arrAt_in 3 rfl _).trans ((R4.A_eq (W11 m) c 3).trans (keep4 m c _ (by decide)).symm)
  | ⟨4, _⟩ => ((R4.dat (W11 m) c).arrAt_in 4 rfl _).trans ((R4.A_eq (W11 m) c 4).trans (keep4 m c _ (by decide)).symm)
  | ⟨5, _⟩ => (W12_main_v12 m c).symm

/-- Region 4's record. -/
def reg4 : RegionSeg (pcfgs (F := F)) adm (pdats m) () defs₀ Variants.none L lv 4 :=
  RegionSeg.ofHeld _ _ _ _ _ _ _ _ _ 0 (fun c => iprop(∃ r, prngReg c r)) (fun c => iprop(∃ r, prngReg c r)) launch4.toP rfl
    (fun c => (R4.body_obligation (W11 m) c).loose) (fun _ _ => rfl) (fun _ => rfl)
    (fun c w => by fin_cases w <;> rfl)
    (fun c => R4.Phi_in (W11 m) c) (fun c => R4.Phi_out (W11 m) c _)
    (fun _ => 0) ⟨fun _ _ _ => by simp [L], fun _ _ _ => Nat.le_refl _, fun _ _ _ h => absurd h (by simp)⟩
    (fun c => StableHlo.held (c : Thread nD τ) (Pipeline.ucRefs τ sig \ Pipeline.arrRefs spec4) (W11 m c))
    (W11 m) (W12 m) (fun c w => R4.A_eq (W11 m) c w) (arr4 m)

theorem sub4 : Pipeline.arrRefs (τ := τ) spec4 ⊆ Pipeline.ucRefs τ sig := Pipeline.arrRefs_sub_ucRefs spec4 (by decide)

/-! ## The whole run -/

/-- What is held between two items besides the buffers: the same everywhere. -/
abbrev Es : Fin 6 → Dev nD → sProp 𝕄 := fun _ c => Er c

-- the kit's implicit arguments are found by unifying conclusions, which takes unfolding plain definitions in types
set_option backward.isDefEq.respectTransparency.types false in
/-- From any memory with zero counters every weakly fair run ends, every buffer of the program at its final contents and
    every semaphore counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = W13 m c b) ∧ r.2.sem = fun _ => 0) := by
  refine Pipeline.θ_run_regions_kit_dev_sems (pcfgs (F := F)) adm (pdats m) () cellOf_inj emb₁ defs₀ Variants.none L lv m ρ main
    (segs m (outs m) Variants.none L lv Es () (pdats m) (reg0 m) (reg1 m) (reg2 m) (reg3 m) (reg4 m))
    (fun c Q => by
      rewrite [main_chain c, Seg.run_eq_chain,
        show (segs m (outs m) Variants.none L lv Es () (pdats m) (reg0 m) (reg1 m) (reg2 m) (reg3 m) (reg4 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5 ] from rfl]
      dsimp (config := { failIfUnchanged := false }) only
      exact .rfl)
    (fun c => by simp only [segs, Seg.pipes_host, Seg.pipes_region, Seg.pipes_nil]; decide) 0
    (fun g h => by simp [L, h]) (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ Er c))
    (Tₙ := fun c => StableHlo.held (c : Thread nD τ) (Pipeline.ucRefs τ sig) (W13 m c))
    (hch := fun c => ⟨.rfl, .rfl, .rfl, .rfl, .rfl, ?_, ?_, ?_, ?_, ?_, ?_, ?_, ?_, ?_⟩)
    (hinit := ?_) (QY := fun c s => ∀ b ∈ Pipeline.ucRefs τ sig, s.mem ((c : Thread nD τ).1, b) = W13 m c b)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · exact into spec0 sub0 c (V5 m c)
  · exact (back spec0 sub0 c (V5 m c) (W6 m c) (rest0 m c)).trans (into spec1 sub1 c (W6 m c))
  · exact (back spec1 sub1 c (W6 m c) (W7 m c) (rest1 m c)).trans (by rw [← V7_eq]; exact .rfl)
  · refine Idealize.SL.BI.BIBase.Entails.trans ?_ (into spec2 sub2 c (W8 m c)); rw [← V8_eq]; exact .rfl
  · exact (back spec2 sub2 c (W8 m c) (W9 m c) (rest2 m c)).trans (by rw [← V9_eq]; exact .rfl)
  · refine Idealize.SL.BI.BIBase.Entails.trans ?_ (into spec3 sub3 c (W10 m c)); rw [← V10_eq]; exact .rfl
  · exact (back spec3 sub3 c (W10 m c) (W11 m c) (rest3 m c)).trans (into spec4 sub4 c (W11 m c))
  · exact (back spec4 sub4 c (W11 m c) (W12 m c) (rest4 m c)).trans (by rw [← V12_eq]; exact .rfl)
  · show iprop(StableHlo.held (c : Thread nD τ) (Pipeline.ucRefs τ sig) (V13 m (outs m) c) ∗ Er c) ⊢ _
    rw [V13_eq]
    exact sep_mono .rfl (by iintro ⟨-, H⟩; iexact H)
  · refine Pipeline.initEach L lv fun c => ?_
    rw [show unscopedBufs c (fun b => m ((c.tc : Thread nD τ).loc b)) = StableHlo.held (c : Thread nD τ) (Pipeline.ucRefs τ sig) (V0 m c)
      from Pipeline.unscopedBufs_held (Ix := Unit) (Name := ℕ) (U := U) (Lvl := ℕ) c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (W13 m c) s') $$ [Hh HSI]
    · isplitl [Hh] <;> iassumption
    icases Hr with ⟨%h, HSI⟩
    imodintro
    isplitr
    · ipureintro; exact h
    iexact HSI

/-- A buffer of the program that no kernel allocates is among those read at the end. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- The frame: the program ends, its arguments unchanged and every counter at zero. -/
theorem frame (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) := by
  refine (θ_run defs _ _).mono (fun r h => ⟨fun c => ?_, h.2⟩) (run m ρ)
  have e := fun (r : Ref sig .tc) (hr : r.isScoped = false) => (h.1 c _ (mem_uc r hr)).trans (congrFun (V13_eq m c).symm _)
  exact ⟨(e main_arg0 rfl).trans (V13_main_arg0 m (outs m) c), (e main_arg1 rfl).trans (V13_main_arg1 m (outs m) c),
    (e main_arg2 rfl).trans (V13_main_arg2 m (outs m) c), (e main_arg3 rfl).trans (V13_main_arg3 m (outs m) c)⟩

end Cert.KernelIdeal.Hand

end
-- ==== Proof.Ideal.ValHost.lean ====
/-
The host's operations between the regions, in values: the padded arrays, the labels by tiles, the chunk counts by queries.
-/
module

public import proofs.«01_k».proof.Proof.Ideal.Main
public import Idealize.ShloMosaic.Lib.StableHlo.ReadAt
public import Idealize.ShloMosaic.Lib.Pipeline.ValueKit

@[expose] public section

set_option maxRecDepth 16384

noncomputable section

namespace Cert.KernelIdeal.Hand

open Idealize.ShloMosaic Idealize.ShloMosaic.TcCoe
open Gen

variable (m : (ℓ : Loc nD τ sig) → Buf (Elt Ideal) ℓ) (c : Dev nD)

/-- The padded bank's first rows are the bank's. -/
theorem V5_v0 (n : Fin 100000) (k : Fin 128) : V5 m c main_v0 (ix2 ⟨n.val, by omega⟩ k) = m ((c : Thread nD τ).loc main_arg0) (ix2 n k) := by
  after_reads_at

/-- The padded labels, before the padding, are the points' labels. -/
theorem V5_v1 (n : Fin 100000) : V5 m c main_v1 (ix1 ⟨n.val, by omega⟩) = m ((c : Thread nD τ).loc main_arg1) (ix1 n) := by
  after_reads_at

/-- The queries' labels, as a column. -/
theorem V5_v2 (q : Fin 1024) : V5 m c main_v2 (ix2 q 0) = m ((c : Thread nD τ).loc main_arg3) (ix1 q) := by
  after_reads_at

/-- The queries are the argument, unchanged. -/
theorem V5_arg2 : V5 m c main_arg2 = m ((c : Thread nD τ).loc main_arg2) := by
  after_reads_simp

/-- The padded labels, cut into tiles. -/
theorem W8_v5 (t : Fin 49) (k : Fin 2048) : W8 m c main_v5 (ix3 t 0 k) = W7 m c main_v1 (ix1 ⟨2048 * t.val + k.val, by omega⟩) := by
  unfold W8
  after_reads_at
  simp only [Nat.mul_comm]

/-- The ties of a chunk, from its tile's row. -/
theorem W10_v8 (q : Fin 1024) (ch : Fin 784) : W10 m c main_v8 (ix2 q ch) = W9 m c main_v6_2 (ix3 ⟨ch.val / 16, by omega⟩ q ⟨ch.val % 16, by omega⟩) := by
  unfold W10
  after_reads_at

/-- The matching ties of a chunk, from its tile's row. -/
theorem W10_v10 (q : Fin 1024) (ch : Fin 784) : W10 m c main_v10 (ix2 q ch) = W9 m c main_v6_3 (ix3 ⟨ch.val / 16, by omega⟩ q ⟨ch.val % 16, by omega⟩) := by
  unfold W10
  after_reads_at

/-- The result is the last call's one element. -/
theorem W13_v13 (i : S_.Idx) : W13 m c main_v13 i = W12 m c main_v12 (ix2 0 0) := by
  unfold W13
  after_reads_at

end Cert.KernelIdeal.Hand
-- ==== Proof.Pure.LowBits.lean ====
/-
Words of sixteen flags: the set bits taken from the lowest up, and their number.
-/
module

public import Mathlib.Data.Nat.Count
public import Mathlib.Data.Fintype.Card
public import Mathlib.Algebra.BigOperators.Fin
public import Mathlib.Tactic.Ring
public import Mathlib.Tactic.NormNum
public import Mathlib.Data.Finset.Max
public import Mathlib.Data.Nat.Bitwise

@[expose] public section

namespace Cert.Pure

/-! ## The lowest set bit -/

/-- The lowest set bit of a word, alone. -/
def low (x : BitVec 32) : BitVec 32 := x &&& (0#32 - x)
/-- The word without its lowest set bit. -/
def rest (x : BitVec 32) : BitVec 32 := x &&& (x - 1#32)

/-- The lowest set bit: the set bit with no set bit below. -/
theorem getLsbD_low (x : BitVec 32) (k : ℕ) : (low x).getLsbD k = (x.getLsbD k && !decide (∃ j < k, x.getLsbD j = true)) := by
  unfold low
  rw [BitVec.zero_sub, BitVec.getLsbD_and, BitVec.getLsbD_neg]
  by_cases h : k < 32
  · cases x.getLsbD k <;> simp [h]
  · rw [BitVec.getLsbD_of_ge x k (by omega)]; simp

/-- The word without its lowest set bit. -/
theorem getLsbD_rest (x : BitVec 32) (k : ℕ) : (rest x).getLsbD k = (x.getLsbD k && decide (∃ j < k, x.getLsbD j = true)) := by
  unfold rest
  have e : x - 1#32 = ~~~(-x) := by rw [BitVec.neg_eq_not_add]; simp [BitVec.not_add_one, BitVec.sub_eq_add_neg, BitVec.not_neg]
  rw [e, BitVec.getLsbD_and, BitVec.getLsbD_not, BitVec.getLsbD_neg]
  by_cases h : k < 32
  · cases x.getLsbD k <;> simp [h]
  · rw [BitVec.getLsbD_of_ge x k (by omega)]; simp

/-- The flags of a word. -/
def bits (x : BitVec 32) : Finset ℕ := (Finset.range 32).filter fun j => x.getLsbD j = true

/-- Membership among a word's set bits. -/
theorem mem_bits (x : BitVec 32) (j : ℕ) : j ∈ bits x ↔ x.getLsbD j = true := by
  simp only [bits, Finset.mem_filter, Finset.mem_range, and_iff_right_iff_imp]
  intro h
  by_contra hj
  rw [BitVec.getLsbD_of_ge x j (by omega)] at h
  exact Bool.false_ne_true h

/-- A word with no set bit is zero. -/
theorem eq_zero_of_bits (x : BitVec 32) (h : bits x = ∅) : x = 0#32 := by
  apply BitVec.eq_of_getLsbD_eq
  intro j _
  by_contra hj
  have : j ∈ bits x := by rw [mem_bits]; simpa using hj
  rw [h] at this
  exact absurd this (Finset.notMem_empty j)

/-- Taking the lowest bit off erases the least position. -/
theorem bits_rest (x : BitVec 32) (hx : (bits x).Nonempty) : bits (rest x) = (bits x).erase ((bits x).min' hx) := by
  ext k
  rw [mem_bits, getLsbD_rest, Finset.mem_erase, mem_bits]
  simp only [Bool.and_eq_true, decide_eq_true_eq]
  constructor
  · rintro ⟨hk, j, hj, hjx⟩
    refine ⟨fun e => ?_, hk⟩
    have := (bits x).min'_le j ((mem_bits x j).mpr hjx)
    omega
  · rintro ⟨hk, hkx⟩
    have hm := (bits x).min'_le k ((mem_bits x k).mpr hkx)
    exact ⟨hkx, _, lt_of_le_of_ne hm (fun e => hk e.symm), (mem_bits x _).mp ((bits x).min'_mem hx)⟩

/-- The lowest bit alone. -/
theorem bits_low (x : BitVec 32) (hx : (bits x).Nonempty) : bits (low x) = {(bits x).min' hx} := by
  ext k
  rw [mem_bits, getLsbD_low, Finset.mem_singleton]
  simp only [Bool.and_eq_true, Bool.not_eq_true', decide_eq_false_iff_not, not_exists, not_and]
  constructor
  · rintro ⟨hk, hl⟩
    refine le_antisymm ?_ ((bits x).min'_le k ((mem_bits x k).mpr hk))
    by_contra hlt
    exact hl _ (by omega) ((mem_bits x _).mp ((bits x).min'_mem hx))
  · rintro rfl
    refine ⟨(mem_bits x _).mp ((bits x).min'_mem hx), fun j hj hjx => ?_⟩
    have := (bits x).min'_le j ((mem_bits x j).mpr hjx)
    omega

/-- The bits of a conjunction. -/
theorem bits_and (x y : BitVec 32) : bits (x &&& y) = bits x ∩ bits y := by
  ext k; simp [mem_bits, BitVec.getLsbD_and]

/-- Zero has no bits. -/
theorem bits_zero : bits 0#32 = ∅ := by ext k; simp [mem_bits]

/-- A word is not zero when it has a bit. -/
theorem ne_zero_iff (x : BitVec 32) : x ≠ 0#32 ↔ (bits x).Nonempty := by
  constructor
  · intro h; by_contra hn; exact h (eq_zero_of_bits x (Finset.not_nonempty_iff_eq_empty.mp hn))
  · rintro ⟨k, hk⟩ rfl; rw [bits_zero] at hk; exact absurd hk (Finset.notMem_empty k)

/-! ## Taking the first `k` flags -/

/-- How many flags of `x` that stand before `k` others of `x` are flags of `y`. -/
def hits (x y : BitVec 32) (k : ℕ) : ℕ := ((bits x).filter fun j => j ∈ bits y ∧ ((bits x).filter (· < j)).card < k).card

/-- No bits, no hits. -/
theorem hits_empty (x y : BitVec 32) (k : ℕ) (h : bits x = ∅) : hits x y k = 0 := by simp [hits, h]
/-- No room, no hits. -/
theorem hits_zero (x y : BitVec 32) : hits x y 0 = 0 := by simp [hits]

/-- The first flag and those after it. -/
theorem hits_succ (x y : BitVec 32) (k : ℕ) (hx : (bits x).Nonempty) :
    hits x y (k + 1) = (if (low x &&& y) ≠ 0#32 then 1 else 0) + hits (rest x) y k := by
  set a := (bits x).min' hx with ha
  have hm : a ∈ bits x := (bits x).min'_mem hx
  have hmin : ∀ j ∈ bits x, a ≤ j := fun j hj => (bits x).min'_le j hj
  have hy : ((low x &&& y) ≠ 0#32) ↔ a ∈ bits y := by
    rw [ne_zero_iff, bits_and, bits_low x hx]
    constructor
    · rintro ⟨j, hj⟩
      rw [Finset.mem_inter, Finset.mem_singleton] at hj
      rw [ha, ← hj.1]; exact hj.2
    · intro h; exact ⟨a, by rw [Finset.mem_inter, Finset.mem_singleton]; exact ⟨rfl, h⟩⟩
  have hr := bits_rest x hx
  rw [← ha] at hr
  unfold hits
  rw [hr]
  conv_lhs => rw [← Finset.insert_erase hm]
  rw [Finset.filter_insert]
  have h0 : ((insert a ((bits x).erase a)).filter (· < a)).card = 0 := by
    rw [Finset.insert_erase hm, Finset.card_eq_zero, Finset.filter_eq_empty_iff]
    intro j hj; have := hmin j hj; omega
  have hc : ((bits x).erase a).filter (fun j => j ∈ bits y ∧ ((insert a ((bits x).erase a)).filter (· < j)).card < k + 1)
      = ((bits x).erase a).filter fun j => j ∈ bits y ∧ (((bits x).erase a).filter (· < j)).card < k := by
    apply Finset.filter_congr
    intro j hj
    have hja : a < j := lt_of_le_of_ne (hmin j (Finset.mem_of_mem_erase hj)) (Finset.ne_of_mem_erase hj).symm
    rw [Finset.filter_insert, if_pos hja, Finset.card_insert_of_notMem (by simp)]
    simp only [Nat.add_lt_add_iff_right]
  rw [hc]
  by_cases h : a ∈ bits y
  · rw [if_pos ⟨h, by rw [h0]; omega⟩, if_pos (hy.mpr h), Finset.card_insert_of_notMem (by simp)]
    omega
  · rw [if_neg (fun h' => h h'.1), if_neg (fun h' => h (hy.mp h'))]
    omega

/-- One step: of the word `x`, `i` flags taken, `a` of them hits; the lowest flag is taken while fewer than `k` are. -/
def take (k y : BitVec 32) (s : BitVec 32 × BitVec 32 × BitVec 32) : BitVec 32 × BitVec 32 × BitVec 32 :=
  (rest s.1, s.2.1 + (if s.2.1.slt k = true ∧ low s.1 ≠ 0#32 then 1#32 else 0#32),
    s.2.2 + (if (s.2.1.slt k = true ∧ low s.1 ≠ 0#32) ∧ (y &&& low s.1) ≠ 0#32 then 1#32 else 0#32))

/-- After as many steps as the word has flags, the hits among the first `k` have been counted. -/
theorem take_iterate (y : BitVec 32) (k : ℕ) (hk : k ≤ 1000) : ∀ (n : ℕ) (x : BitVec 32) (i a : ℕ), (bits x).card ≤ n → i ≤ k →
    ((take (BitVec.ofNat 32 k) y)^[n] (x, BitVec.ofNat 32 i, BitVec.ofNat 32 a)).2.2 = BitVec.ofNat 32 (a + hits x y (k - i)) := by
  intro n
  induction n with
  | zero =>
    intro x i a hc _
    rw [hits_empty x y _ (Finset.card_eq_zero.mp (by omega))]; rfl
  | succ n ih =>
    intro x i a hc hi
    rw [Function.iterate_succ_apply]
    have hslt : (BitVec.ofNat 32 i).slt (BitVec.ofNat 32 k) = decide (i < k) := by
      rw [BitVec.slt_eq_decide, BitVec.toInt_eq_toNat_of_lt (by simp; omega), BitVec.toInt_eq_toNat_of_lt (by simp; omega)]
      simp only [BitVec.toNat_ofNat, Nat.cast_lt, decide_eq_decide]
      omega
    by_cases hx : (bits x).Nonempty
    · have hlow : low x ≠ 0#32 := by rw [ne_zero_iff, bits_low x hx]; exact Finset.singleton_nonempty _
      have hcr : (bits (rest x)).card ≤ n := by
        rw [bits_rest x hx, Finset.card_erase_of_mem ((bits x).min'_mem hx)]; omega
      by_cases hik : i < k
      · have e : take (BitVec.ofNat 32 k) y (x, BitVec.ofNat 32 i, BitVec.ofNat 32 a)
            = (rest x, BitVec.ofNat 32 (i + 1), BitVec.ofNat 32 (a + if (low x &&& y) ≠ 0#32 then 1 else 0)) := by
          unfold take
          simp only [hslt, hik, decide_true, hlow, ne_eq, not_false_eq_true, and_self, if_true, true_and, BitVec.and_comm y]
          refine Prod.ext rfl (Prod.ext ?_ ?_)
          · show BitVec.ofNat 32 i + 1#32 = _; rw [BitVec.ofNat_add]
          · show BitVec.ofNat 32 a + _ = _; split <;> exact (BitVec.ofNat_add a _).symm
        rw [e, ih (rest x) (i + 1) _ hcr hik, show k - i = (k - (i + 1)) + 1 by omega, hits_succ x y _ hx, Nat.add_assoc]
      · have e : take (BitVec.ofNat 32 k) y (x, BitVec.ofNat 32 i, BitVec.ofNat 32 a) = (rest x, BitVec.ofNat 32 i, BitVec.ofNat 32 a) := by
          unfold take
          simp [hslt, hik]
        rw [e, ih (rest x) i a hcr hi, show k - i = 0 by omega, hits_zero, hits_zero]
    · have hx0 := eq_zero_of_bits x (Finset.not_nonempty_iff_eq_empty.mp hx)
      subst hx0
      have e : take (BitVec.ofNat 32 k) y (0#32, BitVec.ofNat 32 i, BitVec.ofNat 32 a) = (0#32, BitVec.ofNat 32 i, BitVec.ofNat 32 a) := by
        unfold take
        have h1 : low 0#32 = 0#32 := by decide
        have h2 : rest 0#32 = 0#32 := by decide
        simp [h1, h2]
      rw [e, ih 0#32 i a (by rw [bits_zero]; simp) hi]

/-! ## Packing flags into a word, and their number -/

/-- The number whose flags are `p`. -/
def pack (p : ℕ → Bool) (n : ℕ) : ℕ := ∑ i ∈ Finset.range n, if p i then 2 ^ i else 0

/-- A packed word is below its power of two. -/
theorem pack_lt (p : ℕ → Bool) : ∀ n, pack p n < 2 ^ n
  | 0 => by simp [pack]
  | n + 1 => by
    have := pack_lt p n
    unfold pack at *
    rw [Finset.sum_range_succ, pow_succ]
    split <;> omega

/-- The bits of a packed word. -/
theorem testBit_pack (p : ℕ → Bool) : ∀ n j, (pack p n).testBit j = (decide (j < n) && p j)
  | 0, j => by simp [pack]
  | n + 1, j => by
    have ih := testBit_pack p n j
    have hl := pack_lt p n
    have e : pack p (n + 1) = 2 ^ n * (if p n then 1 else 0) + pack p n := by
      unfold pack; rw [Finset.sum_range_succ]; split <;> omega
    rw [e, Nat.testBit_two_pow_mul_add _ hl, ih]
    by_cases h : j < n
    · simp [h, Nat.lt_succ_of_lt h]
    · by_cases h' : j = n
      · subst h'; cases p j <;> simp
      · have : ¬ j < n + 1 := by omega
        obtain ⟨d, hd⟩ : ∃ d, j - n = d + 1 := ⟨j - n - 1, by omega⟩
        simp only [h, if_false, this, decide_false, Bool.false_and, hd]
        split <;> simp [Nat.testBit_succ]

/-- The set bits of a packed word are the places where the property holds. -/
theorem bits_pack (p : ℕ → Bool) (n : ℕ) (hn : n ≤ 32) : bits (BitVec.ofNat 32 (pack p n)) = (Finset.range n).filter fun j => p j = true := by
  ext j
  rw [mem_bits, BitVec.getLsbD_ofNat, testBit_pack, Finset.mem_filter, Finset.mem_range]
  simp only [Bool.and_eq_true, decide_eq_true_eq]
  constructor
  · rintro ⟨_, h⟩; exact h
  · intro h; exact ⟨by omega, h⟩

end Cert.Pure
-- ==== Proof.Pure.Select.lean ====
/-
Counting flags of a long row by blocks, and taking the first few of them: by whole blocks of 128, then by whole words
of sixteen in one block, then inside one word.
-/
module

public import proofs.«01_k».proof.Proof.Pure.LowBits
public import Mathlib.Data.BitVec
public import Mathlib.Algebra.BigOperators.Pi
public import Mathlib.Algebra.Order.BigOperators.Group.Finset

@[expose] public section

namespace Cert.Pure

/-- How many of the first `n` positions are flagged. -/
def cnt (p : ℕ → Bool) (n : ℕ) : ℕ := ∑ j ∈ Finset.range n, (p j).toNat

/-- How many of the `w` positions from `a` on are flagged. -/
def blk (p : ℕ → Bool) (a w : ℕ) : ℕ := ∑ j ∈ Finset.range w, (p (a + j)).toNat

/-- No places, none counted. -/
theorem cnt_zero (p : ℕ → Bool) : cnt p 0 = 0 := rfl
/-- One place more. -/
theorem cnt_succ (p : ℕ → Bool) (n : ℕ) : cnt p (n + 1) = cnt p n + (p n).toNat := Finset.sum_range_succ _ _
/-- A count, and the stretch after it. -/
theorem cnt_add (p : ℕ → Bool) (a w : ℕ) : cnt p (a + w) = cnt p a + blk p a w := Finset.sum_range_add _ _ _
/-- More places, no fewer counted. -/
theorem cnt_mono (p : ℕ → Bool) : Monotone (cnt p) := by
  intro a b h
  obtain ⟨w, rfl⟩ := Nat.exists_eq_add_of_le h
  rw [cnt_add]; omega
/-- A count is the size of a set. -/
theorem cnt_eq_card (p : ℕ → Bool) (n : ℕ) : cnt p n = ((Finset.range n).filter fun j => p j = true).card := by
  rw [Finset.card_filter]; exact Finset.sum_congr rfl fun j _ => by cases p j <;> rfl
/-- A stretch's count is the size of a set. -/
theorem blk_eq_card (p : ℕ → Bool) (a n : ℕ) : blk p a n = ((Finset.range n).filter fun j => p (a + j) = true).card :=
  cnt_eq_card (fun j => p (a + j)) n
/-- The stretch from the start is the count. -/
theorem blk_zero (p : ℕ → Bool) (n : ℕ) : blk p 0 n = cnt p n := by
  unfold blk cnt; exact Finset.sum_congr rfl fun j _ => by rw [Nat.zero_add]
/-- A stretch counts at most its length. -/
theorem blk_le (p : ℕ → Bool) (a n : ℕ) : blk p a n ≤ n := by
  rw [blk_eq_card]; exact (Finset.card_filter_le _ _).trans (by rw [Finset.card_range])
/-- A count is at most the number of places. -/
theorem cnt_le (p : ℕ → Bool) (n : ℕ) : cnt p n ≤ n := by rw [← blk_zero]; exact blk_le p 0 n
/-- A weaker property counts no fewer in a stretch. -/
theorem blk_mono (p q : ℕ → Bool) (h : ∀ j, p j = true → q j = true) (a n : ℕ) : blk p a n ≤ blk q a n :=
  Finset.sum_le_sum fun j _ => by have := h (a + j); cases hp : p (a + j) <;> cases hq : q (a + j) <;> simp_all
/-- A weaker property counts no fewer. -/
theorem cnt_mono_left (p q : ℕ → Bool) (h : ∀ j, p j = true → q j = true) (n : ℕ) : cnt p n ≤ cnt q n := by
  rw [← blk_zero, ← blk_zero]; exact blk_mono p q h 0 n
/-- A stretch's count depends on its places only. -/
theorem blk_congr (p q : ℕ → Bool) (a n : ℕ) (h : ∀ j < n, p (a + j) = q (a + j)) : blk p a n = blk q a n :=
  Finset.sum_congr rfl fun j hj => by rw [h j (Finset.mem_range.mp hj)]
/-- A count depends on its places only. -/
theorem cnt_congr (p q : ℕ → Bool) (n : ℕ) (h : ∀ j < n, p j = q j) : cnt p n = cnt q n :=
  Finset.sum_congr rfl fun j hj => by rw [h j (Finset.mem_range.mp hj)]

/-- A count by blocks of `w`. -/
theorem cnt_mul (p : ℕ → Bool) (w : ℕ) : ∀ n, cnt p (w * n) = ∑ b ∈ Finset.range n, blk p (w * b) w
  | 0 => rfl
  | n + 1 => by rw [Nat.mul_succ, cnt_add, cnt_mul p w n, Finset.sum_range_succ]

/-- The indices below `n` where a monotone function is below `m` are the first ones. -/
theorem lt_card_iff (f : ℕ → ℕ) (hf : Monotone f) (m n k : ℕ) (hk : k < n) :
    k < ((Finset.range n).filter fun i => f i < m).card ↔ f k < m := by
  constructor
  · intro h
    by_contra hm
    have hs : ((Finset.range n).filter fun i => f i < m) ⊆ Finset.range k := by
      intro i hi
      rw [Finset.mem_filter] at hi
      rw [Finset.mem_range]
      by_contra hki
      have := hf (Nat.le_of_not_lt hki)
      omega
    have := Finset.card_le_card hs
    rw [Finset.card_range] at this
    omega
  · intro h
    have hs : Finset.range (k + 1) ⊆ (Finset.range n).filter fun i => f i < m := by
      intro i hi
      rw [Finset.mem_range] at hi
      rw [Finset.mem_filter, Finset.mem_range]
      have := hf (Nat.le_of_lt_succ hi)
      exact ⟨by omega, by omega⟩
    have := Finset.card_le_card hs
    rw [Finset.card_range] at this
    omega

section Sel

variable (T M : ℕ → Bool) (need : ℕ)

/-- The word of the sixteen flags from position `16 g` on. -/
def word (p : ℕ → Bool) (g : ℕ) : ℕ := pack (fun j => p (16 * g + j)) 16

/-- The first block at whose end at least `need` flags have passed (of the 784 blocks of 128). -/
def star : ℕ := ((Finset.range 784).filter fun ch => cnt T (128 * (ch + 1)) < need).card

/-- A chunk is before the cut one when the count through it is still short. -/
theorem lt_star (ch : ℕ) (h : ch < 784) : ch < star T need ↔ cnt T (128 * (ch + 1)) < need :=
  lt_card_iff (fun ch => cnt T (128 * (ch + 1))) (fun a b h => cnt_mono T (by omega)) need 784 ch h

/-- The cut chunk is one of them, or past them. -/
theorem star_le : star T need ≤ 784 := (Finset.card_filter_le _ _).trans (by rw [Finset.card_range])

/-- Fewer than `need` flags stand before the starred block. -/
theorem cnt_star_lt (h : 1 ≤ need) : cnt T (128 * star T need) < need := by
  have hle := star_le T need
  cases e : star T need with
  | zero => rw [Nat.mul_zero, cnt_zero]; omega
  | succ k => exact (lt_star T need k (by omega)).mp (by omega)

/-- The flags that are taken: those before which fewer than `need` stand. -/
def first (j : ℕ) : Bool := T j && decide (cnt T j < need)

/-- The flags of word `g`'s block that stand in the starred block, up to and with word `g`. -/
def incl (g : ℕ) : ℕ := cnt T (16 * (g + 1)) - cnt T (128 * star T need)
/-- Those before word `g`. -/
def before (g : ℕ) : ℕ := cnt T (16 * g) - cnt T (128 * star T need)
/-- What is to be taken from the starred block. -/
def room : ℕ := need - cnt T (128 * star T need)
/-- Word `g` is in the starred block. -/
def mine (g : ℕ) : Bool := decide (g / 8 = star T need)
/-- All flags of word `g` are taken. -/
def full (g : ℕ) : Bool := mine T need g && decide (incl T need g ≤ room T need)
/-- The flags of word `g` are taken in part. -/
def cross (g : ℕ) : Bool := mine T need g && (decide (before T need g ≤ room T need) && decide (room T need < incl T need g))

/-- The count before a word is at most the count through it. -/
theorem before_le_incl (g : ℕ) : before T need g ≤ incl T need g := by
  unfold before incl
  have := cnt_mono T (show 16 * g ≤ 16 * (g + 1) by omega)
  omega

/-- At most one word is taken in part. -/
theorem cross_unique (g g' : ℕ) (h : cross T need g = true) (h' : cross T need g' = true) : g = g' := by
  have key : ∀ a b : ℕ, cross T need a = true → cross T need b = true → a < b → False := by
    intro a b ha hb hab
    unfold cross mine at ha hb
    simp only [Bool.and_eq_true, decide_eq_true_eq] at ha hb
    have : incl T need a ≤ before T need b := by
      unfold incl before
      have := cnt_mono T (show 16 * (a + 1) ≤ 16 * b by omega)
      omega
    omega
  rcases lt_trichotomy g g' with h1 | h1 | h1
  · exact (key g g' h h' h1).elim
  · exact h1
  · exact (key g' g h' h h1).elim

/-- The words with both flags. -/
def both (j : ℕ) : Bool := T j && M j

/-- What word `g` contributes. -/
theorem blk_first (hn : 1 ≤ need) (g : ℕ) (hg : g < 6272) :
    blk (fun j => M j && first T need j) (16 * g) 16
      = (if g / 8 < star T need then blk (both T M) (16 * g) 16 else 0)
        + (if full T need g then blk (both T M) (16 * g) 16 else 0)
        + (if cross T need g then hits (BitVec.ofNat 32 (word T g)) (BitVec.ofNat 32 (word (both T M) g)) (room T need - before T need g) else 0) := by
  have hs := cnt_star_lt T need hn
  have hfirst : ∀ j < 16, cnt T (16 * g + j) < need → (M (16 * g + j) && first T need (16 * g + j)) = both T M (16 * g + j) := by
    intro j _ h
    unfold first both
    rw [decide_eq_true h, Bool.and_true, Bool.and_comm]
  rcases lt_trichotomy (g / 8) (star T need) with h | h | h
  · have hl := (lt_star T need (g / 8) (by omega)).mp h
    have hm : mine T need g = false := by unfold mine; rw [decide_eq_false_iff_not]; omega
    rw [if_pos h]
    unfold full cross
    rw [hm]
    simp only [Bool.false_and, Bool.false_eq_true, if_false, Nat.add_zero]
    refine blk_congr _ _ _ _ fun j hj => hfirst j hj ?_
    have := cnt_mono T (show 16 * g + j ≤ 128 * (g / 8 + 1) by omega)
    omega
  · have hm : mine T need g = true := by unfold mine; rw [decide_eq_true_eq]; exact h
    have hb1 := cnt_mono T (show 128 * star T need ≤ 16 * g by omega)
    have hb2 := cnt_mono T (show 16 * g ≤ 16 * (g + 1) by omega)
    rw [if_neg (by omega), Nat.zero_add]
    unfold full cross
    rw [hm]
    simp only [Bool.true_and]
    by_cases hf : incl T need g ≤ room T need
    · have hc : ¬ room T need < incl T need g := by omega
      simp only [hf, hc, decide_true, decide_false, Bool.and_false, if_true, Bool.false_eq_true, if_false, Nat.add_zero]
      refine Finset.sum_congr rfl fun j hj => ?_
      have hj := Finset.mem_range.mp hj
      by_cases ht : T (16 * g + j) = true
      · refine congrArg Bool.toNat (hfirst j hj ?_)
        have h1 := cnt_succ T (16 * g + j)
        rw [ht] at h1
        have h2 := cnt_mono T (show 16 * g + j + 1 ≤ 16 * (g + 1) by omega)
        unfold incl room at hf
        simp only [Bool.toNat_true] at h1
        omega
      · rw [Bool.not_eq_true] at ht
        show (M (16 * g + j) && (T (16 * g + j) && decide (cnt T (16 * g + j) < need))).toNat = (T (16 * g + j) && M (16 * g + j)).toNat
        rw [ht]; simp
    · have hc : room T need < incl T need g := by omega
      by_cases hb : before T need g ≤ room T need
      · simp only [hf, hc, hb, decide_true, decide_false, Bool.and_true, if_true, Bool.false_eq_true, if_false, Nat.zero_add]
        rw [blk_eq_card]
        unfold hits word
        rw [bits_pack _ 16 (by omega), bits_pack _ 16 (by omega), Finset.filter_filter]
        refine congrArg Finset.card (Finset.filter_congr fun j hj => ?_)
        have hj := Finset.mem_range.mp hj
        have hcnt : (((Finset.range 16).filter fun j => T (16 * g + j) = true).filter (· < j)).card = blk T (16 * g) j := by
          rw [blk_eq_card, Finset.filter_filter]
          refine congrArg Finset.card ?_
          ext i
          simp only [Finset.mem_filter, Finset.mem_range]
          constructor
          · rintro ⟨_, h1, h2⟩; exact ⟨h2, h1⟩
          · rintro ⟨h1, h2⟩; exact ⟨by omega, h2, h1⟩
        rw [hcnt, Finset.mem_filter, Finset.mem_range]
        have h1 := cnt_add T (16 * g) j
        unfold first both before room at *
        simp only [Bool.and_eq_true, decide_eq_true_eq]
        constructor
        · rintro ⟨h3, h4, h5⟩; exact ⟨h4, ⟨hj, h4, h3⟩, by omega⟩
        · rintro ⟨h3, ⟨_, _, h4⟩, h5⟩; exact ⟨h4, h3, by omega⟩
      · simp only [hf, hc, hb, decide_true, decide_false, Bool.and_true, Bool.false_eq_true, if_false, Nat.zero_add]
        refine Finset.sum_eq_zero fun j hj => ?_
        have h2 := cnt_mono T (show 16 * g ≤ 16 * g + j by omega)
        unfold before room at hb
        have : ¬ cnt T (16 * g + j) < need := by omega
        show (M (16 * g + j) && (T (16 * g + j) && decide (cnt T (16 * g + j) < need))).toNat = 0
        rw [decide_eq_false this]; simp
  · have hm : mine T need g = false := by unfold mine; rw [decide_eq_false_iff_not]; omega
    rw [if_neg (by omega)]
    unfold full cross
    rw [hm]
    simp only [Bool.false_and, Bool.false_eq_true, if_false, Nat.add_zero]
    have hl : ¬ cnt T (128 * (star T need + 1)) < need := fun hlt => by
      have := (lt_star T need (star T need) (by omega)).mpr hlt
      omega
    refine Finset.sum_eq_zero fun j hj => ?_
    have h2 := cnt_mono T (show 128 * (star T need + 1) ≤ 16 * g + j by omega)
    have : ¬ cnt T (16 * g + j) < need := by omega
    show (M (16 * g + j) && (T (16 * g + j) && decide (cnt T (16 * g + j) < need))).toNat = 0
    rw [decide_eq_false this]; simp

/-- Sums over the words taken in part have at most one term. -/
theorem sum_cross {α β : Type} [AddCommMonoid α] [AddCommMonoid β] (n : ℕ) (f : ℕ → α) (F : α → β) (hF : F 0 = 0) :
    F (∑ g ∈ Finset.range n, if cross T need g then f g else 0) = ∑ g ∈ Finset.range n, if cross T need g then F (f g) else 0 := by
  by_cases h : ∃ g < n, cross T need g = true
  · obtain ⟨g, hg, hc⟩ := h
    have e : ∀ {γ : Type} [AddCommMonoid γ] (k : ℕ → γ), (∑ g ∈ Finset.range n, if cross T need g then k g else 0) = k g := by
      intro γ _ k
      rw [Finset.sum_eq_single g]
      · rw [if_pos hc]
      · intro b _ hb
        rw [if_neg fun hcb => hb (cross_unique T need b g hcb hc)]
      · intro hn; exact absurd (Finset.mem_range.mpr hg) hn
    rw [e, e]
  · have e : ∀ {γ : Type} [AddCommMonoid γ] (k : ℕ → γ), (∑ g ∈ Finset.range n, if cross T need g then k g else 0) = 0 := by
      intro γ _ k
      refine Finset.sum_eq_zero fun g hg => if_neg fun hc => h ⟨g, Finset.mem_range.mp hg, hc⟩
    rw [e, e, hF]

/-- The matches among the first `need` flags: those of the whole blocks before the starred one, those of the words
taken whole, and those of the word taken in part. -/
theorem select (hn : 1 ≤ need) :
    cnt (fun j => M j && first T need j) 100352
      = cnt (both T M) (128 * star T need) + (∑ g ∈ Finset.range 6272, if full T need g then blk (both T M) (16 * g) 16 else 0)
        + hits (∑ g ∈ Finset.range 6272, if cross T need g then BitVec.ofNat 32 (word T g) else 0)
            (∑ g ∈ Finset.range 6272, if cross T need g then BitVec.ofNat 32 (word (both T M) g) else 0)
            (∑ g ∈ Finset.range 6272, if cross T need g then room T need - before T need g else 0) := by
  have hx := sum_cross T need 6272
    (fun g => ((BitVec.ofNat 32 (word T g), BitVec.ofNat 32 (word (both T M) g), room T need - before T need g) : BitVec 32 × BitVec 32 × ℕ))
    (fun x => hits x.1 x.2.1 x.2.2) (hits_zero _ _)
  have e1 : ∀ (s : Finset ℕ) (f : ℕ → BitVec 32 × BitVec 32 × ℕ), ∑ g ∈ s, f g = (∑ g ∈ s, (f g).1, ∑ g ∈ s, (f g).2.1, ∑ g ∈ s, (f g).2.2) := by
    intro s f
    rw [Prod.ext_iff, Prod.ext_iff]
    exact ⟨Prod.fst_sum, (congrArg Prod.fst (Prod.snd_sum (s := s) (f := f))).trans Prod.fst_sum, (congrArg Prod.snd (Prod.snd_sum (s := s) (f := f))).trans Prod.snd_sum⟩
  rw [e1] at hx
  have e2 : ∀ (b : Bool) (x : BitVec 32 × BitVec 32 × ℕ), ((if b then x else 0).1 = if b then x.1 else 0) ∧ ((if b then x else 0).2.1 = if b then x.2.1 else 0) ∧ ((if b then x else 0).2.2 = if b then x.2.2 else 0) := by
    intro b x; cases b <;> exact ⟨rfl, rfl, rfl⟩
  simp only [(e2 _ _).1, (e2 _ _).2.1, (e2 _ _).2.2] at hx
  rw [hx]
  have hb : ∑ g ∈ Finset.range 6272, (if g / 8 < star T need then blk (both T M) (16 * g) 16 else 0) = cnt (both T M) (128 * star T need) := by
    have hr : (Finset.range 6272).filter (fun g => g / 8 < star T need) = Finset.range (8 * star T need) := by
      ext g
      have := star_le T need
      simp only [Finset.mem_filter, Finset.mem_range]
      omega
    rw [← Finset.sum_filter, hr, show 128 * star T need = 16 * (8 * star T need) by omega, cnt_mul]
  have hc := cnt_mul (fun j => M j && first T need j) 16 6272
  rw [Finset.sum_congr rfl fun g hg => blk_first T M need hn g (Finset.mem_range.mp hg), Finset.sum_add_distrib, Finset.sum_add_distrib, hb] at hc
  exact hc

end Sel

end Cert.Pure
-- ==== Proof.Pure.Sorted.lean ====
/-
A stable sort by a key puts an element at the place that counts the elements before it: those of a smaller key, and
those of an equal key and a smaller position.
-/
module

public import Idealize.ShloMosaic.Lib.SortFacts

@[expose] public section

namespace Cert.Pure

open Idealize.ShloMosaic

variable {n : ℕ} (key : Fin n → ℤ)

/-- `a` comes before `b`: a smaller key, or an equal key at a smaller position. -/
def Before (a b : Fin n) : Prop := key a < key b ∨ key a = key b ∧ a < b

instance : DecidableRel (Before key) := fun a b => inferInstanceAs (Decidable (_ ∨ _))

/-- The order is transitive. -/
theorem Before.trans {a b c : Fin n} (h : Before key a b) (h' : Before key b c) : Before key a c := by
  unfold Before at *; omega

/-- The order is asymmetric. -/
theorem Before.asymm {a b : Fin n} (h : Before key a b) (h' : Before key b a) : False := by
  unfold Before at *; omega

/-- Insertion keeps a list in order. -/
theorem insert_pairwise (R : Fin n → Fin n → Bool) (hR : ∀ a b, R a b = true ↔ key a < key b) (a : Fin n) (l : List (Fin n))
    (ha : ∀ b ∈ l, a < b) (hl : l.Pairwise (Before key)) : (insertBefore R a l).Pairwise (Before key) := by
  induction l with
  | nil => exact List.pairwise_singleton _ _
  | cons b l ih =>
    rw [List.pairwise_cons] at hl
    have hab := ha b List.mem_cons_self
    unfold insertBefore
    split
    next h =>
      have hk := (hR b a).mp h
      rw [List.pairwise_cons]
      refine ⟨fun c hc => ?_, ih (fun c hc => ha c (List.mem_cons_of_mem b hc)) hl.2⟩
      rcases List.mem_cons.mp ((perm_insertBefore R a l).mem_iff.mp hc) with rfl | hc
      · exact Or.inl hk
      · exact hl.1 c hc
    next h =>
      have hk : ¬ key b < key a := fun h' => h ((hR b a).mpr h')
      have hb : Before key a b := by unfold Before; omega
      rw [List.pairwise_cons]
      refine ⟨fun c hc => ?_, List.pairwise_cons.mpr hl⟩
      rcases List.mem_cons.mp hc with rfl | hc
      · exact hb
      · exact hb.trans key (hl.1 c hc)

/-- Sorting puts a list in order. -/
theorem sort_pairwise (R : Fin n → Fin n → Bool) (hR : ∀ a b, R a b = true ↔ key a < key b) (l : List (Fin n))
    (hl : l.Pairwise (· < ·)) : (stableSort R l).Pairwise (Before key) := by
  induction l with
  | nil => exact List.Pairwise.nil
  | cons a l ih =>
    rw [List.pairwise_cons] at hl
    unfold stableSort
    exact insert_pairwise key R hR a _ (fun b hb => hl.1 b ((perm_stableSort R l).mem_iff.mp hb)) (ih hl.2)

/-- An earlier place holds an element that comes before. -/
theorem sortedFrom_before (R : Fin n → Fin n → Bool) (hR : ∀ a b, R a b = true ↔ key a < key b) {i j : Fin n} (h : i < j) :
    Before key (sortedFrom R i) (sortedFrom R j) := by
  have hp := List.pairwise_iff_get.mp (sort_pairwise key R hR (List.finRange n) (List.pairwise_lt_finRange n))
  exact hp (i.cast (length_sortPositions n R).symm) (j.cast (length_sortPositions n R).symm) h

/-- How many elements come before `a`. -/
def rank (a : Fin n) : ℕ := (Finset.univ.filter fun b => Before key b a).card

/-- The element at place `j` has `j` elements before it. -/
theorem rank_sortedFrom (R : Fin n → Fin n → Bool) (hR : ∀ a b, R a b = true ↔ key a < key b) (j : Fin n) :
    rank key (sortedFrom R j) = j.val := by
  unfold rank
  have h : (Finset.univ.filter fun b => Before key b (sortedFrom R j)) = (Finset.univ.filter fun i : Fin n => i < j).image (sortedFrom R) := by
    ext b
    simp only [Finset.mem_filter, Finset.mem_univ, true_and, Finset.mem_image]
    constructor
    · intro hb
      obtain ⟨i, rfl⟩ := sortedFrom_surjective R b
      refine ⟨i, ?_, rfl⟩
      rcases lt_trichotomy i j with h | h | h
      · exact h
      · subst h; exact (hb.asymm key hb).elim
      · exact (hb.asymm key (sortedFrom_before key R hR h)).elim
    · rintro ⟨i, hi, rfl⟩
      exact sortedFrom_before key R hR hi
  rw [h, Finset.card_image_of_injective _ (sortedFrom_injective R)]
  have : (Finset.univ.filter fun i : Fin n => i < j) = Finset.Iio j := by ext; simp
  rw [this, Fin.card_Iio]

/-- A property counted over the first `k` places is counted over the elements of rank below `k`. -/
theorem card_first (R : Fin n → Fin n → Bool) (hR : ∀ a b, R a b = true ↔ key a < key b) (k : ℕ) (hk : k ≤ n) (p : Fin n → Prop) [DecidablePred p] :
    (Finset.univ.filter fun j : Fin k => p (sortedFrom R (j.castLE hk))).card
      = (Finset.univ.filter fun a : Fin n => p a ∧ rank key a < k).card := by
  rw [← Finset.card_image_of_injective (s := Finset.univ.filter fun j : Fin k => p (sortedFrom R (j.castLE hk)))
    (f := fun j : Fin k => sortedFrom R (j.castLE hk)) (fun i j h => by
      have := sortedFrom_injective R h
      exact Fin.ext (by simpa using congrArg Fin.val this))]
  congr 1
  ext a
  simp only [Finset.mem_filter, Finset.mem_univ, true_and, Finset.mem_image]
  constructor
  · rintro ⟨j, hj, rfl⟩
    exact ⟨hj, by rw [rank_sortedFrom key R hR]; exact j.isLt⟩
  · rintro ⟨ha, hr⟩
    obtain ⟨i, rfl⟩ := sortedFrom_surjective R a
    rw [rank_sortedFrom key R hR] at hr
    exact ⟨⟨i.val, hr⟩, ha, rfl⟩

end Cert.Pure
-- ==== Proof.Pure.Radius.lean ====
/-
The radius of the `k` nearest points: the search for it by counting, and which points it admits.
-/
module

public import proofs.«01_k».proof.Proof.Pure.Select
public import proofs.«01_k».proof.Proof.Pure.Sorted

@[expose] public section

namespace Cert.Pure

/-- A count over the positions as a cardinality. -/
theorem cnt_fin (p : ℕ → Bool) (n : ℕ) : cnt p n = (Finset.univ.filter fun a : Fin n => p a.val = true).card := by
  unfold cnt
  rw [Finset.card_filter, ← Fin.sum_univ_eq_sum_range (fun j => (p j).toNat) n]
  exact Finset.sum_congr rfl fun a _ => by cases p a.val <;> rfl

section

variable (D : ℕ → ℤ)

/-- The points of distance at most `x`. -/
def within (x : ℤ) (n : ℕ) : Bool := decide (D n ≤ x)
/-- The points of distance `x`. -/
def at_ (x : ℤ) (n : ℕ) : Bool := decide (D n = x)

/-- How many points are of distance at most `x`. -/
def ball (x : ℤ) : ℕ := cnt (within D x) 100352

/-- A wider ball holds no fewer points. -/
theorem ball_mono {x y : ℤ} (h : x ≤ y) : ball D x ≤ ball D y :=
  cnt_mono_left _ _ (fun j hj => by unfold within at *; rw [decide_eq_true_eq] at *; omega) _

/-- The radius lies among the `w` from `lo` on. -/
def Holds (lo w : ℕ) : Prop := ball D ((lo : ℤ) - 65) < 100 ∧ 100 ≤ ball D ((lo : ℤ) + w - 65)

/-- How many of the three inner bounds are too small. -/
def jump (lo w : ℕ) : ℕ :=
  (if ball D ((lo : ℤ) + w - 65) < 100 then 1 else 0) + (if ball D ((lo : ℤ) + 2 * w - 65) < 100 then 1 else 0)
    + (if ball D ((lo : ℤ) + 3 * w - 65) < 100 then 1 else 0)

/-- One pass: from a range of at most `4 w` to one of `w`. -/
theorem holds_step (lo w v : ℕ) (h : Holds D lo v) (hw : v ≤ 4 * w) : Holds D (lo + w * jump D lo w) w := by
  obtain ⟨h0, h4⟩ := h
  have m1 := ball_mono D (show (lo : ℤ) + w - 65 ≤ lo + 2 * w - 65 by omega)
  have m2 := ball_mono D (show (lo : ℤ) + 2 * w - 65 ≤ lo + 3 * w - 65 by omega)
  have m3 := ball_mono D (show (lo : ℤ) + v - 65 ≤ lo + 4 * w - 65 by omega)
  unfold Holds jump
  by_cases c3 : ball D ((lo : ℤ) + 3 * w - 65) < 100
  · rw [if_pos c3, if_pos (by omega), if_pos (by omega)]
    rw [show ((lo + w * (1 + 1 + 1) : ℕ) : ℤ) - 65 = lo + 3 * w - 65 by push_cast; ring,
      show ((lo + w * (1 + 1 + 1) : ℕ) : ℤ) + w - 65 = lo + 4 * w - 65 by push_cast; ring]
    omega
  · rw [if_neg c3]
    by_cases c2 : ball D ((lo : ℤ) + 2 * w - 65) < 100
    · rw [if_pos c2, if_pos (by omega)]
      rw [show ((lo + w * (1 + 1 + 0) : ℕ) : ℤ) - 65 = lo + 2 * w - 65 by push_cast; ring,
        show ((lo + w * (1 + 1 + 0) : ℕ) : ℤ) + w - 65 = lo + 3 * w - 65 by push_cast; ring]
      omega
    · rw [if_neg c2]
      by_cases c1 : ball D ((lo : ℤ) + w - 65) < 100
      · rw [if_pos c1]
        rw [show ((lo + w * (1 + 0 + 0) : ℕ) : ℤ) - 65 = lo + w - 65 by push_cast; ring,
          show ((lo + w * (1 + 0 + 0) : ℕ) : ℤ) + w - 65 = lo + 2 * w - 65 by push_cast; ring]
        omega
      · rw [if_neg c1]
        rw [show ((lo + w * (0 + 0 + 0) : ℕ) : ℤ) - 65 = lo - 65 by push_cast; ring,
          show ((lo + w * (0 + 0 + 0) : ℕ) : ℤ) + w - 65 = lo + w - 65 by push_cast; ring]
        omega

/-- The four passes. -/
def lo0 : ℕ := 33 * jump D 0 33
/-- The lower end after the first pass. -/
def lo1 : ℕ := lo0 D + 9 * jump D (lo0 D) 9
/-- The lower end after the second pass. -/
def lo2 : ℕ := lo1 D + 3 * jump D (lo1 D) 3
/-- The radius: what the passes end at. -/
def radius : ℕ := lo2 D + 1 * jump D (lo2 D) 1

/-- A pass moves by at most three widths. -/
theorem jump_le (lo w : ℕ) : jump D lo w ≤ 3 := by unfold jump; split <;> split <;> split <;> omega

/-- The radius is small. -/
theorem radius_le' : radius D ≤ 138 := by
  unfold radius lo2 lo1 lo0
  have := jump_le D 0 33
  have := jump_le D (33 * jump D 0 33) 9
  have := jump_le D (33 * jump D 0 33 + 9 * jump D (33 * jump D 0 33) 9) 3
  have := jump_le D (33 * jump D 0 33 + 9 * jump D (33 * jump D 0 33) 9 + 3 * jump D (33 * jump D 0 33 + 9 * jump D (33 * jump D 0 33) 9) 3) 1
  omega

variable (key : Fin 100000 → ℤ) (hk : ∀ a : Fin 100000, D a.val = key a - 64) (hlo : ∀ a, 0 ≤ key a) (hhi : ∀ a, key a ≤ 128)
  (hpad : ∀ n, 100000 ≤ n → n < 100352 → D n = 127)

include hpad in
/-- No padded position is within a distance below 127. -/
theorem cnt_real (p : ℕ → Bool) (hp : ∀ n, 100000 ≤ n → n < 100352 → p n = false) : cnt p 100352 = cnt p 100000 := by
  have h : cnt p 100352 = cnt p 100000 + blk p 100000 352 := cnt_add p 100000 352
  have : blk p 100000 352 = 0 := Finset.sum_eq_zero fun j hj => by
    have := Finset.mem_range.mp hj
    rw [hp _ (by omega) (by omega)]; rfl
  omega

include hk hlo hhi hpad in
theorem radius_holds : Holds D (radius D) 1 := by
  have h0 : Holds D 0 132 := by
    constructor
    · have : ball D (((0 : ℕ) : ℤ) - 65) = 0 := by
        unfold ball cnt
        refine Finset.sum_eq_zero fun j hj => ?_
        have hj := Finset.mem_range.mp hj
        unfold within
        rw [decide_eq_false]; rfl
        by_cases h : j < 100000
        · have := hk ⟨j, h⟩; have := hlo ⟨j, h⟩; dsimp only at *; push_cast; omega
        · have := hpad j (by omega) hj; push_cast; omega
      omega
    · have e : cnt (within D 64) 100000 = 100000 := by
        unfold cnt
        rw [Finset.sum_congr rfl (g := fun _ => 1)]
        · simp
        · intro j hj
          have hj := Finset.mem_range.mp hj
          have := hk ⟨j, hj⟩; have := hhi ⟨j, hj⟩
          dsimp only at *
          unfold within
          rw [decide_eq_true (by omega)]; rfl
      have m := cnt_mono (within D 64) (show 100000 ≤ 100352 by omega)
      have m2 := ball_mono D (show (64 : ℤ) ≤ ((0 : ℕ) : ℤ) + (132 : ℕ) - 65 by omega)
      unfold ball at *
      omega
  have s0 := holds_step D 0 33 132 h0 (by omega)
  rw [Nat.zero_add] at s0
  exact holds_step D _ 1 3 (holds_step D _ 3 9 (holds_step D _ 9 33 s0 (by omega)) (by omega)) (by omega)

include hk hlo hhi hpad in
theorem radius_le : radius D ≤ 128 := by
  have h := (radius_holds D key hk hlo hhi hpad).1
  by_contra hc
  have e : cnt (within D 64) 100000 = 100000 := by
    unfold cnt
    rw [Finset.sum_congr rfl (g := fun _ => 1)]
    · simp
    · intro j hj
      have hj := Finset.mem_range.mp hj
      have := hk ⟨j, hj⟩; have := hhi ⟨j, hj⟩
      dsimp only at *
      unfold within
      rw [decide_eq_true (by omega)]; rfl
  have m := cnt_mono (within D 64) (show 100000 ≤ 100352 by omega)
  have m2 := ball_mono D (show (64 : ℤ) ≤ (radius D : ℤ) - 65 by omega)
  unfold ball at *
  omega

/-- The points inside the radius, and those at it. -/
def inside : ℕ → Bool := within D ((radius D : ℤ) - 65)
/-- The points at the radius. -/
def tie : ℕ → Bool := at_ D ((radius D : ℤ) - 64)
/-- How many of the points at the radius are wanted. -/
def need : ℕ := 100 - cnt (inside D) 100352

/-- Inside the radius and at it, together. -/
theorem cnt_inside_add_tie (n : ℕ) : cnt (inside D) n + cnt (tie D) n = cnt (within D ((radius D : ℤ) - 64)) n := by
  unfold cnt
  rw [← Finset.sum_add_distrib]
  refine Finset.sum_congr rfl fun j _ => ?_
  unfold inside tie within at_
  by_cases h1 : D j ≤ (radius D : ℤ) - 65
  · have h2 : ¬ D j = (radius D : ℤ) - 64 := by omega
    have h3 : D j ≤ (radius D : ℤ) - 64 := by omega
    simp [h1, h2, h3]
  · by_cases h2 : D j = (radius D : ℤ) - 64
    · have h3 : D j ≤ (radius D : ℤ) - 64 := by omega
      rw [decide_eq_false h1, decide_eq_true h2, decide_eq_true h3]; rfl
    · have h3 : ¬ D j ≤ (radius D : ℤ) - 64 := by omega
      simp [h1, h2, h3]

include hk hlo hhi hpad in
theorem need_spec : 1 ≤ need D ∧ need D ≤ cnt (tie D) 100352 ∧ need D ≤ 100 ∧ cnt (inside D) 100352 < 100 := by
  obtain ⟨h1, h2⟩ := radius_holds D key hk hlo hhi hpad
  have h3 := cnt_inside_add_tie D 100352
  unfold ball at h1 h2
  rw [show (radius D : ℤ) + (1 : ℕ) - 65 = radius D - 64 by push_cast; ring] at h2
  unfold need inside at *
  omega

include hk hlo hhi hpad in
/-- A point is among the hundred nearest when it is inside the radius, or at it with fewer than the wanted ones before it. -/
theorem rank_lt_iff (a : Fin 100000) : rank key a < 100 ↔ (inside D a.val || first (tie D) (need D) a.val) = true := by
  obtain ⟨h1, h2⟩ := radius_holds D key hk hlo hhi hpad
  have hr := radius_le D key hk hlo hhi hpad
  unfold ball at h1 h2
  rw [show (radius D : ℤ) + (1 : ℕ) - 65 = radius D - 64 by push_cast; ring] at h2
  rw [cnt_real D hpad _ fun n hn hn' => by unfold within; rw [decide_eq_false]; have := hpad n hn hn'; omega] at h1
  rw [cnt_real D hpad _ fun n hn hn' => by unfold within; rw [decide_eq_false]; have := hpad n hn hn'; omega] at h2
  rw [cnt_fin] at h1 h2
  have ha := hk a
  unfold rank
  rcases lt_trichotomy (D a.val) ((radius D : ℤ) - 64) with h | h | h
  · have hin : inside D a.val = true := by unfold inside within; rw [decide_eq_true_eq]; omega
    rw [hin, Bool.true_or]
    simp only [iff_true]
    have hs : (Finset.univ.filter fun b => Before key b a) ⊆ (Finset.univ.filter fun b : Fin 100000 => within D ((radius D : ℤ) - 65) b.val = true) := by
      intro b hb
      rw [Finset.mem_filter] at hb ⊢
      refine ⟨Finset.mem_univ _, ?_⟩
      unfold within
      rw [decide_eq_true_eq]
      have := hk b
      rcases hb.2 with hb | ⟨hb, _⟩ <;> omega
    have := Finset.card_le_card hs
    omega
  · have hin : inside D a.val = false := by unfold inside within; rw [decide_eq_false_iff_not]; omega
    have ht : tie D a.val = true := by unfold tie at_; rw [decide_eq_true_eq]; exact h
    have e : (Finset.univ.filter fun b => Before key b a).card = cnt (inside D) 100000 + cnt (tie D) a.val := by
      rw [cnt_fin, cnt_eq_card]
      have hi : (Finset.range a.val).filter (fun j => tie D j = true)
          = (Finset.univ.filter fun b : Fin 100000 => tie D b.val = true ∧ b < a).map Fin.valEmbedding := by
        ext j
        simp only [Finset.mem_filter, Finset.mem_range, Finset.mem_map, Finset.mem_univ, true_and, Fin.valEmbedding_apply]
        constructor
        · rintro ⟨hj, htj⟩; exact ⟨⟨j, by omega⟩, ⟨htj, hj⟩, rfl⟩
        · rintro ⟨b, ⟨htb, hb⟩, rfl⟩; exact ⟨hb, htb⟩
      rw [hi, Finset.card_map, ← Finset.card_union_of_disjoint]
      · refine congrArg Finset.card ?_
        ext b
        have hb := hk b
        simp only [Finset.mem_filter, Finset.mem_univ, true_and, Finset.mem_union]
        unfold Before inside tie within at_
        rw [decide_eq_true_eq, decide_eq_true_eq]
        constructor
        · rintro (h' | ⟨h', h''⟩)
          · left; omega
          · right; exact ⟨by omega, h''⟩
        · rintro (h' | ⟨h', h''⟩)
          · left; omega
          · right; exact ⟨by omega, h''⟩
      · rw [Finset.disjoint_left]
        intro b hb hb'
        simp only [Finset.mem_filter, Finset.mem_univ, true_and] at hb hb'
        unfold inside tie within at_ at *
        rw [decide_eq_true_eq] at hb
        have := of_decide_eq_true hb'.1
        omega
    rw [e, hin, Bool.false_or]
    unfold first
    rw [ht, Bool.true_and, decide_eq_true_eq]
    unfold need
    rw [cnt_real D hpad (inside D) fun n hn hn' => by unfold inside within; rw [decide_eq_false]; have := hpad n hn hn'; omega]
    omega
  · have hin : inside D a.val = false := by unfold inside within; rw [decide_eq_false_iff_not]; omega
    have ht : tie D a.val = false := by unfold tie at_; rw [decide_eq_false_iff_not]; omega
    rw [hin, Bool.false_or]
    unfold first
    rw [ht, Bool.false_and]
    simp only [Bool.false_eq_true, iff_false, not_lt]
    have hs : (Finset.univ.filter fun b : Fin 100000 => within D ((radius D : ℤ) - 64) b.val = true) ⊆ (Finset.univ.filter fun b => Before key b a) := by
      intro b hb
      rw [Finset.mem_filter] at hb ⊢
      refine ⟨Finset.mem_univ _, ?_⟩
      have hb' := hb.2
      unfold within at hb'
      rw [decide_eq_true_eq] at hb'
      have := hk b
      left; omega
    have := Finset.card_le_card hs
    omega

/-- The matches that the passes count: inside the radius, and the first of those at it. -/
def score (M : ℕ → Bool) : ℕ := cnt (fun j => inside D j && M j) 100352 + cnt (fun j => M j && first (tie D) (need D) j) 100352

include hk hlo hhi hpad in
/-- They are the matches among the hundred nearest. -/
theorem score_eq (M : ℕ → Bool) : score D M = (Finset.univ.filter fun a : Fin 100000 => M a.val = true ∧ rank key a < 100).card := by
  have hr := radius_le D key hk hlo hhi hpad
  unfold score
  rw [cnt_real D hpad _ fun n hn hn' => by unfold inside within; rw [decide_eq_false, Bool.false_and]; have := hpad n hn hn'; omega]
  rw [cnt_real D hpad _ fun n hn hn' => by unfold first tie at_; rw [decide_eq_false, Bool.false_and, Bool.and_false]; have := hpad n hn hn'; omega]
  rw [Finset.filter_congr fun a _ => and_congr_right fun _ => rank_lt_iff D key hk hlo hhi hpad a]
  unfold cnt
  rw [← Finset.sum_add_distrib, Finset.card_filter, ← Fin.sum_univ_eq_sum_range (fun j => (inside D j && M j).toNat + (M j && first (tie D) (need D) j).toNat) 100000]
  refine Finset.sum_congr rfl fun a _ => ?_
  have hex : inside D a.val = true → first (tie D) (need D) a.val = false := by
    intro h
    unfold inside within first tie at_ at *
    rw [decide_eq_true_eq] at h
    rw [decide_eq_false (by omega : ¬ D a.val = (radius D : ℤ) - 64), Bool.false_and]
  cases hM : M a.val
  · simp
  · cases hI : inside D a.val
    · cases hf : first (tie D) (need D) a.val <;> simp
    · rw [hex hI]; simp

end

end Cert.Pure
-- ==== Proof.Pure.Ops.lean ====
/-
Words and extended reals: the operations of the kernel's integer arithmetic, read as integers.
-/
module

public import proofs.«01_k».proof.Proof.Pure.Radius
public import Idealize.ShloMosaic.Lib.Pointwise
public import Idealize.ShloMosaic.Lib.IndicatorCount
public import Idealize.ShloMosaic.Lib.Affine

@[expose] public section

namespace Cert.Pure

open Idealize.ShloMosaic

/-- A fold of word additions is the sum. -/
theorem fold_addi {ι : Type} (S : Finset ι) (f : ι → BitVec 32) : S.fold IntOp.addi 0#32 f = ∑ k ∈ S, f k := rfl

/-- A fold over the flags of a block counts them. -/
theorem fold_blk (w : ℕ) (b : Fin w → BitVec 1) (p : ℕ → Bool) (a : ℕ) (h : ∀ k : Fin w, b k = 1#1 ↔ p (a + k.val) = true) :
    (Finset.univ : Finset (Fin w)).fold IntOp.addi 0#32 (fun k => (b k).setWidth 32) = BitVec.ofNat 32 (blk p a w) := by
  rw [IndicatorCount.fold_addi_setWidth_eq_card]
  refine congrArg _ ?_
  unfold blk
  rw [Finset.card_filter, ← Fin.sum_univ_eq_sum_range (fun j => (p (a + j)).toNat) w]
  refine Finset.sum_congr rfl fun k _ => ?_
  by_cases hk : b k = 1#1
  · rw [if_pos hk, (h k).mp hk]; rfl
  · rw [if_neg hk, Bool.eq_false_iff.mpr fun hp => hk ((h k).mpr hp)]; rfl

/-- Truncating an integer of the word's range gives the integer. -/
theorem fptosi_int {φ : FTy} (z : ℤ) (h0 : -2147483648 ≤ z) (h1 : z < 2147483648) :
    FloatOps.fptosi (F := Ideal) (φ := φ) 32 (((z : ℝ) : EReal) : Ideal φ) = BitVec.ofInt 32 z := by
  show BitVec.ofInt 32 (Ideal.toIntClamped _ _ (((z : ℝ)) : EReal)) = _
  rw [Ideal.toIntClamped_coe, Int.floor_intCast, Int.ceil_intCast, ite_self]
  norm_num
  congr 1
  omega

/-- Conversion of a natural number to a word. -/
theorem fptosi_nat {φ : FTy} (n : ℕ) (h1 : n < 2147483648) :
    FloatOps.fptosi (F := Ideal) (φ := φ) 32 (((n : ℝ) : EReal) : Ideal φ) = BitVec.ofNat 32 n := by
  have h := fptosi_int (φ := φ) (n : ℤ) (by omega) (by omega)
  rw [Int.cast_natCast] at h
  rw [h, BitVec.ofInt_natCast]

/-- A word of an integer, read signed. -/
theorem toInt_ofInt (z : ℤ) (h0 : -2147483648 ≤ z) (h1 : z < 2147483648) : (BitVec.ofInt 32 z).toInt = z := by
  rw [BitVec.toInt_ofInt]
  exact Int.bmod_eq_of_le (by norm_num; omega) (by norm_num; omega)

/-- A word of a natural number, read signed. -/
theorem toInt_ofNat (n : ℕ) (h1 : n < 2147483648) : (BitVec.ofNat 32 n).toInt = n := by
  rw [← BitVec.ofInt_natCast]; exact toInt_ofInt _ (by omega) (by omega)

/-- An integer of the byte's range, cut to a byte. -/
theorem toInt_byte (z : ℤ) (h0 : -128 ≤ z) (h1 : z < 128) : ((BitVec.ofInt 32 z).setWidth 8).toInt = z := by
  have e : (BitVec.ofInt 32 z).setWidth 8 = BitVec.ofInt 8 z := by
    apply BitVec.eq_of_toInt_eq
    rw [BitVec.toInt_setWidth, BitVec.toNat_ofInt, BitVec.toInt_ofInt]
    norm_num
    simp only [Int.bmod_def]
    omega
  rw [e, BitVec.toInt_ofInt]
  exact Int.bmod_eq_of_le (by norm_num; omega) (by norm_num; omega)

/-- Sign extension keeps the integer. -/
theorem toInt_sext (x : BitVec 8) : (x.signExtend 32).toInt = x.toInt := BitVec.toInt_signExtend_of_le (by omega)

/-- A finite sum of reals, among the extended reals. -/
theorem coe_sum {ι : Type} (S : Finset ι) (f : ι → ℝ) : ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

/-- The number of coordinates where the signs differ. -/
noncomputable def ham (a b : Fin 128 → EReal) : ℕ := (Finset.univ.filter fun x => ¬ (0 < a x ↔ 0 < b x)).card

/-- A distance is at most the number of coordinates. -/
theorem ham_le (a b : Fin 128 → EReal) : ham a b ≤ 128 := (Finset.card_filter_le _ _).trans (by simp)

/-- The inner product of two rows of signs. -/
theorem signs (a b : Fin 128 → EReal) :
    ∑ x, ((if 0 < a x then (1 : EReal) else ((-1 : ℝ) : EReal)) * (if 0 < b x then (1 : EReal) else ((-1 : ℝ) : EReal)))
      = ((((128 - 2 * ham a b : ℤ)) : ℝ) : EReal) := by
  have e : ∀ x, ((if 0 < a x then (1 : EReal) else ((-1 : ℝ) : EReal)) * (if 0 < b x then (1 : EReal) else ((-1 : ℝ) : EReal)))
      = (((1 - 2 * (if ¬ (0 < a x ↔ 0 < b x) then 1 else 0) : ℝ)) : EReal) := by
    intro x
    by_cases h1 : 0 < a x <;> by_cases h2 : 0 < b x <;> simp only [h1, h2, if_true, if_false, iff_self, not_true_eq_false, iff_false, iff_true, not_false_eq_true] <;>
      (try rw [← EReal.coe_one]) <;> rw [← EReal.coe_mul] <;> norm_num
  rw [Finset.sum_congr rfl fun x _ => e x, coe_sum, Finset.sum_sub_distrib, ← Finset.mul_sum, Finset.sum_boole]
  unfold ham
  push_cast
  simp

/-- The literal minus one. -/
theorem ofBits_neg_one : Ideal.ofBits FTy.f32 3212836864#32 = ((-1 : ℝ) : EReal) := by
  simp [Ideal.ofBits, Ideal.ieee]; rw [← EReal.coe_mul]; norm_num
/-- The literal minus a half. -/
theorem ofBits_neg_half : Ideal.ofBits FTy.f32 3204448256#32 = ((-(1/2) : ℝ) : EReal) := by
  simp [Ideal.ofBits, Ideal.ieee]; rw [← EReal.coe_mul]; norm_num

/-- Two bits of a flag, both set. -/
theorem andi_one (a b : BitVec 1) : IntOp.andi a b = 1#1 ↔ a = 1#1 ∧ b = 1#1 := by revert a b; decide

/-- A flag, widened and converted, is the number of its truth. -/
theorem flag_real (φ : FTy) (b : BitVec 1) (p : Bool) (h : b = 1#1 ↔ p = true) :
    FloatOps.sitofp (F := Ideal) φ (BitVec.setWidth 32 b) = (((p.toNat : ℕ) : ℝ) : EReal) := by
  show ((((BitVec.setWidth 32 b).toInt : ℤ) : ℝ) : EReal) = _
  cases p
  · have : b = 0#1 := by
      have h' : ¬ b = 1#1 := fun e => Bool.false_ne_true (h.mp e)
      revert h'; clear h; revert b; decide
    subst this; rfl
  · rw [h.mpr rfl]; rfl

/-- A product of a row of flags with a column of naturals, as a word. -/
theorem dot_word {φ : FTy} (n : ℕ) (u v : Fin n → EReal) (p : ℕ → Bool) (g : ℕ → ℕ) (hu : ∀ x, u x = (((p x.val).toNat : ℕ) : ℝ))
    (hv : ∀ x, v x = ((g x.val : ℕ) : ℝ)) (hb : ∑ x ∈ Finset.range n, (p x).toNat * g x < 2147483648) :
    FloatOps.fptosi (F := Ideal) (φ := φ) 32 (∑ x, u x * v x) = BitVec.ofNat 32 (∑ x ∈ Finset.range n, (p x).toNat * g x) := by
  have e : ∑ x, u x * v x = (((∑ x ∈ Finset.range n, (p x).toNat * g x : ℕ) : ℝ) : EReal) := by
    rw [← Fin.sum_univ_eq_sum_range (fun x => (p x).toNat * g x) n]
    push_cast
    rw [← coe_sum]
    refine Finset.sum_congr rfl fun x _ => ?_
    rw [hu, hv, ← EReal.coe_mul]
  rw [e, fptosi_nat _ hb]

/-- A sum that keeps one stretch of `w` of its indices. -/
theorem sum_stretch (w m j : ℕ) (hj : j < m) (f : ℕ → ℕ) (hw : 0 < w) :
    ∑ x ∈ Finset.range (w * m), (if x / w = j then f x else 0) = ∑ i ∈ Finset.range w, f (w * j + i) := by
  rw [← Finset.sum_filter]
  symm
  refine Finset.sum_nbij (fun i => w * j + i) (fun i hi => ?_) (fun a _ b _ h => ?_) (fun x hx => ?_) (fun _ _ => rfl)
  · rw [Finset.mem_range] at hi
    rw [Finset.mem_filter, Finset.mem_range]
    refine ⟨?_, by rw [Nat.mul_add_div hw, Nat.div_eq_of_lt hi, add_zero]⟩
    calc w * j + i < w * j + w := by omega
      _ = w * (j + 1) := by ring
      _ ≤ w * m := Nat.mul_le_mul_left _ hj
  · exact Nat.add_left_cancel h
  · obtain ⟨hx, e⟩ := Finset.mem_filter.mp (Finset.mem_coe.mp hx)
    refine ⟨x % w, Finset.mem_coe.mpr (Finset.mem_range.mpr (Nat.mod_lt _ hw)), ?_⟩
    show w * j + x % w = x
    rw [← e]; exact Nat.div_add_mod x w

end Cert.Pure
-- ==== Proof.Ideal.ValR0.lean ====
/-
Region 0, in values: the distances it writes and its three counts.
-/
module

public import proofs.«01_k».proof.Proof.Ideal.R0
public import proofs.«01_k».proof.Proof.Pure.Ops
public import Idealize.ShloMosaic.Lib.Pipeline.ValueKit

@[expose] public section

set_option maxRecDepth 16384

noncomputable section

namespace Cert.KernelIdeal.Hand

open Idealize.ShloMosaic Idealize.ShloMosaic.TcCoe
open Cert.Pure Gen

namespace R0

/-- The grid has one axis. -/
theorem coord (t : Fin cfg0.N) : (grid0.coords t 0).val = t.val := by
  have ht : t.val < 49 := Nat.lt_of_lt_of_eq t.isLt N_0
  have e : (grid0.coords t 0).val = t.val / 1 % 49 := Pipeline.Grid.coords_val t 0 (by decide) rfl
  rw [e]; omega

/-- A tile's distances, as words. -/
theorem pay5_apply (t : Fin cfg0.N) (x0 : Vec Ideal S1024x128 .f32) (x1 : Vec Ideal S2048x128 .f32) (q : Fin 1024) (k : Fin 2048) :
    k0_pay5 (grid0.coords t) x0 x1 (ix2 q k)
      = BitVec.ofInt 32 (if 2048 * t.val + k.val < 100000 then (ham (fun x => x0 (ix2 q x)) (fun x => x1 (ix2 k x)) : ℤ) - 64 else 127) := by
  have ht : t.val < 49 := Nat.lt_of_lt_of_eq t.isLt N_0
  have hk := k.isLt
  unfold k0_pay5
  pointwise
  rw [coord, ofBits_neg_one, ofBits_neg_half, signs, ← EReal.coe_mul]
  have hw : IntOp.addi (BitVec.ofNat 32 k.val) (Scalar.muli (BitVec.ofNat 32 t.val) 2048#32) = BitVec.ofNat 32 (2048 * t.val + k.val) := by
    show BitVec.ofNat 32 k.val + BitVec.ofNat 32 t.val * BitVec.ofNat 32 2048 = _
    rw [← BitVec.ofNat_mul, ← BitVec.ofNat_add]
    congr 1; omega
  rw [hw]
  have hb := ham_le (fun x => x0 (ix2 q x)) (fun x => x1 (ix2 k x))
  have hr : (-(1/2) : ℝ) * (((128 - 2 * (ham (fun x => x0 (ix2 q x)) (fun x => x1 (ix2 k x)) : ℤ) : ℤ)) : ℝ)
      = (((ham (fun x => x0 (ix2 q x)) (fun x => x1 (ix2 k x)) : ℤ) - 64 : ℤ) : ℝ) := by push_cast; ring
  rw [hr, fptosi_int _ (by omega) (by omega)]
  have hc : IntOp.cmpi .sge (BitVec.ofNat 32 (2048 * t.val + k.val)) 100000#32 = 1#1 ↔ ¬ (2048 * t.val + k.val < 100000) := by
    rw [IntOp.cmpi_sge, toInt_ofNat _ (by omega), toInt_ofNat _ (by omega)]; omega
  by_cases h : 2048 * t.val + k.val < 100000
  · rw [if_pos h]
    exact if_neg (fun e => hc.mp e h)
  · rw [if_neg h]
    exact if_pos (hc.mpr h)

variable (V : Vals Ideal)

/-- A row of the queries, and one of the (padded) points. -/
def qrow (c : Dev nD) (q : Fin 1024) : Fin 128 → EReal := fun x => V c main_arg2 (ix2 q x)
/-- A row of the padded points. -/
def prow (c : Dev nD) (n : ℕ) : Fin 128 → EReal := fun x => if h : n < 100352 then V c main_v0 (ix2 ⟨n, h⟩ x) else 0

/-- The distances less 64 of query `q`, padded by 127. -/
def D (c : Dev nD) (q : Fin 1024) (n : ℕ) : ℤ := if n < 100000 then (ham (qrow V c q) (prow V c n) : ℤ) - 64 else 127

/-- A padded distance fits a byte. -/
theorem D_bounds (c : Dev nD) (q : Fin 1024) (n : ℕ) : -64 ≤ D V c q n ∧ D V c q n ≤ 127 := by
  unfold D
  have := ham_le (qrow V c q) (prow V c n)
  split <;> omega

/-- The blocks each step takes. -/
theorem idx : ∀ t : Fin grid0.N, win0_0.index t = ![0, 0] ∧ win0_1.index t = ![(grid0.coords t 0).val, 0] ∧ win0_2.index t = ![0, (grid0.coords t 0).val] := by
  decide +kernel

/-- Every step's block of queries is all of them. -/
theorem iblk_0 (c : Dev nD) (t : Fin cfg0.N) (q : Fin 1024) (x : Fin 128) : iblk V c 0 t (ix2 q x) = qrow V c q x := by
  unfold qrow
  blk_ext [iblk, idx t]

/-- A step's block of points is a tile of rows. -/
theorem iblk_1 (c : Dev nD) (t : Fin cfg0.N) (k : Fin 2048) (x : Fin 128) : iblk V c 1 t (ix2 k x) = prow V c (2048 * t.val + k.val) x := by
  have ht : t.val < 49 := Nat.lt_of_lt_of_eq t.isLt N_0
  unfold prow
  rw [dif_pos (by have := k.isLt; omega)]
  blk_ext [iblk, idx t, coord t]

/-- The distances a step computes. -/
theorem words (c : Dev nD) (t : Fin cfg0.N) (q : Fin 1024) (k : Fin 2048) :
    k0_pay5 (grid0.coords t) (iblk V c 0 t) (iblk V c 1 t) (ix2 q k) = BitVec.ofInt 32 (D V c q (2048 * t.val + k.val)) := by
  refine (pay5_apply t _ _ q k).trans ?_
  have e0 : (fun x => iblk V c 0 t (ix2 q x)) = qrow V c q := funext fun x => iblk_0 V c t q x
  have e1 : (fun x => iblk V c 1 t (ix2 k x)) = prow V c (2048 * t.val + k.val) := funext fun x => iblk_1 V c t k x
  unfold D
  rw [← e0, ← e1]

/-- The distances array, as bytes. -/
theorem dist_arr (c : Dev nD) : (dat V c).arrAt 2 cfg0.N = fun i => (BitVec.ofInt 32 (D V c ⟨(i 0).val, (i 0).isLt⟩ (i 1).val)).setWidth 8 := by
  refine (dat V c).arrAt_eq_of_covers 2 _ (by decide +kernel) fun t hf y => ?_
  obtain ⟨q, k, rfl⟩ : ∃ (q : Fin 1024) (k : Fin 2048), y = ix2 q k := ⟨y 0, y 1, by funext a; fin_cases a <;> rfl⟩
  blk_simp [idx t, coord t]
  rw [after_2]
  unfold dist k0_pay6
  pointwise
  rw [words, mul_comm]

/-- The distance between query `q` and position `n`. -/
theorem dist_at (c : Dev nD) (q : Fin 1024) (n : Fin 100352) :
    ((dat V c).arrAt 2 cfg0.N (ix2 q n) : BitVec 8).toInt = D V c q n.val := by
  rw [dist_arr]
  have h := D_bounds V c q n.val
  show ((BitVec.ofInt 32 (D V c q n.val)).setWidth 8).toInt = _
  exact toInt_byte _ (by omega) (by omega)

/-- A tile's flags, counted. -/
theorem flags (c : Dev nD) (t : Fin cfg0.N) (q : Fin 1024) (x : BitVec 32) (z : ℤ) (hx : x.toInt = z) :
    (Finset.univ : Finset (Fin 2048)).fold IntOp.addi 0#32
        (fun k => BitVec.setWidth 32 (IntOp.cmpi .sle (k0_pay5 (grid0.coords t) (iblk V c 0 t) (iblk V c 1 t) (ix2 q k)) x))
      = BitVec.ofNat 32 (blk (within (D V c q) z) (2048 * t.val) 2048) := by
  refine fold_blk 2048 _ _ _ fun k => ?_
  have h := D_bounds V c q (2048 * t.val + k.val)
  rw [IntOp.cmpi_sle, words, toInt_ofInt _ (by omega) (by omega), hx]
  unfold within
  rw [decide_eq_true_eq]

/-- One count advanced by its tile. -/
theorem advance (c : Dev nD) (t : Fin cfg0.N) (q : Fin 1024) (z : ℤ) (a : BitVec 32)
    (ha : a = BitVec.ofNat 32 (cnt (within (D V c q) z) (2048 * t.val))) :
    a + BitVec.ofNat 32 (blk (within (D V c q) z) (2048 * t.val) 2048) = BitVec.ofNat 32 (cnt (within (D V c q) z) (2048 * (t.val + 1))) := by
  rw [ha, ← BitVec.ofNat_add, mul_add, mul_one, cnt_add]

/-- What a step adds to the three counts. -/
theorem step_at (c : Dev nD) (t : Fin cfg0.N) (q : Fin 1024) (p : Cnt Ideal)
    (h1 : (if cond (grid0.coords t) then k0_pay4 else p.1) (ix2 q 0) = BitVec.ofNat 32 (cnt (within (D V c q) (-32)) (2048 * t.val)))
    (h2 : (if cond (grid0.coords t) then k0_pay4 else p.2.1) (ix2 q 0) = BitVec.ofNat 32 (cnt (within (D V c q) 1) (2048 * t.val)))
    (h3 : (if cond (grid0.coords t) then k0_pay4 else p.2.2) (ix2 q 0) = BitVec.ofNat 32 (cnt (within (D V c q) 34) (2048 * t.val))) :
    (step (grid0.coords t) (iblk V c 0 t) (iblk V c 1 t) p).1 (ix2 q 0) = BitVec.ofNat 32 (cnt (within (D V c q) (-32)) (2048 * (t.val + 1)))
    ∧ (step (grid0.coords t) (iblk V c 0 t) (iblk V c 1 t) p).2.1 (ix2 q 0) = BitVec.ofNat 32 (cnt (within (D V c q) 1) (2048 * (t.val + 1)))
    ∧ (step (grid0.coords t) (iblk V c 0 t) (iblk V c 1 t) p).2.2 (ix2 q 0) = BitVec.ofNat 32 (cnt (within (D V c q) 34) (2048 * (t.val + 1))) := by
  refine ⟨?_, ?_, ?_⟩
  · unfold step k0_pay1 k0_pay7 k0_pay8
    pointwise
    rw [flags V c t q _ (-32) (by decide)]
    exact advance V c t q _ _ h1
  · unfold step k0_pay2
    pointwise
    rw [flags V c t q _ 1 (by decide)]
    exact advance V c t q _ _ h2
  · unfold step k0_pay3
    pointwise
    rw [flags V c t q _ 34 (by decide)]
    exact advance V c t q _ _ h3

/-- The three counts after a step. -/
theorem st_at (c : Dev nD) (q : Fin 1024) : ∀ n (h : n < cfg0.N),
    (st V c n h).1 (ix2 q 0) = BitVec.ofNat 32 (cnt (within (D V c q) (-32)) (2048 * (n + 1)))
    ∧ (st V c n h).2.1 (ix2 q 0) = BitVec.ofNat 32 (cnt (within (D V c q) 1) (2048 * (n + 1)))
    ∧ (st V c n h).2.2 (ix2 q 0) = BitVec.ofNat 32 (cnt (within (D V c q) 34) (2048 * (n + 1)))
  | 0, h => by
    have hc : cond (grid0.coords ⟨0, h⟩) := (cond_iff _).mpr rfl
    refine step_at V c ⟨0, h⟩ q _ ?_ ?_ ?_ <;> (rw [if_pos hc]; unfold k0_pay4; pointwise; rfl)
  | n + 1, h => by
    have hc : ¬ cond (grid0.coords ⟨n + 1, h⟩) := fun e => Nat.succ_ne_zero n ((cond_iff _).mp e)
    obtain ⟨h1, h2, h3⟩ := st_at c q n (Nat.lt_of_succ_lt h)
    refine step_at V c ⟨n + 1, h⟩ q _ ?_ ?_ ?_ <;> rw [if_neg hc]
    exacts [h1, h2, h3]

/-- The last point. -/
def last : Fin cfg0.N := ⟨48, lt_of_lt_of_eq (by decide) N_0.symm⟩

/-- The three counts at the end. -/
theorem cnt_arr (c : Dev nD) :
    ((dat V c).arrAt 3 cfg0.N = fun i => BitVec.ofNat 32 (ball (D V c (i 0)) (-32)))
    ∧ ((dat V c).arrAt 4 cfg0.N = fun i => BitVec.ofNat 32 (ball (D V c (i 0)) 1))
    ∧ ((dat V c).arrAt 5 cfg0.N = fun i => BitVec.ofNat 32 (ball (D V c (i 0)) 34)) := by
  have key (q : Fin 1024) := st_at V c q last.val last.isLt
  refine ⟨?_, ?_, ?_⟩
  · refine (dat V c).arrAt_eq_of_after_last 3 last (by decide +kernel) _ fun j => ?_
    obtain ⟨q, rfl⟩ : ∃ (q : Fin 1024), j = ix2 q 0 := ⟨j 0, by funext a; fin_cases a; · rfl
                                                                exact Subsingleton.elim (α := Fin 1) _ _⟩
    blk_simp
    rw [after_3]
    exact (key q).1
  · refine (dat V c).arrAt_eq_of_after_last 4 last (by decide +kernel) _ fun j => ?_
    obtain ⟨q, rfl⟩ : ∃ (q : Fin 1024), j = ix2 q 0 := ⟨j 0, by funext a; fin_cases a; · rfl
                                                                exact Subsingleton.elim (α := Fin 1) _ _⟩
    blk_simp
    rw [after_4]
    exact (key q).2.1
  · refine (dat V c).arrAt_eq_of_after_last 5 last (by decide +kernel) _ fun j => ?_
    obtain ⟨q, rfl⟩ : ∃ (q : Fin 1024), j = ix2 q 0 := ⟨j 0, by funext a; fin_cases a; · rfl
                                                                exact Subsingleton.elim (α := Fin 1) _ _⟩
    blk_simp
    rw [after_5]
    exact (key q).2.2

end R0

end Cert.KernelIdeal.Hand
-- ==== Proof.Ideal.ValR1.lean ====
/-
Region 1, in values: from the distances and the first three counts, the radius of every query.
-/
module

public import proofs.«01_k».proof.Proof.Ideal.R1
public import proofs.«01_k».proof.Proof.Pure.Ops
public import proofs.«01_k».proof.Proof.Pure.Radius
public import Idealize.ShloMosaic.Lib.Pipeline.ValueKit

@[expose] public section

set_option maxRecDepth 16384

noncomputable section

namespace Cert.KernelIdeal.Hand

open Idealize.ShloMosaic Idealize.ShloMosaic.TcCoe
open Cert.Pure Gen

namespace R1

/-- The pass of a step. -/
theorem coord0 (t : Fin cfg1.N) : (grid1.coords t 0).val = t.val / 49 := by
  have ht : t.val < 147 := Nat.lt_of_lt_of_eq t.isLt N_1
  have e : (grid1.coords t 0).val = t.val / 49 % 3 := Pipeline.Grid.coords_val t 0 (by decide) rfl
  rw [e]; omega

/-- The tile of a step. -/
theorem coord1 (t : Fin cfg1.N) : (grid1.coords t 1).val = t.val % 49 := by
  have e : (grid1.coords t 1).val = t.val / 1 % 49 := Pipeline.Grid.coords_val t 1 (by decide) rfl
  rw [e, Nat.div_one]

/-- The width of pass `r`, and the lower end before it. -/
def W (r : ℕ) : ℕ := if r = 0 then 9 else if r = 1 then 3 else 1
/-- The lower end before pass `r`. -/
def LO (D : ℕ → ℤ) (r : ℕ) : ℕ := if r = 0 then lo0 D else if r = 1 then lo1 D else if r = 2 then lo2 D else radius D

/-- A pass moves the lower end by its width, once for each count below a hundred. -/
theorem LO_succ (D : ℕ → ℤ) (r : ℕ) (h : r < 3) : LO D (r + 1) = LO D r + W r * jump D (LO D r) (W r) := by
  obtain rfl | rfl | rfl : r = 0 ∨ r = 1 ∨ r = 2 := by omega
  · simp [LO, W, lo1]
  · simp [LO, W, lo2]
  · simp [LO, W, radius]

/-- The lower end stays small. -/
theorem LO_le (D : ℕ → ℤ) (r : ℕ) : LO D r ≤ 138 := by
  have h := radius_le' D
  have h2 : lo2 D ≤ radius D := Nat.le_add_right _ _
  have h1 : lo1 D ≤ lo2 D := Nat.le_add_right _ _
  have h0 : lo0 D ≤ lo1 D := Nat.le_add_right _ _
  unfold LO
  split
  · omega
  · split
    · omega
    · split <;> omega

/-- A width is at most nine. -/
theorem W_le (r : ℕ) : W r ≤ 9 := by unfold W; split <;> [skip; split] <;> omega

/-- The width as the program selects it. -/
theorem wid_eq (t : Fin cfg1.N) : wid (grid1.coords t) = BitVec.ofNat 32 (W (t.val / 49)) := by
  have ht : t.val < 147 := Nat.lt_of_lt_of_eq t.isLt N_1
  unfold wid
  rw [coord0]
  obtain h | h | h : t.val / 49 = 0 ∨ t.val / 49 = 1 ∨ t.val / 49 = 2 := by omega
  all_goals rw [h]; decide

/-- A comparison with a hundred, as a number. -/
theorem flag_word (n : ℕ) (hn : n < 2147483648) : (IntOp.cmpi .slt (BitVec.ofNat 32 n) 100#32).setWidth 32 = BitVec.ofNat 32 (if n < 100 then 1 else 0) := by
  have h : IntOp.cmpi .slt (BitVec.ofNat 32 n) 100#32 = 1#1 ↔ (BitVec.ofNat 32 n).toInt < (100#32).toInt := IntOp.cmpi_slt
  rw [toInt_ofNat n hn] at h
  by_cases hc : n < 100
  · rw [if_pos hc, h.mpr (by show (n : ℤ) < 100; omega)]; rfl
  · rw [if_neg hc]
    have : IntOp.cmpi .slt (BitVec.ofNat 32 n) 100#32 = 0#1 := by
      have h2 : ¬ IntOp.cmpi .slt (BitVec.ofNat 32 n) 100#32 = 1#1 := fun e => hc (by have : (n : ℤ) < 100 := h.mp e; omega)
      generalize IntOp.cmpi .slt (BitVec.ofNat 32 n) 100#32 = b at h2
      revert b; decide
    rw [this]; rfl

/-- A threshold, read as an integer. -/
theorem thr (lo w : ℕ) (hl : lo ≤ 138) (hw : w ≤ 99) :
    (IntOp.subi (IntOp.addi (BitVec.ofNat 32 lo) (BitVec.ofNat 32 w)) 65#32).toInt = (lo : ℤ) + w - 65 := by
  show (BitVec.ofNat 32 lo + BitVec.ofNat 32 w - BitVec.ofNat 32 65).toInt = _
  rw [← BitVec.ofNat_add, BitVec.toInt_sub, toInt_ofNat _ (by omega), toInt_ofNat _ (by omega)]
  rw [Int.bmod_eq_of_le (by norm_num; omega) (by norm_num; omega)]
  push_cast; ring

/-- A count of points is at most their number. -/
theorem ball_le (D : ℕ → ℤ) (x : ℤ) : ball D x ≤ 100352 := cnt_le _ _

/-- Three flags, summed, are the jump. -/
theorem jump_word (D : ℕ → ℤ) (lo w : ℕ) :
    IntOp.addi (IntOp.addi (BitVec.setWidth 32 (IntOp.cmpi .slt (BitVec.ofNat 32 (ball D ((lo : ℤ) + w - 65))) 100#32))
        (BitVec.setWidth 32 (IntOp.cmpi .slt (BitVec.ofNat 32 (ball D ((lo : ℤ) + 2 * w - 65))) 100#32)))
        (BitVec.setWidth 32 (IntOp.cmpi .slt (BitVec.ofNat 32 (ball D ((lo : ℤ) + 3 * w - 65))) 100#32))
      = BitVec.ofNat 32 (jump D lo w) := by
  have h1 := ball_le D ((lo : ℤ) + w - 65)
  have h2 := ball_le D ((lo : ℤ) + 2 * w - 65)
  have h3 := ball_le D ((lo : ℤ) + 3 * w - 65)
  rw [flag_word _ (by omega), flag_word _ (by omega), flag_word _ (by omega)]
  unfold jump
  show BitVec.ofNat 32 _ + BitVec.ofNat 32 _ + BitVec.ofNat 32 _ = _
  rw [← BitVec.ofNat_add, ← BitVec.ofNat_add]

/-- The blocks each step takes. -/
theorem idx : ∀ t : Fin grid1.N, win1_0.index t = ![0, (grid1.coords t 1).val] ∧ win1_1.index t = ![0, 0] ∧ win1_2.index t = ![0, 0] ∧ win1_3.index t = ![0, 0]
    ∧ win1_4.index t = ![0, 0] := by
  decide +kernel

variable (V : Vals Ideal) (c : Dev nD) (D : Fin 1024 → ℕ → ℤ) (hb : ∀ q n, -64 ≤ D q n ∧ D q n ≤ 127)
  (hd : ∀ (q : Fin 1024) (n : Fin 100352), (V c main_v3_0 (ix2 q n) : BitVec 8).toInt = D q n.val)
  (h1 : ∀ q : Fin 1024, (V c main_v3_1 (ix2 q 0) : BitVec 32) = BitVec.ofNat 32 (ball (D q) (-32)))
  (h2 : ∀ q : Fin 1024, (V c main_v3_2 (ix2 q 0) : BitVec 32) = BitVec.ofNat 32 (ball (D q) 1))
  (h3 : ∀ q : Fin 1024, (V c main_v3_3 (ix2 q 0) : BitVec 32) = BitVec.ofNat 32 (ball (D q) 34))

include hd in
theorem iblk_0 (t : Fin cfg1.N) (q : Fin 1024) (k : Fin 2048) : (iblk V c 0 t (ix2 q k) : BitVec 8).toInt = D q (2048 * (t.val % 49) + k.val) := by
  have hk := k.isLt
  rw [← hd q ⟨2048 * (t.val % 49) + k.val, by omega⟩]
  congr 1
  blk_ext [iblk, idx t, coord1 t]

include h1 in
theorem iblk_1 (t : Fin cfg1.N) (q : Fin 1024) : (iblk V c 1 t (ix2 q 0) : BitVec 32) = BitVec.ofNat 32 (ball (D q) (-32)) := by
  rw [← h1]; blk_ext [iblk, idx t]
include h2 in
theorem iblk_2 (t : Fin cfg1.N) (q : Fin 1024) : (iblk V c 2 t (ix2 q 0) : BitVec 32) = BitVec.ofNat 32 (ball (D q) 1) := by
  rw [← h2]; blk_ext [iblk, idx t]
include h3 in
theorem iblk_3 (t : Fin cfg1.N) (q : Fin 1024) : (iblk V c 3 t (ix2 q 0) : BitVec 32) = BitVec.ofNat 32 (ball (D q) 34) := by
  rw [← h3]; blk_ext [iblk, idx t]

include hb hd in
/-- A tile's flags, counted. -/
theorem flags (t : Fin cfg1.N) (q : Fin 1024) (x : BitVec 32) (z : ℤ) (hx : x.toInt = z) :
    (Finset.univ : Finset (Fin 2048)).fold IntOp.addi 0#32
        (fun k => BitVec.setWidth 32 (IntOp.cmpi .sle (BitVec.signExtend 32 (iblk V c 0 t (ix2 q k) : BitVec 8)) x))
      = BitVec.ofNat 32 (blk (within (D q) z) (2048 * (t.val % 49)) 2048) := by
  refine fold_blk 2048 _ _ _ fun k => ?_
  rw [IntOp.cmpi_sle, toInt_sext, iblk_0 V c D hd, hx]
  unfold within
  rw [decide_eq_true_eq]

/-- What the scratch holds of query `q` before point `t`: the lower end, and within a pass the three counts so far. -/
def Inv (t : ℕ) (q : Fin 1024) (p : Scr Ideal) : Prop :=
  (t ≠ 0 → p.1 (ix2 q 0) = BitVec.ofNat 32 (LO (D q) (t / 49)))
  ∧ (t % 49 ≠ 0 → p.2.1 (ix2 q 0) = BitVec.ofNat 32 (cnt (within (D q) ((LO (D q) (t / 49) : ℤ) + W (t / 49) - 65)) (2048 * (t % 49)))
    ∧ p.2.2.1 (ix2 q 0) = BitVec.ofNat 32 (cnt (within (D q) ((LO (D q) (t / 49) : ℤ) + 2 * W (t / 49) - 65)) (2048 * (t % 49)))
    ∧ p.2.2.2 (ix2 q 0) = BitVec.ofNat 32 (cnt (within (D q) ((LO (D q) (t / 49) : ℤ) + 3 * W (t / 49) - 65)) (2048 * (t % 49))))

include h1 h2 h3 in
theorem low_at (t : Fin cfg1.N) (q : Fin 1024) (p : Scr Ideal) (hp : Inv D t.val q p) :
    low (grid1.coords t) (iblk V c 0 t) (iblk V c 1 t) (iblk V c 2 t) (iblk V c 3 t) p (ix2 q 0) = BitVec.ofNat 32 (LO (D q) (t.val / 49)) := by
  unfold low
  by_cases h : t.val = 0
  · rw [if_pos ((cond0_iff t).mpr h)]
    unfold k1_pay4
    pointwise
    rw [iblk_1 V c D h1, iblk_2 V c D h2, iblk_3 V c D h3]
    have j := jump_word (D q) 0 33
    norm_num at j
    rw [j, h]
    show BitVec.ofNat 32 33 * BitVec.ofNat 32 _ = _
    rw [← BitVec.ofNat_mul, show LO (D q) (0 / 49) = 33 * jump (D q) 0 33 by simp [LO, lo0]]
  · rw [if_neg (fun e => h ((cond0_iff t).mp e))]
    exact hp.1 h

include hb hd h1 h2 h3 in
theorem counts_at (t : Fin cfg1.N) (q : Fin 1024) (p : Scr Ideal) (hp : Inv D t.val q p) :
    cnt1 (grid1.coords t) (iblk V c 0 t) (iblk V c 1 t) (iblk V c 2 t) (iblk V c 3 t) p (ix2 q 0)
        = BitVec.ofNat 32 (cnt (within (D q) ((LO (D q) (t.val / 49) : ℤ) + W (t.val / 49) - 65)) (2048 * (t.val % 49 + 1)))
    ∧ cnt2 (grid1.coords t) (iblk V c 0 t) (iblk V c 1 t) (iblk V c 2 t) (iblk V c 3 t) p (ix2 q 0)
        = BitVec.ofNat 32 (cnt (within (D q) ((LO (D q) (t.val / 49) : ℤ) + 2 * W (t.val / 49) - 65)) (2048 * (t.val % 49 + 1)))
    ∧ cnt3 (grid1.coords t) (iblk V c 0 t) (iblk V c 1 t) (iblk V c 2 t) (iblk V c 3 t) p (ix2 q 0)
        = BitVec.ofNat 32 (cnt (within (D q) ((LO (D q) (t.val / 49) : ℤ) + 3 * W (t.val / 49) - 65)) (2048 * (t.val % 49 + 1))) := by
  have hl := low_at V c D h1 h2 h3 t q p hp
  have hw := wid_eq t
  have hL := LO_le (D q) (t.val / 49)
  have hW := W_le (t.val / 49)
  have fin (z : ℤ) (a : BitVec 32) (x : BitVec 32) (hx : x.toInt = z) (ha : a = BitVec.ofNat 32 (cnt (within (D q) z) (2048 * (t.val % 49)))) :
      IntOp.addi a ((Finset.univ : Finset (Fin 2048)).fold IntOp.addi 0#32
        (fun k => BitVec.setWidth 32 (IntOp.cmpi .sle (BitVec.signExtend 32 (iblk V c 0 t (ix2 q k) : BitVec 8)) x)))
        = BitVec.ofNat 32 (cnt (within (D q) z) (2048 * (t.val % 49 + 1))) := by
    rw [flags V c D hb hd t q x z hx, ha]
    show BitVec.ofNat 32 _ + BitVec.ofNat 32 _ = _
    rw [← BitVec.ofNat_add, mul_add, mul_one, cnt_add]
  refine ⟨?_, ?_, ?_⟩
  · unfold cnt1 k1_pay10 k1_pay9
    pointwise
    refine fin _ _ _ ?_ ?_
    · rw [hl]
      refine (congrArg (fun w => (IntOp.subi (IntOp.addi (BitVec.ofNat 32 (LO (D q) (t.val / 49))) w) 65#32).toInt) hw).trans ?_
      exact thr _ _ hL (by omega)
    · by_cases h : t.val % 49 = 0
      · rw [if_pos ((cond1_iff t).mpr h), h]; unfold k1_pay6 k1_pay5; pointwise; rfl
      · rw [if_neg (fun e => h ((cond1_iff t).mp e))]; exact (hp.2 h).1
  · unfold cnt2 k1_pay1 k1_pay9
    pointwise
    refine fin _ _ _ ?_ ?_
    · rw [hl, hw, show Scalar.muli 2#32 (BitVec.ofNat 32 (W (t.val / 49))) = BitVec.ofNat 32 (2 * W (t.val / 49)) from (BitVec.ofNat_mul _ _).symm]
      rw [thr _ _ hL (by omega)]; push_cast; ring
    · by_cases h : t.val % 49 = 0
      · rw [if_pos ((cond1_iff t).mpr h), h]; unfold k1_pay7 k1_pay5; pointwise; rfl
      · rw [if_neg (fun e => h ((cond1_iff t).mp e))]; exact (hp.2 h).2.1
  · unfold cnt3 k1_pay2 k1_pay9
    pointwise
    refine fin _ _ _ ?_ ?_
    · rw [hl, hw, show Scalar.muli 3#32 (BitVec.ofNat 32 (W (t.val / 49))) = BitVec.ofNat 32 (3 * W (t.val / 49)) from (BitVec.ofNat_mul _ _).symm]
      rw [thr _ _ hL (by omega)]; push_cast; ring
    · by_cases h : t.val % 49 = 0
      · rw [if_pos ((cond1_iff t).mpr h), h]; unfold k1_pay8 k1_pay5; pointwise; rfl
      · rw [if_neg (fun e => h ((cond1_iff t).mp e))]; exact (hp.2 h).2.2

include hb hd h1 h2 h3 in
/-- At a pass's last point the next lower end. -/
theorem res_at (t : Fin cfg1.N) (ht : t.val % 49 = 48) (q : Fin 1024) (p : Scr Ideal) (hp : Inv D t.val q p) :
    res (grid1.coords t) (iblk V c 0 t) (iblk V c 1 t) (iblk V c 2 t) (iblk V c 3 t) p (ix2 q 0) = BitVec.ofNat 32 (LO (D q) (t.val / 49 + 1)) := by
  have hN : t.val < 147 := Nat.lt_of_lt_of_eq t.isLt N_1
  have hl := low_at V c D h1 h2 h3 t q p hp
  obtain ⟨c1, c2, c3⟩ := counts_at V c D hb hd h1 h2 h3 t q p hp
  rw [ht] at c1 c2 c3
  unfold res k1_pay3
  pointwise
  rw [hl, c1, c2, c3, wid_eq]
  have j := jump_word (D q) (LO (D q) (t.val / 49)) (W (t.val / 49))
  unfold ball at j
  refine (congrArg (fun x => BitVec.ofNat 32 (LO (D q) (t.val / 49)) + BitVec.ofNat 32 (W (t.val / 49)) * x) j).trans ?_
  rw [← BitVec.ofNat_mul, ← BitVec.ofNat_add, LO_succ _ _ (by omega)]

include hb hd h1 h2 h3 in
theorem inv_step (t : Fin cfg1.N) (q : Fin 1024) (p : Scr Ideal) (hp : Inv D t.val q p) :
    Inv D (t.val + 1) q (step (grid1.coords t) (iblk V c 0 t) (iblk V c 1 t) (iblk V c 2 t) (iblk V c 3 t) p) := by
  unfold step
  by_cases h : t.val % 49 = 48
  · refine ⟨fun _ => ?_, fun e => absurd (by omega) e⟩
    dsimp only
    rw [if_pos ((cond2_iff t).mpr h), res_at V c D hb hd h1 h2 h3 t h q p hp]
    rw [show (t.val + 1) / 49 = t.val / 49 + 1 by omega]
  · have e1 : (t.val + 1) / 49 = t.val / 49 := by omega
    have e2 : (t.val + 1) % 49 = t.val % 49 + 1 := by omega
    refine ⟨fun _ => ?_, fun _ => ?_⟩
    · dsimp only
      rw [if_neg (fun e => h ((cond2_iff t).mp e)), low_at V c D h1 h2 h3 t q p hp, e1]
    · rw [e1, e2]
      exact counts_at V c D hb hd h1 h2 h3 t q p hp

include hb hd h1 h2 h3 in
theorem st_inv (q : Fin 1024) : ∀ n (h : n < cfg1.N), Inv D (n + 1) q (st V c n h)
  | 0, h => inv_step V c D hb hd h1 h2 h3 ⟨0, h⟩ q _ ⟨fun e => absurd rfl e, fun e => absurd rfl e⟩
  | n + 1, h => inv_step V c D hb hd h1 h2 h3 ⟨n + 1, h⟩ q _ (st_inv q n (Nat.lt_of_succ_lt h))

/-- The last point. -/
def last : Fin cfg1.N := ⟨146, lt_of_lt_of_eq (by decide) N_1.symm⟩

include hb hd h1 h2 h3 in
/-- The array the region leaves: every query's radius. -/
theorem arr : (dat V c).arrAt 4 cfg1.N = fun i => BitVec.ofNat 32 (radius (D ⟨(i 0).val, (i 0).isLt⟩)) := by
  refine (dat V c).arrAt_eq_of_after_last 4 last (by decide +kernel) _ fun j => ?_
  obtain ⟨q, rfl⟩ : ∃ (q : Fin 1024), j = ix2 q 0 := ⟨j 0, by funext a; fin_cases a; · rfl
                                                              exact Subsingleton.elim (α := Fin 1) _ _⟩
  blk_simp
  rw [after_4, out, dif_neg (by decide)]
  exact res_at V c D hb hd h1 h2 h3 last rfl q _ (st_inv V c D hb hd h1 h2 h3 q 145 (lt_of_lt_of_eq (by decide) N_1.symm))

end R1

end Cert.KernelIdeal.Hand
-- ==== Proof.Ideal.ValR2.lean ====
/-
Region 2, in values: the items inside the radius and the matches among them, counted; the ties and the matching ties,
counted by chunks of 128 positions and packed into words of 16.
-/
module

public import proofs.«01_k».proof.Proof.Ideal.R2
public import proofs.«01_k».proof.Proof.Pure.Ops
public import proofs.«01_k».proof.Proof.Pure.Radius
public import Idealize.ShloMosaic.Lib.Pipeline.ValueKit

@[expose] public section

set_option maxRecDepth 16384

noncomputable section

namespace Cert.KernelIdeal.Hand

open Idealize.ShloMosaic Idealize.ShloMosaic.TcCoe
open Cert.Pure Gen

namespace R2

/-- The grid has one axis. -/
theorem coord (t : Fin cfg2.N) : (grid2.coords t 0).val = t.val := by
  have ht : t.val < 49 := Nat.lt_of_lt_of_eq t.isLt N_2
  have e : (grid2.coords t 0).val = t.val / 1 % 49 := Pipeline.Grid.coords_val t 0 (by decide) rfl
  rw [e]; omega

/-! ## The two constant matrices -/

/-- Column `j` of the first keeps the chunk `j` of the tile. -/
theorem seg_at (x : Fin 2048) (j : Fin 16) : (k2_pay16 (F := Ideal)) (ix2 x j) = (((if x.val / 128 = j.val then 1 else 0 : ℕ) : ℝ) : EReal) := by
  unfold k2_pay16
  pointwise
  refine (flag_real .f32 _ (decide (x.val / 128 = j.val)) ?_).trans ?_
  · rw [decide_eq_true_eq, IntOp.cmpi_eq]
    have key : ∀ x : Fin 2048, Scalar.select
        (IntOp.andi
          (IntOp.cmpi CmpIPredicate.ne
            (IntOp.subi (BitVec.setWidth 32 (IntOp.cmpi CmpIPredicate.sgt (BitVec.ofNat 32 x.val) 0#32))
              (BitVec.setWidth 32 (IntOp.cmpi CmpIPredicate.slt (BitVec.ofNat 32 x.val) 0#32)))
            (Scalar.subi (Scalar.extui (Scalar.cmpi CmpIPredicate.sgt 128#32 0#32))
              (Scalar.extui (Scalar.cmpi CmpIPredicate.slt 128#32 0#32))))
          (IntOp.cmpi CmpIPredicate.ne (IntOp.remsi ArithUnit.vector (BitVec.ofNat 32 x.val) 128#32) 0#32))
        (IntOp.subi (IntOp.divsi ArithUnit.vector (BitVec.ofNat 32 x.val) 128#32) 1#32)
        (IntOp.divsi ArithUnit.vector (BitVec.ofNat 32 x.val) 128#32) = BitVec.ofNat 32 (x.val / 128) := by decide +kernel
    rw [key x]
    have h1 := x.isLt
    have h2 := j.isLt
    refine ⟨fun e => ?_, fun e => by rw [e]⟩
    have := congrArg BitVec.toInt e
    rw [toInt_ofNat _ (by omega), toInt_ofNat _ (by omega)] at this
    omega
  · by_cases h : x.val / 128 = j.val <;> simp [h]

/-- Column `j` of the second holds the powers of two of the positions that word `j` of the tile packs. -/
theorem pow_at (x : Fin 2048) (j : Fin 128) :
    (k2_pay1 (F := Ideal) k2_pay19 lanes k2_pay20 k2_pay21 k2_pay22 k2_pay23) (ix2 x j) = (((if x.val / 16 = j.val then 2 ^ (x.val % 16) else 0 : ℕ) : ℝ) : EReal) := by
  unfold k2_pay1 k2_pay19 k2_pay21 k2_pay22 k2_pay23 k2_pay20
  pointwise
  have key : ∀ x : Fin 2048, Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 x.val) 16#32) 0#32))
      (IntOp.subi (IntOp.divsi ArithUnit.vector (BitVec.ofNat 32 x.val) 16#32) 1#32)
      (IntOp.divsi ArithUnit.vector (BitVec.ofNat 32 x.val) 16#32) = BitVec.ofNat 32 (x.val / 16) := by decide +kernel
  have key2 : ∀ x : Fin 2048, (IntOp.shli ArithUnit.vector (1#32)
      (Scalar.select
        (IntOp.andi
          (IntOp.xori
            (IntOp.cmpi CmpIPredicate.slt
              (IntOp.remsi ArithUnit.vector (BitVec.ofNat 32 x.val)
                (Scalar.select (Scalar.cmpi CmpIPredicate.eq 16#32 0#32) 1#32 16#32))
              0#32)
            (Scalar.cmpi CmpIPredicate.slt
              (Scalar.select (Scalar.cmpi CmpIPredicate.eq 16#32 0#32) 1#32 16#32) 0#32))
          (IntOp.cmpi CmpIPredicate.ne
            (IntOp.remsi ArithUnit.vector (BitVec.ofNat 32 x.val)
              (Scalar.select (Scalar.cmpi CmpIPredicate.eq 16#32 0#32) 1#32 16#32))
            0#32))
        (IntOp.addi
          (IntOp.remsi ArithUnit.vector (BitVec.ofNat 32 x.val)
            (Scalar.select (Scalar.cmpi CmpIPredicate.eq 16#32 0#32) 1#32 16#32))
          lanes)
        (IntOp.remsi ArithUnit.vector (BitVec.ofNat 32 x.val)
          (Scalar.select (Scalar.cmpi CmpIPredicate.eq 16#32 0#32) 1#32 16#32)))) = BitVec.ofNat 32 (2 ^ (x.val % 16)) := by decide +kernel
  rw [key x, key2 x]
  have h1 := x.isLt
  have h2 := j.isLt
  have hp : 2 ^ (x.val % 16) ≤ 2 ^ 15 := Nat.pow_le_pow_right (by omega) (by omega)
  show ((((Scalar.select (IntOp.cmpi CmpIPredicate.eq (BitVec.ofNat 32 (x.val / 16)) (BitVec.ofNat 32 j.val)) (BitVec.ofNat 32 (2 ^ (x.val % 16))) 0#32).toInt : ℤ) : ℝ) : EReal) = _
  by_cases h : x.val / 16 = j.val
  · rw [if_pos h, h, show IntOp.cmpi CmpIPredicate.eq (BitVec.ofNat 32 j.val) (BitVec.ofNat 32 j.val) = 1#1 from IntOp.cmpi_eq.mpr rfl]
    show ((((BitVec.ofNat 32 (2 ^ (x.val % 16))).toInt : ℤ) : ℝ) : EReal) = _
    rw [toInt_ofNat _ (by omega), Int.cast_natCast]
  · rw [if_neg h]
    have e : ¬ IntOp.cmpi CmpIPredicate.eq (BitVec.ofNat 32 (x.val / 16)) (BitVec.ofNat 32 j.val) = 1#1 := fun e => by
      have := congrArg BitVec.toInt (IntOp.cmpi_eq.mp e)
      rw [toInt_ofNat _ (by omega), toInt_ofNat _ (by omega)] at this
      omega
    refine (congrArg (fun z : BitVec 32 => (((z.toInt : ℤ) : ℝ) : EReal)) (if_neg e)).trans ?_
    simp

/-- The input blocks each step takes. -/
theorem idx : ∀ t : Fin grid2.N, win2_0.index t = ![0, (grid2.coords t 0).val] ∧ win2_1.index t = ![(grid2.coords t 0).val, 0, 0] ∧ win2_2.index t = ![0, 0]
    ∧ win2_3.index t = ![0, 0] := by
  decide +kernel
/-- The output blocks each step writes. -/
theorem idx_out : ∀ t : Fin grid2.N, win2_6.index t = ![(grid2.coords t 0).val, 0, 0] ∧ win2_7.index t = ![(grid2.coords t 0).val, 0, 0]
    ∧ win2_8.index t = ![0, (grid2.coords t 0).val] ∧ win2_9.index t = ![0, (grid2.coords t 0).val] := by
  decide +kernel

variable (V : Vals Ideal) (c : Dev nD) (D : Fin 1024 → ℕ → ℤ) (M : Fin 1024 → ℕ → Bool)
  (hd : ∀ (q : Fin 1024) (n : Fin 100352), (V c main_v3_0 (ix2 q n) : BitVec 8).toInt = D q n.val)
  (hr : ∀ q : Fin 1024, (V c main_v4 (ix2 q 0) : BitVec 32) = BitVec.ofNat 32 (radius (D q)))
  (hM : ∀ (q : Fin 1024) (t : Fin 49) (k : Fin 2048), (V c main_v5 (ix3 t 0 k) : BitVec 32) = V c main_v2 (ix2 q 0) ↔ M q (2048 * t.val + k.val) = true)

include hd in
theorem iblk_0 (t : Fin cfg2.N) (q : Fin 1024) (k : Fin 2048) : (iblk V c 0 t (ix2 q k) : BitVec 8).toInt = D q (2048 * t.val + k.val) := by
  have ht : t.val < 49 := Nat.lt_of_lt_of_eq t.isLt N_2
  have hk := k.isLt
  rw [← hd q ⟨2048 * t.val + k.val, by omega⟩]
  congr 1
  blk_ext [iblk, idx t, coord t]

include hM in
theorem iblk_12 (t : Fin cfg2.N) (q : Fin 1024) (k : Fin 2048) : (iblk V c 1 t (ix3 0 0 k) : BitVec 32) = iblk V c 2 t (ix2 q 0) ↔ M q (2048 * t.val + k.val) = true := by
  have ht : t.val < 49 := Nat.lt_of_lt_of_eq t.isLt N_2
  refine Iff.trans ?_ (hM q ⟨t.val, ht⟩ k)
  have e1 : (iblk V c 1 t (ix3 0 0 k) : BitVec 32) = V c main_v5 (ix3 ⟨t.val, ht⟩ 0 k) := by blk_ext [iblk, idx t, coord t]
  have e2 : (iblk V c 2 t (ix2 q 0) : BitVec 32) = V c main_v2 (ix2 q 0) := by blk_ext [iblk, idx t]
  rw [e1, e2]

include hr in
theorem iblk_3 (t : Fin cfg2.N) (q : Fin 1024) : (iblk V c 3 t (ix2 q 0) : BitVec 32) = BitVec.ofNat 32 (radius (D q)) := by
  rw [← hr]; blk_ext [iblk, idx t]

/-- A threshold, read as an integer. -/
theorem thr (lo w : ℕ) (hl : lo ≤ 138) (hw : w ≤ 99) : (IntOp.subi (BitVec.ofNat 32 lo) (BitVec.ofNat 32 w)).toInt = (lo : ℤ) - w := by
  show (BitVec.ofNat 32 lo - BitVec.ofNat 32 w).toInt = _
  rw [BitVec.toInt_sub, toInt_ofNat _ (by omega), toInt_ofNat _ (by omega), Int.bmod_eq_of_le (by norm_num; omega) (by norm_num; omega)]

include hd hr in
theorem inside_flag (t : Fin cfg2.N) (q : Fin 1024) (k : Fin 2048) :
    IntOp.cmpi .sle (BitVec.signExtend 32 (iblk V c 0 t (ix2 q k) : BitVec 8)) (IntOp.subi (iblk V c 3 t (ix2 q 0) : BitVec 32) 65#32) = 1#1
      ↔ inside (D q) (2048 * t.val + k.val) = true := by
  rw [IntOp.cmpi_sle, toInt_sext, iblk_0 V c D hd, iblk_3 V c D hr, thr _ 65 (radius_le' _) (by omega)]
  unfold inside within
  rw [decide_eq_true_eq]; rfl

include hd hr in
theorem tie_flag (t : Fin cfg2.N) (q : Fin 1024) (k : Fin 2048) :
    IntOp.cmpi .eq (BitVec.signExtend 32 (iblk V c 0 t (ix2 q k) : BitVec 8)) (IntOp.subi (iblk V c 3 t (ix2 q 0) : BitVec 32) 64#32) = 1#1
      ↔ tie (D q) (2048 * t.val + k.val) = true := by
  rw [IntOp.cmpi_eq, ← BitVec.toInt_inj, toInt_sext, iblk_0 V c D hd, iblk_3 V c D hr, thr _ 64 (radius_le' _) (by omega)]
  unfold tie at_
  rw [decide_eq_true_eq]; rfl

include hM in
theorem match_flag (t : Fin cfg2.N) (q : Fin 1024) (k : Fin 2048) :
    IntOp.cmpi .eq (iblk V c 1 t (ix3 0 0 k) : BitVec 32) (iblk V c 2 t (ix2 q 0)) = 1#1 ↔ M q (2048 * t.val + k.val) = true := by
  rw [IntOp.cmpi_eq]; exact iblk_12 V c M hM t q k

/-! ## The two counts -/

/-- The matches inside. -/
def hit (q : Fin 1024) (n : ℕ) : Bool := inside (D q) n && M q n

include hd hr hM in
theorem step_at (t : Fin cfg2.N) (q : Fin 1024) (p : Cnt Ideal)
    (h1 : (if cond (grid2.coords t) then k2_pay4 else p.1) (ix2 q 0) = BitVec.ofNat 32 (cnt (inside (D q)) (2048 * t.val)))
    (h2 : (if cond (grid2.coords t) then k2_pay5 else p.2) (ix2 q 0) = BitVec.ofNat 32 (cnt (hit D M q) (2048 * t.val))) :
    (step (grid2.coords t) (iblk V c 0 t) (iblk V c 1 t) (iblk V c 2 t) (iblk V c 3 t) p).1 (ix2 q 0) = BitVec.ofNat 32 (cnt (inside (D q)) (2048 * (t.val + 1)))
    ∧ (step (grid2.coords t) (iblk V c 0 t) (iblk V c 1 t) (iblk V c 2 t) (iblk V c 3 t) p).2 (ix2 q 0) = BitVec.ofNat 32 (cnt (hit D M q) (2048 * (t.val + 1))) := by
  have fin (p : ℕ → Bool) (a : BitVec 32) (b : Fin 2048 → BitVec 1) (hb : ∀ k, b k = 1#1 ↔ p (2048 * t.val + k.val) = true)
      (ha : a = BitVec.ofNat 32 (cnt p (2048 * t.val))) :
      IntOp.addi a ((Finset.univ : Finset (Fin 2048)).fold IntOp.addi 0#32 (fun k => BitVec.setWidth 32 (b k))) = BitVec.ofNat 32 (cnt p (2048 * (t.val + 1))) := by
    rw [fold_blk 2048 b p _ hb, ha]
    show BitVec.ofNat 32 _ + BitVec.ofNat 32 _ = _
    rw [← BitVec.ofNat_add, mul_add, mul_one, cnt_add]
  refine ⟨?_, ?_⟩
  · unfold step k2_pay14 k2_pay8 k2_pay7 k2_pay6
    pointwise
    exact fin (inside (D q)) _ _ (fun k => inside_flag V c D hd hr t q k) h1
  · unfold step k2_pay15 k2_pay11 k2_pay10 k2_pay8 k2_pay7 k2_pay6
    pointwise
    refine fin (hit D M q) _ _ (fun k => ?_) h2
    rw [andi_one, inside_flag V c D hd hr t q k, match_flag V c M hM t q k, hit, Bool.and_eq_true]

include hd hr hM in
theorem st_at (q : Fin 1024) : ∀ n (h : n < cfg2.N),
    (st V c n h).1 (ix2 q 0) = BitVec.ofNat 32 (cnt (inside (D q)) (2048 * (n + 1)))
    ∧ (st V c n h).2 (ix2 q 0) = BitVec.ofNat 32 (cnt (hit D M q) (2048 * (n + 1)))
  | 0, h => by
    have hc : cond (grid2.coords ⟨0, h⟩) := (cond_iff _).mpr rfl
    refine step_at V c D M hd hr hM ⟨0, h⟩ q _ ?_ ?_ <;> (rw [if_pos hc]; first | unfold k2_pay4 | unfold k2_pay5) <;> pointwise <;> rfl
  | n + 1, h => by
    have hc : ¬ cond (grid2.coords ⟨n + 1, h⟩) := fun e => Nat.succ_ne_zero n ((cond_iff _).mp e)
    obtain ⟨h1, h2⟩ := st_at q n (Nat.lt_of_succ_lt h)
    refine step_at V c D M hd hr hM ⟨n + 1, h⟩ q _ ?_ ?_ <;> rw [if_neg hc]
    exacts [h1, h2]

/-- The last point. -/
def last : Fin cfg2.N := ⟨48, lt_of_lt_of_eq (by decide) N_2.symm⟩

include hd hr hM in
theorem arr_4 : (dat V c).arrAt 4 cfg2.N = fun i => BitVec.ofNat 32 (cnt (inside (D ⟨(i 0).val, (i 0).isLt⟩)) 100352) := by
  refine (dat V c).arrAt_eq_of_after_last 4 last (by decide +kernel) _ fun j => ?_
  obtain ⟨q, rfl⟩ : ∃ (q : Fin 1024), j = ix2 q 0 := ⟨j 0, by funext a; fin_cases a; · rfl
                                                              exact Subsingleton.elim (α := Fin 1) _ _⟩
  blk_simp
  rw [after_4]
  exact (st_at V c D M hd hr hM q last.val last.isLt).1

include hd hr hM in
theorem arr_5 : (dat V c).arrAt 5 cfg2.N = fun i => BitVec.ofNat 32 (cnt (hit D M ⟨(i 0).val, (i 0).isLt⟩) 100352) := by
  refine (dat V c).arrAt_eq_of_after_last 5 last (by decide +kernel) _ fun j => ?_
  obtain ⟨q, rfl⟩ : ∃ (q : Fin 1024), j = ix2 q 0 := ⟨j 0, by funext a; fin_cases a; · rfl
                                                              exact Subsingleton.elim (α := Fin 1) _ _⟩
  blk_simp
  rw [after_5]
  exact (st_at V c D M hd hr hM q last.val last.isLt).2

/-! ## The chunks and the words -/

/-- A row of flags times the first matrix counts by chunks. -/
theorem chunk {φ : FTy} (a : ℕ) (p : ℕ → Bool) (u : Fin 2048 → EReal) (hu : ∀ x, u x = (((p (a + x.val)).toNat : ℕ) : ℝ)) (j : Fin 16) :
    FloatOps.fptosi (F := Ideal) (φ := φ) 32 (∑ x, u x * (k2_pay16 (F := Ideal)) (ix2 x j)) = BitVec.ofNat 32 (blk p (a + 128 * j.val) 128) := by
  have e : ∑ x ∈ Finset.range 2048, (p (a + x)).toNat * (if x / 128 = j.val then 1 else 0) = blk p (a + 128 * j.val) 128 := by
    have h := sum_stretch 128 16 j.val j.isLt (fun x => (p (a + x)).toNat) (by omega)
    simp only [mul_ite, mul_one, mul_zero]
    refine h.trans ?_
    unfold blk
    exact Finset.sum_congr rfl fun i _ => by rw [add_assoc]
  have hb := blk_le p (a + 128 * j.val) 128
  refine (dot_word 2048 u _ (fun x => p (a + x)) (fun x => if x / 128 = j.val then 1 else 0) hu (fun x => seg_at x j) (by rw [e]; omega)).trans ?_
  rw [e]

/-- A row of flags times the second packs words. -/
theorem packed {φ : FTy} (a : ℕ) (p : ℕ → Bool) (u : Fin 2048 → EReal) (hu : ∀ x, u x = (((p (16 * a + x.val)).toNat : ℕ) : ℝ)) (j : Fin 128) :
    FloatOps.fptosi (F := Ideal) (φ := φ) 32 (∑ x, u x * (k2_pay1 (F := Ideal) k2_pay19 lanes k2_pay20 k2_pay21 k2_pay22 k2_pay23) (ix2 x j))
      = BitVec.ofNat 32 (word p (a + j.val)) := by
  have e : ∑ x ∈ Finset.range 2048, (p (16 * a + x)).toNat * (if x / 16 = j.val then 2 ^ (x % 16) else 0) = word p (a + j.val) := by
    have h := sum_stretch 16 128 j.val j.isLt (fun x => (p (16 * a + x)).toNat * 2 ^ (x % 16)) (by omega)
    simp only [mul_ite, mul_zero]
    refine h.trans ?_
    unfold word pack
    refine Finset.sum_congr rfl fun i hi => ?_
    rw [Finset.mem_range] at hi
    rw [show 16 * a + (16 * j.val + i) = 16 * (a + j.val) + i by ring, show (16 * j.val + i) % 16 = i by omega]
    show (p (16 * (a + j.val) + i)).toNat * 2 ^ i = if p (16 * (a + j.val) + i) = true then 2 ^ i else 0
    cases p (16 * (a + j.val) + i) <;> simp
  have hb : word p (a + j.val) < 2 ^ 16 := pack_lt _ _
  refine (dot_word 2048 u _ (fun x => p (16 * a + x)) (fun x => if x / 16 = j.val then 2 ^ (x % 16) else 0) hu (fun x => pow_at x j) (by rw [e]; omega)).trans ?_
  rw [e]

include hd hr in
theorem tie_row (t : Fin cfg2.N) (q : Fin 1024) (k : Fin 2048) :
    k2_pay13 (iblk V c 3 t) (iblk V c 0 t) (ix2 q k) = ((((tie (D q) (2048 * t.val + k.val)).toNat : ℕ) : ℝ) : EReal) := by
  unfold k2_pay13 k2_pay9 k2_pay7 k2_pay6
  pointwise
  exact flag_real .f32 _ _ (tie_flag V c D hd hr t q k)

include hd hr hM in
theorem mtie_row (t : Fin cfg2.N) (q : Fin 1024) (k : Fin 2048) :
    k2_pay12 (iblk V c 3 t) (iblk V c 0 t) (iblk V c 1 t) (iblk V c 2 t) (ix2 q k) = ((((both (tie (D q)) (M q) (2048 * t.val + k.val)).toNat : ℕ) : ℝ) : EReal) := by
  unfold k2_pay12 k2_pay10 k2_pay9 k2_pay7 k2_pay6
  pointwise
  refine flag_real .f32 _ _ ?_
  rw [andi_one, tie_flag V c D hd hr t q k, match_flag V c M hM t q k, both, Bool.and_eq_true]

include hd hr in
theorem arr_6 : (dat V c).arrAt 6 cfg2.N = fun i => BitVec.ofNat 32 (blk (tie (D ⟨(i 1).val, (i 1).isLt⟩)) (2048 * (i 0).val + 128 * (i 2).val) 128) := by
  refine (dat V c).arrAt_eq_of_covers 6 _ (by decide +kernel) fun t hf y => ?_
  obtain ⟨q, j, rfl⟩ : ∃ (q : Fin 1024) (j : Fin 16), y = ix3 0 q j := ⟨y 1, y 2, by funext a; fin_cases a <;> first | rfl | exact Subsingleton.elim (α := Fin 1) _ _⟩
  blk_simp [idx_out t, coord t]
  rw [after_6]
  unfold ties k2_pay17
  pointwise
  exact chunk (2048 * t.val) (tie (D q)) _ (fun x => tie_row V c D hd hr t q x) j

include hd hr hM in
theorem arr_7 : (dat V c).arrAt 7 cfg2.N
    = fun i => BitVec.ofNat 32 (blk (both (tie (D ⟨(i 1).val, (i 1).isLt⟩)) (M ⟨(i 1).val, (i 1).isLt⟩)) (2048 * (i 0).val + 128 * (i 2).val) 128) := by
  refine (dat V c).arrAt_eq_of_covers 7 _ (by decide +kernel) fun t hf y => ?_
  obtain ⟨q, j, rfl⟩ : ∃ (q : Fin 1024) (j : Fin 16), y = ix3 0 q j := ⟨y 1, y 2, by funext a; fin_cases a <;> first | rfl | exact Subsingleton.elim (α := Fin 1) _ _⟩
  blk_simp [idx_out t, coord t]
  rw [after_7]
  unfold mties k2_pay18
  pointwise
  exact chunk (2048 * t.val) (both (tie (D q)) (M q)) _ (fun x => mtie_row V c D M hd hr hM t q x) j

include hd hr in
theorem arr_8 : (dat V c).arrAt 8 cfg2.N = fun i => BitVec.ofNat 32 (word (tie (D ⟨(i 0).val, (i 0).isLt⟩)) (i 1).val) := by
  refine (dat V c).arrAt_eq_of_covers 8 _ (by decide +kernel) fun t hf y => ?_
  obtain ⟨q, k, rfl⟩ : ∃ (q : Fin 1024) (k : Fin 128), y = ix2 q k := ⟨y 0, y 1, by funext a; fin_cases a <;> rfl⟩
  blk_simp [idx_out t, coord t]
  rw [after_8]
  unfold words k2_pay2
  pointwise
  refine (packed (t.val * 128) (tie (D q)) _ (fun x => ?_) k)
  rw [show 16 * (t.val * 128) = 2048 * t.val by ring]
  exact tie_row V c D hd hr t q x

include hd hr hM in
theorem arr_9 : (dat V c).arrAt 9 cfg2.N
    = fun i => BitVec.ofNat 32 (word (both (tie (D ⟨(i 0).val, (i 0).isLt⟩)) (M ⟨(i 0).val, (i 0).isLt⟩)) (i 1).val) := by
  refine (dat V c).arrAt_eq_of_covers 9 _ (by decide +kernel) fun t hf y => ?_
  obtain ⟨q, k, rfl⟩ : ∃ (q : Fin 1024) (k : Fin 128), y = ix2 q k := ⟨y 0, y 1, by funext a; fin_cases a <;> rfl⟩
  blk_simp [idx_out t, coord t]
  rw [after_9]
  unfold mwords k2_pay3
  pointwise
  refine (packed (t.val * 128) (both (tie (D q)) (M q)) _ (fun x => ?_) k)
  rw [show 16 * (t.val * 128) = 2048 * t.val by ring]
  exact mtie_row V c D M hd hr hM t q x

end R2

end Cert.KernelIdeal.Hand
-- ==== Proof.Ideal.ValR3.lean ====
/-
Region 3, in values: the chunk in which the last tie is taken, how many of its ties are taken, and the matches up to it.
-/
module

public import proofs.«01_k».proof.Proof.Ideal.R3
public import proofs.«01_k».proof.Proof.Pure.Ops
public import proofs.«01_k».proof.Proof.Pure.Radius
public import Idealize.ShloMosaic.Lib.Pipeline.ValueKit

@[expose] public section

set_option maxRecDepth 16384

noncomputable section

namespace Cert.KernelIdeal.Hand

open Idealize.ShloMosaic Idealize.ShloMosaic.TcCoe
open Cert.Pure Gen

namespace R3

/-- A word converted to a real is the number it holds. -/
theorem word_real (φ : FTy) (n : ℕ) (hn : n < 2147483648) (x : BitVec 32) (hx : x = BitVec.ofNat 32 n) :
    FloatOps.sitofp (F := Ideal) φ x = (((n : ℕ) : ℝ) : EReal) := by
  show (((x.toInt : ℤ) : ℝ) : EReal) = _
  rw [hx, toInt_ofNat n hn, Int.cast_natCast]

/-- A truth value as a flag. -/
theorem ofBool_one (b : Bool) : BitVec.ofBool b = 1#1 ↔ b = true := by cases b <;> decide

/-- A product of naturals, among the extended reals. -/
theorem dot_real (n : ℕ) (u v : Fin n → EReal) (f g : ℕ → ℕ) (hu : ∀ x, u x = ((f x.val : ℕ) : ℝ)) (hv : ∀ x, v x = ((g x.val : ℕ) : ℝ)) :
    ∑ x, u x * v x = (((∑ x ∈ Finset.range n, f x * g x : ℕ) : ℝ) : EReal) := by
  rw [← Fin.sum_univ_eq_sum_range (fun x => f x * g x) n]
  push_cast
  rw [← coe_sum]
  exact Finset.sum_congr rfl fun x _ => by rw [hu, hv, ← EReal.coe_mul]

/-- A sum that keeps the first `s` of its indices. -/
theorem sum_keep (n s : ℕ) (hs : s ≤ n) (f : ℕ → ℕ) : ∑ x ∈ Finset.range n, f x * (if x < s then 1 else 0) = ∑ x ∈ Finset.range s, f x := by
  simp only [mul_ite, mul_one, mul_zero]
  rw [← Finset.sum_filter]
  refine Finset.sum_congr ?_ fun _ _ => rfl
  ext x
  rw [Finset.mem_filter, Finset.mem_range, Finset.mem_range]
  omega

/-- Chunks added up are a count. -/
theorem cnt_chunks (p : ℕ → Bool) (s : ℕ) : ∑ x ∈ Finset.range s, blk p (128 * x) 128 = cnt p (128 * s) := (cnt_mul p 128 s).symm

/-- The one step takes every array whole. -/
theorem idx : ∀ t : Fin grid3.N, win3_0.index t = ![0, 0] ∧ win3_1.index t = ![0, 0] ∧ win3_2.index t = ![0, 0] ∧ win3_3.index t = ![0, 0] := by
  decide +kernel

variable (V : Vals Ideal) (c : Dev nD) (T M : Fin 1024 → ℕ → Bool) (N nb B : Fin 1024 → ℕ) (hN : ∀ q, N q + nb q = 100) (h1 : ∀ q, 1 ≤ N q)
  (hc : ∀ (q : Fin 1024) (ch : Fin 784), (V c main_v8 (ix2 q ch) : BitVec 32) = BitVec.ofNat 32 (blk (T q) (128 * ch.val) 128))
  (hm : ∀ (q : Fin 1024) (ch : Fin 784), (V c main_v10 (ix2 q ch) : BitVec 32) = BitVec.ofNat 32 (blk (both (T q) (M q)) (128 * ch.val) 128))
  (hn : ∀ q : Fin 1024, (V c main_v6_0 (ix2 q 0) : BitVec 32) = BitVec.ofNat 32 (nb q))
  (hb : ∀ q : Fin 1024, (V c main_v6_1 (ix2 q 0) : BitVec 32) = BitVec.ofNat 32 (B q))

include hc in
theorem iblk_0 (t : Fin cfg3.N) (q : Fin 1024) (ch : Fin 784) : (iblk V c 0 t (ix2 q ch) : BitVec 32) = BitVec.ofNat 32 (blk (T q) (128 * ch.val) 128) := by
  rw [← hc]; blk_ext [iblk, idx t]
include hm in
theorem iblk_1 (t : Fin cfg3.N) (q : Fin 1024) (ch : Fin 784) : (iblk V c 1 t (ix2 q ch) : BitVec 32) = BitVec.ofNat 32 (blk (both (T q) (M q)) (128 * ch.val) 128) := by
  rw [← hm]; blk_ext [iblk, idx t]
include hn in
theorem iblk_2 (t : Fin cfg3.N) (q : Fin 1024) : (iblk V c 2 t (ix2 q 0) : BitVec 32) = BitVec.ofNat 32 (nb q) := by
  rw [← hn]; blk_ext [iblk, idx t]
include hb in
theorem iblk_3 (t : Fin cfg3.N) (q : Fin 1024) : (iblk V c 3 t (ix2 q 0) : BitVec 32) = BitVec.ofNat 32 (B q) := by
  rw [← hb]; blk_ext [iblk, idx t]

include hN hn in
/-- What the kernel calls the need: the rest to a hundred. -/
theorem rest_real (t : Fin cfg3.N) (q : Fin 1024) :
    FloatOps.sitofp (F := Ideal) FTy.f32 (IntOp.subi (100#32) (iblk V c 2 t (ix2 q 0) : BitVec 32)) = (((N q : ℕ) : ℝ) : EReal) := by
  have h := hN q
  refine word_real .f32 (N q) (by omega) _ ?_
  rw [iblk_2 V c nb hn]
  show BitVec.ofNat 32 100 - BitVec.ofNat 32 (nb q) = _
  rw [← h, BitVec.ofNat_add, BitVec.add_sub_cancel]

include hN hc hn in
/-- The chunks before the starred one are flagged. -/
theorem flag_at (t : Fin cfg3.N) (q : Fin 1024) (k : Fin 784) :
    k3_pay3 (iblk V c 0 t) (iblk V c 2 t) (ix2 q k) = ((((if k.val < star (T q) (N q) then 1 else 0 : ℕ)) : ℝ) : EReal) := by
  have hk := k.isLt
  unfold k3_pay3 k3_pay2
  pointwise
  refine (flag_real .f32 _ (decide (k.val < star (T q) (N q))) ?_).trans ?_
  · rw [rest_real V c N nb hN hn t q]
    rw [dot_real 784 _ _ (fun x => blk (T q) (128 * x) 128) (fun x => if x < k.val + 1 then 1 else 0)
      (fun x => word_real .bf16 _ (by have := blk_le (T q) (128 * x.val) 128; omega) _ (iblk_0 V c T hc t q x)) (fun x => ?_)]
    · rw [sum_keep _ _ (by omega), cnt_chunks, decide_eq_true_eq, lt_star _ _ _ hk, ofBool_one, decide_eq_true_eq, EReal.coe_lt_coe_iff, Nat.cast_lt]
    · refine (flag_real .f32 _ (decide (x.val < k.val + 1)) ?_).trans ?_
      · have hx := x.isLt
        rw [IntOp.cmpi_sle, toInt_ofNat _ (by omega), toInt_ofNat _ (by omega), decide_eq_true_eq]
        omega
      · by_cases h : x.val < k.val + 1 <;> simp [h]
  · by_cases h : k.val < star (T q) (N q) <;> simp [h]

include hN hc hn in
theorem cstar_at (t : Fin cfg3.N) (q : Fin 1024) : cstar (iblk V c 0 t) (iblk V c 2 t) (ix2 q 0) = BitVec.ofNat 32 (star (T q) (N q)) := by
  have hs := star_le (T q) (N q)
  unfold cstar k3_pay4
  pointwise
  have e : ∑ x : Fin 784, k3_pay3 (iblk V c 0 t) (iblk V c 2 t) (ix2 q x) = (((star (T q) (N q) : ℕ) : ℝ) : EReal) := by
    have h := dot_real 784 (fun _ => 1) (fun x => k3_pay3 (iblk V c 0 t) (iblk V c 2 t) (ix2 q x)) (fun _ => 1) (fun x => if x < star (T q) (N q) then 1 else 0)
      (fun x => by simp) (fun x => flag_at V c T N nb hN hc hn t q x)
    rw [sum_keep _ _ hs] at h
    simp only [one_mul] at h
    rw [h]; simp
  rw [e]
  exact fptosi_nat (φ := .f32) _ (by omega)

include hN h1 hc hn in
theorem need_at (t : Fin cfg3.N) (q : Fin 1024) : need (iblk V c 0 t) (iblk V c 2 t) (ix2 q 0) = BitVec.ofNat 32 (room (T q) (N q)) := by
  have hs := star_le (T q) (N q)
  have hl := cnt_star_lt (T q) (N q) (h1 q)
  have hq := hN q
  unfold need k3_pay6 k3_pay2
  pointwise
  rw [rest_real V c N nb hN hn t q]
  rw [dot_real 784 _ _ (fun x => blk (T q) (128 * x) 128) (fun x => if x < star (T q) (N q) then 1 else 0)
    (fun x => word_real .f32 _ (by have := blk_le (T q) (128 * x.val) 128; omega) _ (iblk_0 V c T hc t q x)) (fun x => flag_at V c T N nb hN hc hn t q x)]
  rw [sum_keep _ _ hs, cnt_chunks, ← EReal.coe_sub]
  have e : ((N q : ℕ) : ℝ) - ((cnt (T q) (128 * star (T q) (N q)) : ℕ) : ℝ) = ((room (T q) (N q) : ℕ) : ℝ) := by
    unfold room; rw [Nat.cast_sub (by omega)]
  rw [e]
  exact fptosi_nat (φ := .f32) _ (by unfold room; omega)

include hN hc hm hn hb in
theorem mbase_at (t : Fin cfg3.N) (q : Fin 1024) :
    mbase (iblk V c 0 t) (iblk V c 1 t) (iblk V c 2 t) (iblk V c 3 t) (ix2 q 0) = BitVec.ofNat 32 (B q + cnt (both (T q) (M q)) (128 * star (T q) (N q))) := by
  have hs := star_le (T q) (N q)
  have hl := cnt_le (both (T q) (M q)) (128 * star (T q) (N q))
  unfold mbase k3_pay1 k3_pay5
  pointwise
  rw [dot_real 784 _ _ (fun x => blk (both (T q) (M q)) (128 * x) 128) (fun x => if x < star (T q) (N q) then 1 else 0)
    (fun x => word_real .f32 _ (by have := blk_le (both (T q) (M q)) (128 * x.val) 128; omega) _ (iblk_1 V c T M hm t q x)) (fun x => flag_at V c T N nb hN hc hn t q x)]
  rw [sum_keep _ _ hs, cnt_chunks, iblk_3 V c B hb]
  refine (congrArg (fun x => BitVec.ofNat 32 (B q) + x) (fptosi_nat (φ := .f32) _ (by omega))).trans ?_
  rw [← BitVec.ofNat_add]

/-- The only point. -/
def last : Fin cfg3.N := ⟨0, lt_of_lt_of_eq (by decide) N_3.symm⟩

include hN hc hn in
theorem arr_4 : (dat V c).arrAt 4 cfg3.N = fun i => BitVec.ofNat 32 (star (T ⟨(i 0).val, (i 0).isLt⟩) (N ⟨(i 0).val, (i 0).isLt⟩)) := by
  refine (dat V c).arrAt_eq_of_after_last 4 last (by decide +kernel) _ fun j => ?_
  obtain ⟨q, rfl⟩ : ∃ (q : Fin 1024), j = ix2 q 0 := ⟨j 0, by funext a; fin_cases a <;> first | rfl | exact Subsingleton.elim (α := Fin 1) _ _⟩
  blk_simp
  rw [after_4]
  exact cstar_at V c T N nb hN hc hn last q

include hN h1 hc hn in
theorem arr_5 : (dat V c).arrAt 5 cfg3.N = fun i => BitVec.ofNat 32 (room (T ⟨(i 0).val, (i 0).isLt⟩) (N ⟨(i 0).val, (i 0).isLt⟩)) := by
  refine (dat V c).arrAt_eq_of_after_last 5 last (by decide +kernel) _ fun j => ?_
  obtain ⟨q, rfl⟩ : ∃ (q : Fin 1024), j = ix2 q 0 := ⟨j 0, by funext a; fin_cases a <;> first | rfl | exact Subsingleton.elim (α := Fin 1) _ _⟩
  blk_simp
  rw [after_5]
  exact need_at V c T N nb hN h1 hc hn last q

include hN hc hm hn hb in
theorem arr_6 : (dat V c).arrAt 6 cfg3.N = fun i => BitVec.ofNat 32 (B ⟨(i 0).val, (i 0).isLt⟩
    + cnt (both (T ⟨(i 0).val, (i 0).isLt⟩) (M ⟨(i 0).val, (i 0).isLt⟩)) (128 * star (T ⟨(i 0).val, (i 0).isLt⟩) (N ⟨(i 0).val, (i 0).isLt⟩))) := by
  refine (dat V c).arrAt_eq_of_after_last 6 last (by decide +kernel) _ fun j => ?_
  obtain ⟨q, rfl⟩ : ∃ (q : Fin 1024), j = ix2 q 0 := ⟨j 0, by funext a; fin_cases a <;> first | rfl | exact Subsingleton.elim (α := Fin 1) _ _⟩
  blk_simp
  rw [after_6]
  exact mbase_at V c T M N nb B hN hc hm hn hb last q

end R3

end Cert.KernelIdeal.Hand
-- ==== Proof.Pure.Popcount.lean ====
/-
The number of set flags of a sixteen-bit word, by adding neighbouring groups.
-/
module

public import proofs.«01_k».proof.Proof.Pure.LowBits

@[expose] public section

namespace Cert.Pure

/-- The number of set flags of a sixteen-bit word, by adding neighbouring groups. -/
def pop (x : ℕ) : ℕ :=
  let v := x - (x >>> 1 &&& 21845)
  let w := (v &&& 13107) + (v >>> 2 &&& 13107)
  let u := (w + w >>> 4) &&& 3855
  (u + u >>> 8) &&& 31

/-- The number of set bits among sixteen, one by one. -/
def popBits (x : ℕ) : ℕ :=
  x % 2 + x / 2 % 2 + x / 4 % 2 + x / 8 % 2 + x / 16 % 2 + x / 32 % 2 + x / 64 % 2 + x / 128 % 2 + x / 256 % 2 + x / 512 % 2
    + x / 1024 % 2 + x / 2048 % 2 + x / 4096 % 2 + x / 8192 % 2 + x / 16384 % 2 + x / 32768 % 2

/-- Every number below `n` passes. -/
def allBelow (f : ℕ → Bool) : ℕ → Bool := Nat.rec true fun n r => (f n).and r

/-- What a check of all smaller numbers says. -/
theorem allBelow_spec (f : ℕ → Bool) : ∀ n, allBelow f n = true → ∀ k < n, f k = true
  | 0, _, k, hk => absurd hk (Nat.not_lt_zero k)
  | n + 1, h, k, hk => by
    have h' : (f n).and (allBelow f n) = true := h
    rw [Bool.and_eq_true] at h'
    rcases Nat.lt_succ_iff_lt_or_eq.mp hk with hk | rfl
    · exact allBelow_spec f n h'.2 k hk
    · exact h'.1

/-- The population count agrees with the bits on every sixteen-bit number. -/
theorem pop_table : allBelow (fun a => allBelow (fun b => Nat.beq (pop (256 * a + b)) (popBits (256 * a + b))) 256) 256 = true := by
  decide +kernel

/-- The population count of a number below 65536. -/
theorem pop_eq (x : ℕ) (hx : x < 65536) : pop x = popBits x := by
  have h := allBelow_spec _ _ (allBelow_spec _ _ pop_table (x / 256) (by omega)) (x % 256) (by omega)
  have e : 256 * (x / 256) + x % 256 = x := by omega
  rw [e] at h
  exact Nat.eq_of_beq_eq_true h

/-- The bits of a packed word are the places where the property holds. -/
theorem popBits_pack (p : ℕ → Bool) : popBits (pack p 16) = ((Finset.range 16).filter fun j => p j = true).card := by
  have hb : ∀ j, j < 16 → pack p 16 / 2 ^ j % 2 = if p j then 1 else 0 := by
    intro j hj
    have := testBit_pack p 16 j
    rw [Nat.testBit_eq_decide_div_mod_eq] at this
    rw [decide_eq_true hj, Bool.true_and] at this
    cases hp : p j
    · rw [hp, decide_eq_false_iff_not] at this; simp; omega
    · rw [hp, decide_eq_true_eq] at this; simpa using this
  rw [Finset.card_filter, Finset.sum_range_succ, Finset.sum_range_succ, Finset.sum_range_succ, Finset.sum_range_succ,
    Finset.sum_range_succ, Finset.sum_range_succ, Finset.sum_range_succ, Finset.sum_range_succ, Finset.sum_range_succ,
    Finset.sum_range_succ, Finset.sum_range_succ, Finset.sum_range_succ, Finset.sum_range_succ, Finset.sum_range_succ,
    Finset.sum_range_succ, Finset.sum_range_succ, Finset.sum_range_zero]
  unfold popBits
  have h0 := hb 0 (by decide); have h1 := hb 1 (by decide); have h2 := hb 2 (by decide); have h3 := hb 3 (by decide)
  have h4 := hb 4 (by decide); have h5 := hb 5 (by decide); have h6 := hb 6 (by decide); have h7 := hb 7 (by decide)
  have h8 := hb 8 (by decide); have h9 := hb 9 (by decide); have h10 := hb 10 (by decide); have h11 := hb 11 (by decide)
  have h12 := hb 12 (by decide); have h13 := hb 13 (by decide); have h14 := hb 14 (by decide); have h15 := hb 15 (by decide)
  norm_num at h0 h1 h2 h3 h4 h5 h6 h7 h8 h9 h10 h11 h12 h13 h14 h15
  rw [h0, h1, h2, h3, h4, h5, h6, h7, h8, h9, h10, h11, h12, h13, h14, h15]
  ring

/-- The population count of a packed word is the number of places where the property holds. -/
theorem pop_pack (p : ℕ → Bool) : pop (pack p 16) = ((Finset.range 16).filter fun j => p j = true).card := by
  rw [pop_eq _ (pack_lt p 16), popBits_pack]

end Cert.Pure
-- ==== Proof.Pure.PopWord.lean ====
/-
The number of set flags of a sixteen-bit word, in word arithmetic; sums of words; the flags of a block up to a word.
-/
module

public import proofs.«01_k».proof.Proof.Pure.Popcount
public import proofs.«01_k».proof.Proof.Pure.Select
public import proofs.«01_k».proof.Proof.Pure.Ops

@[expose] public section

noncomputable section

namespace Cert.Pure

open Idealize.ShloMosaic

/-- A shift, on numbers. -/
theorem shr_ofNat (a s : ℕ) (ha : a < 2147483648) (hs : s < 32) : IntOp.shrsi .vector (BitVec.ofNat 32 a) (BitVec.ofNat 32 s) = BitVec.ofNat 32 (a >>> s) := by
  have h32 : (BitVec.ofNat 32 s).toNat = s := by rw [BitVec.toNat_ofNat]; omega
  unfold IntOp.shrsi
  rw [if_pos (by rw [h32]; exact hs)]
  show (BitVec.ofNat 32 a).sshiftRight (BitVec.ofNat 32 s).toNat = _
  rw [h32, BitVec.sshiftRight_eq_of_msb_false]
  · apply BitVec.eq_of_toNat_eq
    rw [BitVec.toNat_ushiftRight, BitVec.toNat_ofNat, BitVec.toNat_ofNat, Nat.mod_eq_of_lt (show a < 2 ^ 32 by omega)]
    rw [Nat.mod_eq_of_lt]
    have := Nat.shiftRight_le a s
    omega
  · rw [BitVec.msb_eq_false_iff_two_mul_lt, BitVec.toNat_ofNat]; omega

/-- A conjunction, on numbers. -/
theorem and_ofNat (a b : ℕ) : IntOp.andi (BitVec.ofNat 32 a) (BitVec.ofNat 32 b) = BitVec.ofNat 32 (a &&& b) := BitVec.ofNat_and.symm

/-- A difference, on numbers. -/
theorem sub_ofNat (a b : ℕ) (h : b ≤ a) : IntOp.subi (BitVec.ofNat 32 a) (BitVec.ofNat 32 b) = BitVec.ofNat 32 (a - b) := by
  have e : BitVec.ofNat 32 a = BitVec.ofNat 32 (a - b) + BitVec.ofNat 32 b := by rw [← BitVec.ofNat_add]; congr 1; omega
  show BitVec.ofNat 32 a - BitVec.ofNat 32 b = _
  rw [e, BitVec.add_sub_cancel]

/-- A sum, on numbers. -/
theorem add_ofNat (a b : ℕ) : IntOp.addi (BitVec.ofNat 32 a) (BitVec.ofNat 32 b) = BitVec.ofNat 32 (a + b) := (BitVec.ofNat_add a b).symm

/-- The bits counted by twos. -/
def popV (x : BitVec 32) : BitVec 32 := IntOp.subi x (IntOp.andi (IntOp.shrsi .vector x 1#32) 21845#32)
/-- The bits counted by fours. -/
def popW (v : BitVec 32) : BitVec 32 := IntOp.addi (IntOp.andi v 13107#32) (IntOp.andi (IntOp.shrsi .vector v 2#32) 13107#32)
/-- The bits counted by eights. -/
def popU (w : BitVec 32) : BitVec 32 := IntOp.andi (IntOp.addi w (IntOp.shrsi .vector w 4#32)) 3855#32
/-- The number of set flags, by adding neighbouring groups. -/
def popBV (x : BitVec 32) : BitVec 32 :=
  IntOp.andi (IntOp.addi (popU (popW (popV x))) (IntOp.shrsi .vector (popU (popW (popV x))) 8#32)) 31#32

/-- The word's population count is the number's. -/
theorem popBV_ofNat (x : ℕ) (hx : x < 65536) : popBV (BitVec.ofNat 32 x) = BitVec.ofNat 32 (pop x) := by
  have eV : popV (BitVec.ofNat 32 x) = BitVec.ofNat 32 (x - (x >>> 1 &&& 21845)) := by
    unfold popV
    rw [shr_ofNat x 1 (by omega) (by decide), and_ofNat, sub_ofNat _ _ (Nat.and_le_left.trans (Nat.shiftRight_le x 1))]
  have lV : x - (x >>> 1 &&& 21845) < 65536 := by omega
  have eW (v : ℕ) (hv : v < 65536) : popW (BitVec.ofNat 32 v) = BitVec.ofNat 32 ((v &&& 13107) + (v >>> 2 &&& 13107)) := by
    unfold popW
    rw [shr_ofNat v 2 (by omega) (by decide), and_ofNat, and_ofNat, add_ofNat]
  have lW (v : ℕ) : (v &&& 13107) + (v >>> 2 &&& 13107) ≤ 26214 := Nat.add_le_add (Nat.and_le_right) (Nat.and_le_right)
  have eU (w : ℕ) (hw : w ≤ 26214) : popU (BitVec.ofNat 32 w) = BitVec.ofNat 32 ((w + w >>> 4) &&& 3855) := by
    unfold popU
    rw [shr_ofNat w 4 (by omega) (by decide), add_ofNat, and_ofNat]
  have lU (w : ℕ) : (w + w >>> 4) &&& 3855 ≤ 3855 := Nat.and_le_right
  unfold popBV
  rw [eV, eW _ lV, eU _ (lW _), shr_ofNat _ 8 (by have := lU ((x - (x >>> 1 &&& 21845) &&& 13107) + ((x - (x >>> 1 &&& 21845)) >>> 2 &&& 13107)); omega) (by decide), add_ofNat, and_ofNat]
  rfl

/-- The set flags of word `g` are those of its sixteen positions. -/
theorem popBV_word (p : ℕ → Bool) (g : ℕ) : popBV (BitVec.ofNat 32 (word p g)) = BitVec.ofNat 32 (blk p (16 * g) 16) := by
  unfold word
  rw [popBV_ofNat _ (pack_lt _ 16), pop_pack, blk_eq_card]

/-- A sum of words is the word of the sum. -/
theorem sum_ofNat (f : ℕ → ℕ) : ∀ n, ∑ g ∈ Finset.range n, BitVec.ofNat 32 (f g) = BitVec.ofNat 32 (∑ g ∈ Finset.range n, f g)
  | 0 => rfl
  | n + 1 => by rw [Finset.sum_range_succ, Finset.sum_range_succ, sum_ofNat f n, BitVec.ofNat_add]

/-- The flags of the words of block `s` among the first words from `a` on. -/
theorem sum_mine (T : ℕ → Bool) (a s : ℕ) (ha : a ≤ 8 * s) : ∀ n, a + n ≤ 8 * s + 8 →
    (∑ x ∈ Finset.range n, if (a + x) / 8 = s then blk T (16 * (a + x)) 16 else 0) + cnt T (128 * s) = cnt T (16 * max (a + n) (8 * s))
  | 0, _ => by
    rw [Finset.sum_range_zero, Nat.add_zero, max_eq_right ha, Nat.zero_add]; congr 1; omega
  | n + 1, h => by
    have ih := sum_mine T a s ha n (by omega)
    rw [Finset.sum_range_succ]
    by_cases hn : 8 * s ≤ a + n
    · rw [if_pos (by omega), max_eq_left (by omega), show 16 * (a + (n + 1)) = 16 * (a + n) + 16 by ring, cnt_add]
      rw [max_eq_left hn] at ih
      omega
    · rw [if_neg (by omega), max_eq_right (by omega), ← max_eq_right (show a + n ≤ 8 * s by omega)]
      omega

/-- Of a word of the starred block, the running number is the number up to and with it. -/
theorem sum_incl (T : ℕ → Bool) (need a k : ℕ) (ha : a % 8 = 0) (h : mine T need (a + k) = true) :
    (∑ x ∈ Finset.range (k + 1), if mine T need (a + x) then blk T (16 * (a + x)) 16 else 0) = incl T need (a + k) := by
  unfold mine at h
  rw [decide_eq_true_eq] at h
  have e := sum_mine T a (star T need) (by omega) (k + 1) (by omega)
  unfold mine incl
  simp only [decide_eq_true_eq]
  rw [max_eq_left (by omega)] at e
  rw [show 16 * (a + k + 1) = 16 * (a + (k + 1)) by ring]
  omega

/-- In the word that is cut, the count up to it less its own is the count before it. -/
theorem incl_sub (T : ℕ → Bool) (need g : ℕ) (h : mine T need g = true) : incl T need g - blk T (16 * g) 16 = before T need g ∧ blk T (16 * g) 16 ≤ incl T need g := by
  unfold mine at h
  rw [decide_eq_true_eq] at h
  have hm := cnt_mono T (show 128 * star T need ≤ 16 * g by omega)
  unfold incl before
  rw [show 16 * (g + 1) = 16 * g + 16 by ring, cnt_add]
  omega

end Cert.Pure
-- ==== Proof.Ideal.ValTail.lean ====
/-
The last step of region 4: sixteen times the lowest flag is taken off the word, while fewer than the room have been.
-/
module

public import proofs.«01_k».proof.Proof.Ideal.R4
public import proofs.«01_k».proof.Proof.Pure.LowBits
public import proofs.«01_k».proof.Proof.Pure.Ops
public import Idealize.ShloMosaic.Lib.Pipeline.ValueKit

@[expose] public section

set_option maxRecDepth 16384

noncomputable section

namespace Cert.KernelIdeal.Hand

open Idealize.ShloMosaic Idealize.ShloMosaic.TcCoe
open Cert.Pure Gen

namespace R4

/-- The word left, the number taken, and the number of matches. -/
abbrev St : Type := BitVec 32 × BitVec 32 × BitVec 32

/-- The kernel's words for: another flag is taken; the flag is set in the second word too. -/
def goes (k : BitVec 32) (s : St) : BitVec 1 :=
  IntOp.andi (IntOp.cmpi .slt s.2.1 k) (IntOp.cmpi .ne (IntOp.andi s.1 (IntOp.subi 0#32 s.1)) 0#32)
/-- Whether the lowest flag is taken and matches. -/
def counts (k y : BitVec 32) (s : St) : BitVec 1 :=
  IntOp.andi (goes k s) (IntOp.cmpi .ne (IntOp.andi y (IntOp.andi s.1 (IntOp.subi 0#32 s.1))) 0#32)

/-- The comparison for inequality. -/
theorem cmpi_ne (x y : BitVec 32) : IntOp.cmpi .ne x y = 1#1 ↔ x ≠ y := IntOp.cmpi_ne

/-- A flag is taken while there is room and a flag left. -/
theorem goes_iff (k : BitVec 32) (s : St) : goes k s = 1#1 ↔ s.2.1.slt k = true ∧ low s.1 ≠ 0#32 := by
  unfold goes
  rw [andi_one, cmpi_ne, IntOp.cmpi_slt, BitVec.slt_iff_toInt_lt]
  rfl

/-- A taken flag counts where its match is set. -/
theorem counts_iff (k y : BitVec 32) (s : St) : counts k y s = 1#1 ↔ (s.2.1.slt k = true ∧ low s.1 ≠ 0#32) ∧ (y &&& low s.1) ≠ 0#32 := by
  unfold counts
  rw [andi_one, goes_iff, cmpi_ne]
  rfl

/-- One taking, in the kernel's words. -/
theorem take_words (k y : BitVec 32) (s : St) :
    take k y s = (IntOp.andi s.1 (IntOp.subi s.1 1#32), IntOp.addi s.2.1 (Scalar.select (goes k s) 1#32 0#32), IntOp.addi s.2.2 (Scalar.select (counts k y s) 1#32 0#32)) := by
  unfold take
  refine Prod.ext rfl (Prod.ext ?_ ?_)
  · show _ + _ = _ + (if goes k s = 1#1 then 1#32 else 0#32)
    simp only [goes_iff]
  · show _ + _ = _ + (if counts k y s = 1#1 then 1#32 else 0#32)
    simp only [counts_iff]

/-- What the kernel holds between its groups of two takings: the count without the current flag, the index, the word, and
    the two conditions on the current flag. -/
structure Holds (q : Fin 1024) (k y : BitVec 32) (s : St) (acc idx x : Vec Ideal S1024x1 .i32) (f1 f2 : IVec S1024x1 1) : Prop where
  acc : acc (ix2 q 0) = s.2.2
  idx : idx (ix2 q 0) = s.2.1
  x : x (ix2 q 0) = s.1
  f1 : f1 (ix2 q 0) = goes k s
  f2 : f2 (ix2 q 0) = counts k y s

theorem Holds.init (q : Fin 1024) (v127 v128 v129 : Vec Ideal S1024x1 .i32) :
    Holds q (v129 (ix2 q 0)) (v128 (ix2 q 0)) (take (v129 (ix2 q 0)) (v128 (ix2 q 0)) (v127 (ix2 q 0), 0#32, 0#32))
      (k4_pay6 v127 v128 v129) (k4_pay7 v127 v129) (k4_pay8 v127) (k4_pay10 v127 v129) (k4_pay11 v127 v128 v129) := by
  rw [take_words]
  constructor
  · simp only [k4_pay6, k4_pay7, k4_pay8, k4_pay9, k4_pay10, k4_pay11, k4_pay5, k4_pay4, k4_pay3]; pointwise; rfl
  · simp only [k4_pay6, k4_pay7, k4_pay8, k4_pay9, k4_pay10, k4_pay11, k4_pay5, k4_pay4, k4_pay3]; pointwise; rfl
  · simp only [k4_pay6, k4_pay7, k4_pay8, k4_pay9, k4_pay10, k4_pay11, k4_pay5, k4_pay4, k4_pay3]; pointwise
  · simp only [k4_pay6, k4_pay7, k4_pay8, k4_pay9, k4_pay10, k4_pay11, k4_pay5, k4_pay4, k4_pay3]; pointwise; rfl
  · simp only [k4_pay6, k4_pay7, k4_pay8, k4_pay9, k4_pay10, k4_pay11, k4_pay5, k4_pay4, k4_pay3]; pointwise; rfl

theorem Holds.next {q : Fin 1024} {s : St} {v128 v129 acc idx x : Vec Ideal S1024x1 .i32} {f1 f2 : IVec S1024x1 1}
    (h : Holds q (v129 (ix2 q 0)) (v128 (ix2 q 0)) s acc idx x f1 f2) :
    Holds q (v129 (ix2 q 0)) (v128 (ix2 q 0)) (take (v129 (ix2 q 0)) (v128 (ix2 q 0)) (take (v129 (ix2 q 0)) (v128 (ix2 q 0)) s))
      (k4_pay17 v128 v129 acc idx x f1 f2 0#32 k4_pay12) (k4_pay18 v129 idx x f1) (k4_pay19 x) (k4_pay21 v129 idx x f1) (k4_pay22 v128 v129 idx x f1) := by
  obtain ⟨ha, hi, hx, h1, h2⟩ := h
  rw [take_words, take_words]
  constructor
  · simp only [k4_pay17, k4_pay16, k4_pay15, k4_pay14, k4_pay13, k4_pay12]; pointwise; rw [ha, hi, hx, h2]; rw [h1]; rfl
  · simp only [k4_pay18, k4_pay16, k4_pay15, k4_pay14, k4_pay13]; pointwise; rw [hi, hx, h1]; rfl
  · simp only [k4_pay19, k4_pay14]; pointwise; rw [hx]
  · simp only [k4_pay21, k4_pay20, k4_pay19, k4_pay18, k4_pay16, k4_pay15, k4_pay14, k4_pay13]; pointwise; rw [hi, hx, h1]; rfl
  · simp only [k4_pay22, k4_pay21, k4_pay20, k4_pay19, k4_pay18, k4_pay16, k4_pay15, k4_pay14, k4_pay13]; pointwise; rw [hi, hx, h1]; rfl

/-- The unrolled program is the sixteenth round, and the state it starts from is the fifteenth's. -/
theorem tail_eq (v127 v128 v129 v477 v479 : Vec Ideal S1024x1 .i32) :
    ∃ (a : Vec Ideal S1024x1 .i32) (b : IVec S1024x1 1), tail v127 v128 v129 v477 v479 = k4_pay2 a b 0#32 k4_pay85 v477 v479
      ∧ ∀ q : Fin 1024, IntOp.addi (a (ix2 q 0)) (Scalar.select (b (ix2 q 0)) 1#32 0#32)
          = ((take (v129 (ix2 q 0)) (v128 (ix2 q 0)))^[16] (v127 (ix2 q 0), 0#32, 0#32)).2.2 := by
  refine ⟨_, _, rfl, fun q => ?_⟩
  have h := (((((((Holds.init q v127 v128 v129).next).next).next).next).next).next).next
  have e := take_words (v129 (ix2 q 0)) (v128 (ix2 q 0)) ((take (v129 (ix2 q 0)) (v128 (ix2 q 0)))^[15] (v127 (ix2 q 0), 0#32, 0#32))
  rw [Function.iterate_succ_apply', e]
  exact congrArg₂ (fun a b => IntOp.addi a (Scalar.select b 1#32 0#32)) h.acc h.f2

/-- The result, from sixteen rounds on each query's word. -/
theorem tail_at (v127 v128 v129 v477 v479 : Vec Ideal S1024x1 .i32) :
    tail v127 v128 v129 v477 v479 (ix2 0 0)
      = Ideal.div (∑ q : Fin 1024, FloatOps.sitofp (F := Ideal) FTy.f32 (IntOp.addi (IntOp.addi (v477 (ix2 q 0) : BitVec 32) (v479 (ix2 q 0)))
          ((take (v129 (ix2 q 0)) (v128 (ix2 q 0)))^[16] (v127 (ix2 q 0), 0#32, 0#32)).2.2)) (Ideal.ofBits FTy.f32 1204289536#32) := by
  obtain ⟨a, b, e, h⟩ := tail_eq v127 v128 v129 v477 v479
  rw [e]
  unfold k4_pay2 k4_pay85
  pointwise
  simp only [h]

end R4

end Cert.KernelIdeal.Hand
-- ==== Proof.Ideal.ValR4.lean ====
/-
Region 4, in values: the words of the starred block, and what is taken of them.
-/
module

public import proofs.«01_k».proof.Proof.Ideal.R4
public import proofs.«01_k».proof.Proof.Pure.PopWord
public import proofs.«01_k».proof.Proof.Ideal.ValR3
public import proofs.«01_k».proof.Proof.Ideal.ValTail
public import Idealize.ShloMosaic.Lib.Pipeline.ValueKit

@[expose] public section

set_option maxRecDepth 16384

noncomputable section

namespace Cert.KernelIdeal.Hand

open Idealize.ShloMosaic Idealize.ShloMosaic.TcCoe
open Cert.Pure Gen

namespace R4

/-- The grid has one axis. -/
theorem coord (t : Fin cfg4.N) : (grid4.coords t 0).val = t.val := by
  have ht : t.val < 49 := Nat.lt_of_lt_of_eq t.isLt N_4
  have e : (grid4.coords t 0).val = t.val / 1 % 49 := Pipeline.Grid.coords_val t 0 (by decide) rfl
  rw [e]; omega

/-- The blocks each step takes. -/
theorem idx : ∀ t : Fin grid4.N, win4_0.index t = ![0, (grid4.coords t 0).val] ∧ win4_1.index t = ![0, (grid4.coords t 0).val] ∧ win4_2.index t = ![0, 0]
    ∧ win4_3.index t = ![0, 0] ∧ win4_4.index t = ![0, 0] := by
  decide +kernel

/-- The chunk of a word. -/
theorem eighth : ∀ g : Fin 6272, IntOp.shrsi .vector (BitVec.ofNat 32 g.val) 3#32 = BitVec.ofNat 32 (g.val / 8) := fun g => by
  have := g.isLt
  rw [shr_ofNat g.val 3 (by omega) (by decide), Nat.shiftRight_eq_div_pow]

/-- Small numbers are equal when their words are. -/
theorem ofNat_inj (a b : ℕ) (ha : a < 4294967296) (hb : b < 4294967296) : BitVec.ofNat 32 a = BitVec.ofNat 32 b ↔ a = b := by
  constructor
  · intro h
    have := congrArg BitVec.toNat h
    rw [BitVec.toNat_ofNat, BitVec.toNat_ofNat] at this
    omega
  · rintro rfl; rfl

variable (V : Vals Ideal) (c : Dev nD) (T M : Fin 1024 → ℕ → Bool) (N B : Fin 1024 → ℕ) (hN : ∀ q, N q ≤ 100) (h1 : ∀ q, 1 ≤ N q)
  (hw : ∀ (q : Fin 1024) (g : Fin 6272), (V c main_v6_4 (ix2 q g) : BitVec 32) = BitVec.ofNat 32 (word (T q) g.val))
  (hv : ∀ (q : Fin 1024) (g : Fin 6272), (V c main_v6_5 (ix2 q g) : BitVec 32) = BitVec.ofNat 32 (word (both (T q) (M q)) g.val))
  (hs : ∀ q : Fin 1024, (V c main_v11_0 (ix2 q 0) : BitVec 32) = BitVec.ofNat 32 (star (T q) (N q)))
  (hr : ∀ q : Fin 1024, (V c main_v11_1 (ix2 q 0) : BitVec 32) = BitVec.ofNat 32 (room (T q) (N q)))
  (hb : ∀ q : Fin 1024, (V c main_v11_2 (ix2 q 0) : BitVec 32) = BitVec.ofNat 32 (B q))

/-- A step's words are among all the words. -/
theorem lt_words (t : Fin cfg4.N) (k : Fin 128) : 128 * t.val + k.val < 6272 := by
  have := Nat.lt_of_lt_of_eq t.isLt N_4
  have := k.isLt
  omega

include hw in
theorem iblk_0 (t : Fin cfg4.N) (q : Fin 1024) (k : Fin 128) : (iblk V c 0 t (ix2 q k) : BitVec 32) = BitVec.ofNat 32 (word (T q) (128 * t.val + k.val)) := by
  rw [← hw q ⟨128 * t.val + k.val, lt_words t k⟩]; blk_ext [iblk, idx t, coord t]
include hv in
theorem iblk_1 (t : Fin cfg4.N) (q : Fin 1024) (k : Fin 128) : (iblk V c 1 t (ix2 q k) : BitVec 32) = BitVec.ofNat 32 (word (both (T q) (M q)) (128 * t.val + k.val)) := by
  rw [← hv q ⟨128 * t.val + k.val, lt_words t k⟩]; blk_ext [iblk, idx t, coord t]
include hs in
theorem iblk_2 (t : Fin cfg4.N) (q : Fin 1024) : (iblk V c 2 t (ix2 q 0) : BitVec 32) = BitVec.ofNat 32 (star (T q) (N q)) := by
  rw [← hs]; blk_ext [iblk, idx t]
include hr in
theorem iblk_3 (t : Fin cfg4.N) (q : Fin 1024) : (iblk V c 3 t (ix2 q 0) : BitVec 32) = BitVec.ofNat 32 (room (T q) (N q)) := by
  rw [← hr]; blk_ext [iblk, idx t]
include hb in
theorem iblk_4 (t : Fin cfg4.N) (q : Fin 1024) : (iblk V c 4 t (ix2 q 0) : BitVec 32) = BitVec.ofNat 32 (B q) := by
  rw [← hb]; blk_ext [iblk, idx t]

include hr in
theorem room_at (t : Fin cfg4.N) (q : Fin 1024) : k4_pay97 (F := Ideal) (iblk V c 3 t) (ix2 q 0) = BitVec.ofNat 32 (room (T q) (N q)) := by
  unfold k4_pay97
  pointwise
  exact iblk_3 V c T N hr t q

include hs in
theorem mine_at (t : Fin cfg4.N) (q : Fin 1024) (k : Fin 128) :
    R4.mine (F := Ideal) (grid4.coords t) (iblk V c 2 t) (ix2 q k) = 1#1 ↔ Cert.Pure.mine (T q) (N q) (128 * t.val + k.val) = true := by
  have hst := star_le (T q) (N q)
  have hl := lt_words t k
  unfold R4.mine k4_pay93
  pointwise
  rw [iblk_2 V c T N hs, coord]
  have e : IntOp.addi (BitVec.ofNat 32 k.val) (Scalar.muli (BitVec.ofNat 32 t.val) 128#32) = BitVec.ofNat 32 (128 * t.val + k.val) := by
    show BitVec.ofNat 32 k.val + BitVec.ofNat 32 t.val * BitVec.ofNat 32 128 = _
    rw [← BitVec.ofNat_mul, ← BitVec.ofNat_add]; congr 1; ring
  rw [e, eighth ⟨128 * t.val + k.val, hl⟩, IntOp.cmpi_eq, ofNat_inj _ _ (by dsimp only; omega) (by omega)]
  unfold Cert.Pure.mine
  rw [decide_eq_true_eq]

include hw in
theorem pop_at (t : Fin cfg4.N) (q : Fin 1024) (k : Fin 128) :
    k4_pay94 (F := Ideal) (iblk V c 0 t) (ix2 q k) = BitVec.ofNat 32 (blk (T q) (16 * (128 * t.val + k.val)) 16) := by
  unfold k4_pay94 k4_pay91
  pointwise
  refine Eq.trans ?_ (popBV_word (T q) (128 * t.val + k.val))
  rw [← iblk_0 V c T hw t q k]
  rfl

include hw hs in
theorem pe_at (t : Fin cfg4.N) (q : Fin 1024) (k : Fin 128) :
    R4.pe (F := Ideal) (grid4.coords t) (iblk V c 0 t) (iblk V c 2 t) (ix2 q k)
      = BitVec.ofNat 32 (if Cert.Pure.mine (T q) (N q) (128 * t.val + k.val) then blk (T q) (16 * (128 * t.val + k.val)) 16 else 0) := by
  have hm := mine_at V c T N hs t q k
  unfold R4.pe k4_pay95
  pointwise
  rw [pop_at V c T hw]
  by_cases h : Cert.Pure.mine (T q) (N q) (128 * t.val + k.val) = true
  · rw [if_pos h]; exact if_pos (hm.mpr h)
  · rw [if_neg h]; exact if_neg (fun e => h (hm.mp e))

include hw hs in
theorem incl_at (t : Fin cfg4.N) (q : Fin 1024) (k : Fin 128) (h : Cert.Pure.mine (T q) (N q) (128 * t.val + k.val) = true) :
    R4.incl (F := Ideal) (grid4.coords t) (iblk V c 0 t) (iblk V c 2 t) (ix2 q k) = BitVec.ofNat 32 (Cert.Pure.incl (T q) (N q) (128 * t.val + k.val)) := by
  have hk := k.isLt
  have hc : Cert.Pure.incl (T q) (N q) (128 * t.val + k.val) < 2147483648 := by
    have := cnt_le (T q) (16 * (128 * t.val + k.val + 1))
    have := lt_words t k
    unfold Cert.Pure.incl; omega
  unfold R4.incl k4_pay96
  pointwise
  rw [R3.dot_real 128 _ _ (fun x => if Cert.Pure.mine (T q) (N q) (128 * t.val + x) then blk (T q) (16 * (128 * t.val + x)) 16 else 0)
      (fun x => if x < k.val + 1 then 1 else 0)
      (fun x => R3.word_real .bf16 _ (by have := blk_le (T q) (16 * (128 * t.val + x.val)) 16; split <;> omega)
        (k4_pay95 (R4.mine (F := Ideal) (grid4.coords t) (iblk V c 2 t)) (k4_pay94 (F := Ideal) (iblk V c 0 t)) (ix2 q x)) (pe_at V c T N hw hs t q x)) (fun x => ?_)]
  · rw [R3.sum_keep _ _ (by omega), sum_incl _ _ _ _ (by omega) h]
    exact fptosi_nat (φ := .f32) _ hc
  · refine (flag_real .f32 _ (decide (x.val < k.val + 1)) ?_).trans ?_
    · have hx := x.isLt
      rw [IntOp.cmpi_sle, toInt_ofNat _ (by omega), toInt_ofNat _ (by omega), decide_eq_true_eq]
      omega
    · by_cases h : x.val < k.val + 1 <;> simp [h]

include hN hw hs hr in
/-- The word in which the last tie is taken. -/
theorem cross_at (t : Fin cfg4.N) (q : Fin 1024) (k : Fin 128) :
    k4_pay101 (R4.mine (F := Ideal) (grid4.coords t) (iblk V c 2 t)) (R4.pe (F := Ideal) (grid4.coords t) (iblk V c 0 t) (iblk V c 2 t))
        (R4.incl (F := Ideal) (grid4.coords t) (iblk V c 0 t) (iblk V c 2 t)) (k4_pay97 (F := Ideal) (iblk V c 3 t)) (ix2 q k) = 1#1
      ↔ cross (T q) (N q) (128 * t.val + k.val) = true := by
  have hm := mine_at V c T N hs t q k
  unfold k4_pay101 k4_pay97 k4_pay100
  pointwise
  rw [andi_one, andi_one, hm]
  unfold cross
  rw [Bool.and_eq_true]
  refine and_congr_right fun h => ?_
  have hi := incl_sub (T q) (N q) _ h
  have hN := hN q
  rw [incl_at V c T N hw hs t q k h, pe_at V c T N hw hs, if_pos h, iblk_3 V c T N hr, sub_ofNat _ _ hi.2, hi.1]
  have hl := lt_words t k
  have c1 := cnt_le (T q) (16 * (128 * t.val + k.val + 1))
  have c2 := cnt_le (T q) (16 * (128 * t.val + k.val))
  rw [Bool.and_eq_true, decide_eq_true_eq, decide_eq_true_eq]
  refine and_congr ?_ ?_
  · rw [IntOp.cmpi_sle, toInt_ofNat _ (by unfold before; omega), toInt_ofNat _ (by unfold room; omega)]; omega
  · rw [IntOp.cmpi_sgt, toInt_ofNat (Cert.Pure.incl _ _ _) (by unfold Cert.Pure.incl; omega), toInt_ofNat (room _ _) (by unfold room; omega)]; omega

include hN hw hv hs hr in
/-- The matches of a word all of whose ties are taken. -/
theorem full_at (t : Fin cfg4.N) (q : Fin 1024) (k : Fin 128) :
    k4_pay98 (F := Ideal) (k4_pay92 (F := Ideal) (iblk V c 1 t)) (R4.mine (F := Ideal) (grid4.coords t) (iblk V c 2 t)) (k4_pay94 (F := Ideal) (iblk V c 0 t)) (iblk V c 3 t) (ix2 q k)
      = BitVec.ofNat 32 (if full (T q) (N q) (128 * t.val + k.val) then blk (both (T q) (M q)) (16 * (128 * t.val + k.val)) 16 else 0) := by
  have hm := mine_at V c T N hs t q k
  have hN := hN q
  have hl := lt_words t k
  have c1 := cnt_le (T q) (16 * (128 * t.val + k.val + 1))
  have hf : IntOp.andi (R4.mine (F := Ideal) (grid4.coords t) (iblk V c 2 t) (ix2 q k))
      (IntOp.cmpi .sle (R4.incl (F := Ideal) (grid4.coords t) (iblk V c 0 t) (iblk V c 2 t) (ix2 q k)) (iblk V c 3 t (ix2 q 0) : BitVec 32)) = 1#1
        ↔ full (T q) (N q) (128 * t.val + k.val) = true := by
    rw [andi_one, hm]
    unfold full
    rw [Bool.and_eq_true]
    refine and_congr_right fun h => ?_
    rw [incl_at V c T N hw hs t q k h, iblk_3 V c T N hr, IntOp.cmpi_sle, toInt_ofNat _ (by unfold Cert.Pure.incl; omega), toInt_ofNat _ (by unfold room; omega), decide_eq_true_eq]
    omega
  unfold k4_pay98 k4_pay97 k4_pay92
  pointwise
  by_cases h : full (T q) (N q) (128 * t.val + k.val) = true
  · have hmm : Cert.Pure.mine (T q) (N q) (128 * t.val + k.val) = true := by
      unfold full at h; rw [Bool.and_eq_true] at h; exact h.1
    rw [if_pos h]
    refine (if_pos (hf.mpr h)).trans ((if_pos (hm.mpr hmm)).trans ?_)
    refine Eq.trans ?_ (popBV_word (both (T q) (M q)) (128 * t.val + k.val))
    rw [← iblk_1 V c T M hv t q k]
    rfl
  · rw [if_neg h]
    exact if_neg (fun e => h (hf.mp e))

/-! ## The four running sums -/

/-- What word `g` adds to the first word, the second word, the rest and the matches. -/
def fE (q : Fin 1024) (g : ℕ) : BitVec 32 := if cross (T q) (N q) g then BitVec.ofNat 32 (word (T q) g) else 0
/-- The matching ties of the word that the last tie taken cuts. -/
def fM (q : Fin 1024) (g : ℕ) : BitVec 32 := if cross (T q) (N q) g then BitVec.ofNat 32 (word (both (T q) (M q)) g) else 0
/-- The ties to take in that word. -/
def fK (q : Fin 1024) (g : ℕ) : ℕ := if cross (T q) (N q) g then room (T q) (N q) - before (T q) (N q) g else 0
/-- The matching ties of a word that is taken whole. -/
def fF (q : Fin 1024) (g : ℕ) : ℕ := if full (T q) (N q) g then blk (both (T q) (M q)) (16 * g) 16 else 0

/-- The scratch before point `n`. -/
def Inv (n : ℕ) (q : Fin 1024) (p : Scr Ideal) : Prop :=
  (n ≠ 0 → p.1 (ix2 q 0) = ∑ g ∈ Finset.range (128 * n), fE T N q g ∧ p.2.1 (ix2 q 0) = ∑ g ∈ Finset.range (128 * n), fM T M N q g
    ∧ p.2.2.1 (ix2 q 0) = BitVec.ofNat 32 (∑ g ∈ Finset.range (128 * n), fK T N q g) ∧ p.2.2.2 (ix2 q 0) = BitVec.ofNat 32 (∑ g ∈ Finset.range (128 * n), fF T M N q g))

/-- One point's addition to a running sum. -/
theorem run_sum (n : ℕ) (f : ℕ → BitVec 32) (a : BitVec 32) (w : Fin 128 → BitVec 32) (ha : a = ∑ g ∈ Finset.range (128 * n), f g)
    (hw : ∀ k : Fin 128, w k = f (128 * n + k.val)) : IntOp.addi a ((Finset.univ : Finset (Fin 128)).fold IntOp.addi 0#32 w) = ∑ g ∈ Finset.range (128 * (n + 1)), f g := by
  rw [fold_addi, ha, Nat.mul_succ, Finset.sum_range_add, ← Fin.sum_univ_eq_sum_range (fun x => f (128 * n + x)) 128]
  exact congrArg (fun x => (∑ g ∈ Finset.range (128 * n), f g) + x) (Finset.sum_congr rfl fun k _ => hw k)

include hN hw hv hs hr in
theorem inv_step (t : Fin cfg4.N) (q : Fin 1024) (p : Scr Ideal) (hp : Inv T M N t.val q p) :
    Inv T M N (t.val + 1) q (step (grid4.coords t) (iblk V c 0 t) (iblk V c 1 t) (iblk V c 2 t) (iblk V c 3 t) (iblk V c 4 t) p) := by
  have hcr := fun k => cross_at V c T N hN hw hs hr t q k
  refine fun _ => ⟨?_, ?_, ?_, ?_⟩
  · unfold step k4_pay102
    pointwise
    refine run_sum t.val (fE T N q) _ _ ?_ fun k => ?_
    · by_cases h : t.val = 0
      · rw [if_pos ((cond0_iff t).mpr h), h]; unfold k4_pay87; pointwise; rfl
      · rw [if_neg (fun e => h ((cond0_iff t).mp e))]; exact (hp h).1
    · unfold fE k4_pay91
      pointwise
      rw [iblk_0 V c T hw]
      exact if_congr (hcr k) rfl rfl
  · unfold step k4_pay103
    pointwise
    refine run_sum t.val (fM T M N q) _ _ ?_ fun k => ?_
    · by_cases h : t.val = 0
      · rw [if_pos ((cond0_iff t).mpr h), h]; unfold k4_pay88; pointwise; rfl
      · rw [if_neg (fun e => h ((cond0_iff t).mp e))]; exact (hp h).2.1
    · unfold fM k4_pay92
      pointwise
      rw [iblk_1 V c T M hv]
      exact if_congr (hcr k) rfl rfl
  · rw [← sum_ofNat]
    unfold step k4_pay1 k4_pay104
    pointwise
    refine run_sum t.val (fun g => BitVec.ofNat 32 (fK T N q g)) _ _ ?_ fun k => ?_
    · by_cases h : t.val = 0
      · rw [if_pos ((cond0_iff t).mpr h), h]; unfold k4_pay89; pointwise; rfl
      · rw [if_neg (fun e => h ((cond0_iff t).mp e)), sum_ofNat]; exact (hp h).2.2.1
    · unfold k4_pay100
      pointwise
      unfold fK
      by_cases h : cross (T q) (N q) (128 * t.val + k.val) = true
      · have hmm := h
        unfold cross at hmm
        rw [Bool.and_eq_true, Bool.and_eq_true, decide_eq_true_eq, decide_eq_true_eq] at hmm
        have hi := incl_sub (T q) (N q) _ hmm.1
        rw [if_pos h]
        refine (if_pos ((hcr k).mpr h)).trans ?_
        rw [incl_at V c T N hw hs t q k hmm.1, pe_at V c T N hw hs, if_pos hmm.1, room_at V c T N hr, sub_ofNat _ _ hi.2, hi.1, sub_ofNat _ _ hmm.2.1]
      · rw [if_neg h]
        exact if_neg (fun e => h ((hcr k).mp e))
  · rw [← sum_ofNat]
    unfold step k4_pay99
    pointwise
    refine run_sum t.val (fun g => BitVec.ofNat 32 (fF T M N q g)) _ _ ?_ fun k => ?_
    · by_cases h : t.val = 0
      · rw [if_pos ((cond0_iff t).mpr h), h]; unfold k4_pay90; pointwise; rfl
      · rw [if_neg (fun e => h ((cond0_iff t).mp e)), sum_ofNat]; exact (hp h).2.2.2
    · exact full_at V c T M N hN hw hv hs hr t q k

include hN hw hv hs hr in
theorem st_inv (q : Fin 1024) : ∀ n (h : n < cfg4.N), Inv T M N (n + 1) q (st V c n h)
  | 0, h => inv_step V c T M N hN hw hv hs hr ⟨0, h⟩ q _ (fun e => absurd rfl e)
  | n + 1, h => inv_step V c T M N hN hw hv hs hr ⟨n + 1, h⟩ q _ (st_inv q n (Nat.lt_of_succ_lt h))

/-- The last point. -/
def last : Fin cfg4.N := ⟨48, lt_of_lt_of_eq (by decide) N_4.symm⟩

/-- The flags among the first `need` of `T` that are in `M` too, and those counted before. -/
def total (T M : ℕ → Bool) (need : ℕ) : ℕ := cnt (fun j => M j && first T need j) 100352

/-- A sum over the crossing words has what every such word has. -/
theorem cross_prop {α : Type} [AddCommMonoid α] (T : ℕ → Bool) (need n : ℕ) (f : ℕ → α) (P : α → Prop) (h0 : P 0) (hf : ∀ g, cross T need g = true → P (f g)) :
    P (∑ g ∈ Finset.range n, if cross T need g then f g else 0) := by
  by_cases h : ∃ g < n, cross T need g = true
  · obtain ⟨g, hg, hc⟩ := h
    rw [Finset.sum_eq_single g]
    · rw [if_pos hc]; exact hf g hc
    · intro b _ hb
      rw [if_neg fun hcb => hb (cross_unique T need b g hcb hc)]
    · intro hn; exact absurd (Finset.mem_range.mpr hg) hn
  · rw [Finset.sum_eq_zero fun g hg => if_neg fun hc => h ⟨g, Finset.mem_range.mp hg, hc⟩]
    exact h0

/-- A word of ties has at most sixteen. -/
theorem bits_le (q : Fin 1024) (n : ℕ) : (bits (∑ g ∈ Finset.range n, fE T N q g)).card ≤ 16 :=
  cross_prop (T q) (N q) n (fun g => BitVec.ofNat 32 (word (T q) g)) (fun x => (bits x).card ≤ 16) (by rw [show (0 : BitVec 32) = 0#32 from rfl, bits_zero]; simp) fun g _ => by
    unfold word
    rw [bits_pack _ 16 (by decide)]
    exact (Finset.card_filter_le _ _).trans (by rw [Finset.card_range])

include hN in
theorem rest_le (q : Fin 1024) (n : ℕ) : ∑ g ∈ Finset.range n, fK T N q g ≤ 1000 :=
  cross_prop (T q) (N q) n (fun g => room (T q) (N q) - before (T q) (N q) g) (fun x => x ≤ 1000) (Nat.zero_le _) fun g _ => by
    have := hN q
    unfold room
    omega

include h1 hN hw hv hs hr hb in
theorem score_at (q : Fin 1024) (p : Scr Ideal) (hp : Inv T M N 49 q p) (b : ℕ)
    (hB : B q = b + cnt (both (T q) (M q)) (128 * star (T q) (N q))) :
    IntOp.addi (IntOp.addi (BitVec.ofNat 32 (B q)) (p.2.2.2 (ix2 q 0))) ((take (p.2.2.1 (ix2 q 0)) (p.2.1 (ix2 q 0)))^[16] (p.1 (ix2 q 0), 0#32, 0#32)).2.2
      = BitVec.ofNat 32 (b + total (T q) (M q) (N q)) := by
  obtain ⟨e1, e2, e3, e4⟩ := hp (by decide)
  have e6 : 128 * 49 = 6272 := by norm_num
  rw [e6] at e1 e2 e3 e4
  rw [e1, e2, e3, e4, take_iterate _ _ (rest_le T N hN q 6272) 16 _ 0 0 (bits_le T N q 6272) (Nat.zero_le _), add_ofNat, add_ofNat]
  refine congrArg (BitVec.ofNat 32) ?_
  have hsel := select (T q) (M q) (N q) (h1 q)
  unfold total
  rw [hsel, hB, Nat.sub_zero, Nat.zero_add, Nat.add_assoc, Nat.add_assoc, Nat.add_assoc]
  simp only [fE, fM, fK, fF]

/-- The matching ties taken are at most the points. -/
theorem total_le (T M : ℕ → Bool) (need : ℕ) : total T M need ≤ 100352 := cnt_le _ _

include h1 hN hw hv hs hr hb in
/-- What the region leaves: the sum of the queries' numbers over 102400. -/
theorem arr (b : Fin 1024 → ℕ) (hB : ∀ q, B q = b q + cnt (both (T q) (M q)) (128 * star (T q) (N q))) (hle : ∀ q, b q ≤ 100352) :
    (dat V c).arrAt 5 cfg4.N = fun _ => Ideal.div (∑ q : Fin 1024, (((b q + total (T q) (M q) (N q) : ℕ) : ℝ) : EReal)) (Ideal.ofBits FTy.f32 1204289536#32) := by
  refine (dat V c).arrAt_eq_of_after_last 5 last (by decide +kernel) _ fun j => ?_
  obtain rfl : j = ix2 0 0 := by funext a; fin_cases a <;> exact Subsingleton.elim (α := Fin 1) _ _
  blk_simp
  rw [after_5, out, dif_neg (by decide)]
  unfold res
  rw [tail_at]
  refine congrArg (fun x => Ideal.div x (Ideal.ofBits FTy.f32 1204289536#32)) (Finset.sum_congr rfl fun q _ => ?_)
  have hp := inv_step V c T M N hN hw hv hs hr last q _ (st_inv V c T M N hN hw hv hs hr q 47 (lt_of_lt_of_eq (by decide) N_4.symm))
  refine R3.word_real .f32 _ ?_ _ ?_
  · have := hle q
    have := total_le (T q) (M q) (N q)
    omega
  · rw [iblk_4 V c B hb]
    exact score_at V c T M N B hN h1 hw hv hs hr hb q _ hp (b q) (hB q)

end R4

end Cert.KernelIdeal.Hand
-- ==== Proof.Ideal.ValKernel.lean ====
/-
The kernel's result: over 102400, the number of matches among each query's hundred nearest points, summed over the queries.
-/
module

public import proofs.«01_k».proof.Proof.Ideal.ValHost
public import proofs.«01_k».proof.Proof.Ideal.ValR0
public import proofs.«01_k».proof.Proof.Ideal.ValR1
public import proofs.«01_k».proof.Proof.Ideal.ValR2
public import proofs.«01_k».proof.Proof.Ideal.ValR3
public import proofs.«01_k».proof.Proof.Ideal.ValR4

@[expose] public section

set_option maxRecDepth 16384

noncomputable section

namespace Cert.KernelIdeal.Hand

open Idealize.ShloMosaic Idealize.ShloMosaic.TcCoe
open Cert.Pure Gen

variable (m : (ℓ : Loc nD τ sig) → Buf (Elt Ideal) ℓ) (c : Dev nD)

/-- The reshape of the labels leaves every other buffer. -/
theorem W8_of (r : Ref sig .tc) (h : r ∉ hostOps2_W) : W8 m c r = W7 m c r := by
  rw [← V8_eq, ← V7_eq]; exact V8_of m (outs m) c r h
/-- The reshapes of the chunk counts leave every other buffer. -/
theorem W10_of (r : Ref sig .tc) (h : r ∉ hostOps3_W) : W10 m c r = W9 m c r := by
  rw [← V10_eq, ← V9_eq]; exact V10_of m (outs m) c r h

/-- The padded distances less 64. -/
abbrev Ds (q : Fin 1024) : ℕ → ℤ := R0.D (V5 m) c q
/-- The padded points of the query's label. -/
def Ms (q : Fin 1024) (n : ℕ) : Bool :=
  if h : n < 100352 then decide ((V5 m c main_v1 (ix1 ⟨n, h⟩) : BitVec 32) = V5 m c main_v2 (ix2 q 0)) else false
/-- The Hamming distance of a query and a point. -/
def key (q : Fin 1024) (a : Fin 100000) : ℤ :=
  (ham (fun x => m ((c : Thread nD τ).loc main_arg2) (ix2 q x)) (fun x => m ((c : Thread nD τ).loc main_arg0) (ix2 a x)) : ℕ)

/-- A distance is not negative. -/
theorem key_lo (q : Fin 1024) (a : Fin 100000) : 0 ≤ key m c q a := by unfold key; omega
/-- A distance is at most 128. -/
theorem key_hi (q : Fin 1024) (a : Fin 100000) : key m c q a ≤ 128 := by
  unfold key
  exact_mod_cast ham_le _ _

/-- At a point, the padded distance is the Hamming distance less 64. -/
theorem Ds_key (q : Fin 1024) (a : Fin 100000) : Ds m c q a.val = key m c q a - 64 := by
  unfold Ds R0.D key
  rw [if_pos a.isLt]
  have e1 : R0.qrow (V5 m) c q = fun x => m ((c : Thread nD τ).loc main_arg2) (ix2 q x) := by
    funext x; unfold R0.qrow; rw [V5_arg2]
  have e2 : R0.prow (V5 m) c a.val = fun x => m ((c : Thread nD τ).loc main_arg0) (ix2 a x) := by
    funext x; unfold R0.prow; rw [dif_pos (by omega)]; exact V5_v0 m c a x
  rw [e1, e2]

/-- On the padding it is 127. -/
theorem Ds_pad (q : Fin 1024) (n : ℕ) (h : 100000 ≤ n) (_h' : n < 100352) : Ds m c q n = 127 := by
  unfold Ds R0.D
  rw [if_neg (by omega)]

/-- At a point, the match is the equality of the labels. -/
theorem Ms_key (q : Fin 1024) (a : Fin 100000) :
    Ms m c q a.val = true ↔ (m ((c : Thread nD τ).loc main_arg1) (ix1 a) : BitVec 32) = m ((c : Thread nD τ).loc main_arg3) (ix1 q) := by
  unfold Ms
  rw [dif_pos (by omega), decide_eq_true_eq, V5_v2, ← V5_v1 m c a]

/-- The first call's distances. -/
theorem dist6 (q : Fin 1024) (n : Fin 100352) : (W6 m c main_v3_0 (ix2 q n) : BitVec 8).toInt = Ds m c q n.val := by
  rw [W6_main_v3_0]; exact R0.dist_at (V5 m) c q n

/-- The second call's radius. -/
theorem radius7 (q : Fin 1024) : (W7 m c main_v4 (ix2 q 0) : BitVec 32) = BitVec.ofNat 32 (radius (Ds m c q)) := by
  obtain ⟨h1, h2, h3⟩ := R0.cnt_arr (V5 m) c
  rw [W7_main_v4, R1.arr (W6 m) c (Ds m c) (R0.D_bounds (V5 m) c) (dist6 m c)
    (fun q => by rw [W6_main_v3_1, h1]; rfl) (fun q => by rw [W6_main_v3_2, h2]; rfl) (fun q => by rw [W6_main_v3_3, h3]; rfl)]
  rfl

/-- The distances, as the third call finds them. -/
theorem dist8 (q : Fin 1024) (n : Fin 100352) : (W8 m c main_v3_0 (ix2 q n) : BitVec 8).toInt = Ds m c q n.val := by
  rw [W8_of m c main_v3_0 (by decide), keep1 m c main_v3_0 (by decide)]; exact dist6 m c q n
/-- The radius, as the third call finds it. -/
theorem radius8 (q : Fin 1024) : (W8 m c main_v4 (ix2 q 0) : BitVec 32) = BitVec.ofNat 32 (radius (Ds m c q)) := by
  rw [W8_of m c main_v4 (by decide)]; exact radius7 m c q

/-- The third call's comparison of labels is the match. -/
theorem match8 (q : Fin 1024) (t : Fin 49) (k : Fin 2048) :
    (W8 m c main_v5 (ix3 t 0 k) : BitVec 32) = W8 m c main_v2 (ix2 q 0) ↔ Ms m c q (2048 * t.val + k.val) = true := by
  rw [W8_v5, W8_of m c main_v2 (by decide), keep1 m c main_v2 (by decide), keep0 m c main_v2 (by decide), keep1 m c main_v1 (by decide), keep0 m c main_v1 (by decide)]
  unfold Ms
  rw [dif_pos (by omega), decide_eq_true_eq]

/-- What the radius and the ties satisfy: between one and a hundred ties are taken, and there are that many. -/
theorem spec (q : Fin 1024) : 1 ≤ need (Ds m c q) ∧ need (Ds m c q) ≤ cnt (tie (Ds m c q)) 100352 ∧ need (Ds m c q) ≤ 100 ∧ cnt (inside (Ds m c q)) 100352 < 100 :=
  need_spec (Ds m c q) (key m c q) (Ds_key m c q) (key_lo m c q) (key_hi m c q) (Ds_pad m c q)

/-- The points inside the radius and the ties taken are a hundred. -/
theorem need_add (q : Fin 1024) : need (Ds m c q) + cnt (inside (Ds m c q)) 100352 = 100 := by
  have := (spec m c q).2.2.2
  unfold need
  omega

/-- The ties of each chunk of 128. -/
theorem chunks10 (q : Fin 1024) (ch : Fin 784) : (W10 m c main_v8 (ix2 q ch) : BitVec 32) = BitVec.ofNat 32 (blk (tie (Ds m c q)) (128 * ch.val) 128) := by
  rw [W10_v8, W9_main_v6_2, R2.arr_6 (W8 m) c (Ds m c) (dist8 m c) (radius8 m c)]
  show BitVec.ofNat 32 (blk (tie (Ds m c q)) (2048 * (ch.val / 16) + 128 * (ch.val % 16)) 128) = _
  rw [show 2048 * (ch.val / 16) + 128 * (ch.val % 16) = 128 * ch.val by omega]

/-- The matching ties of each chunk of 128. -/
theorem matches10 (q : Fin 1024) (ch : Fin 784) : (W10 m c main_v10 (ix2 q ch) : BitVec 32) = BitVec.ofNat 32 (blk (both (tie (Ds m c q)) (Ms m c q)) (128 * ch.val) 128) := by
  rw [W10_v10, W9_main_v6_3, R2.arr_7 (W8 m) c (Ds m c) (Ms m c) (dist8 m c) (radius8 m c) (match8 m c)]
  show BitVec.ofNat 32 (blk (both (tie (Ds m c q)) (Ms m c q)) (2048 * (ch.val / 16) + 128 * (ch.val % 16)) 128) = _
  rw [show 2048 * (ch.val / 16) + 128 * (ch.val % 16) = 128 * ch.val by omega]

/-- The number of points inside the radius. -/
theorem inside10 (q : Fin 1024) : (W10 m c main_v6_0 (ix2 q 0) : BitVec 32) = BitVec.ofNat 32 (cnt (inside (Ds m c q)) 100352) := by
  rw [W10_of m c main_v6_0 (by decide), W9_main_v6_0, R2.arr_4 (W8 m) c (Ds m c) (Ms m c) (dist8 m c) (radius8 m c) (match8 m c)]
  rfl

/-- The number of matches inside the radius. -/
theorem hits10 (q : Fin 1024) : (W10 m c main_v6_1 (ix2 q 0) : BitVec 32) = BitVec.ofNat 32 (cnt (R2.hit (Ds m c) (Ms m c) q) 100352) := by
  rw [W10_of m c main_v6_1 (by decide), W9_main_v6_1, R2.arr_5 (W8 m) c (Ds m c) (Ms m c) (dist8 m c) (radius8 m c) (match8 m c)]
  rfl

/-- The ties, sixteen to a word. -/
theorem words11 (q : Fin 1024) (g : Fin 6272) : (W11 m c main_v6_4 (ix2 q g) : BitVec 32) = BitVec.ofNat 32 (word (tie (Ds m c q)) g.val) := by
  rw [keep3 m c main_v6_4 (by decide), W10_of m c main_v6_4 (by decide), W9_main_v6_4, R2.arr_8 (W8 m) c (Ds m c) (dist8 m c) (radius8 m c)]
  rfl
/-- The matching ties, sixteen to a word. -/
theorem words11' (q : Fin 1024) (g : Fin 6272) : (W11 m c main_v6_5 (ix2 q g) : BitVec 32) = BitVec.ofNat 32 (word (both (tie (Ds m c q)) (Ms m c q)) g.val) := by
  rw [keep3 m c main_v6_5 (by decide), W10_of m c main_v6_5 (by decide), W9_main_v6_5, R2.arr_9 (W8 m) c (Ds m c) (Ms m c) (dist8 m c) (radius8 m c) (match8 m c)]
  rfl

/-- The chunk in which the last tie taken lies. -/
theorem star11 (q : Fin 1024) : (W11 m c main_v11_0 (ix2 q 0) : BitVec 32) = BitVec.ofNat 32 (star (tie (Ds m c q)) (need (Ds m c q))) := by
  rw [W11_main_v11_0, R3.arr_4 (W10 m) c (fun q => tie (Ds m c q)) (fun q => need (Ds m c q)) (fun q => cnt (inside (Ds m c q)) 100352) (need_add m c) (chunks10 m c) (inside10 m c)]
  rfl
/-- The ties to take in that chunk. -/
theorem room11 (q : Fin 1024) : (W11 m c main_v11_1 (ix2 q 0) : BitVec 32) = BitVec.ofNat 32 (room (tie (Ds m c q)) (need (Ds m c q))) := by
  rw [W11_main_v11_1, R3.arr_5 (W10 m) c (fun q => tie (Ds m c q)) (fun q => need (Ds m c q)) (fun q => cnt (inside (Ds m c q)) 100352) (need_add m c) (fun q => (spec m c q).1) (chunks10 m c) (inside10 m c)]
  rfl
/-- The matches inside the radius and among the ties of the earlier chunks. -/
theorem base11 (q : Fin 1024) : (W11 m c main_v11_2 (ix2 q 0) : BitVec 32) = BitVec.ofNat 32 (cnt (R2.hit (Ds m c) (Ms m c) q) 100352
    + cnt (both (tie (Ds m c q)) (Ms m c q)) (128 * star (tie (Ds m c q)) (need (Ds m c q)))) := by
  rw [W11_main_v11_2, R3.arr_6 (W10 m) c (fun q => tie (Ds m c q)) (Ms m c) (fun q => need (Ds m c q)) (fun q => cnt (inside (Ds m c q)) 100352) (fun q => cnt (R2.hit (Ds m c) (Ms m c) q) 100352)
    (need_add m c) (chunks10 m c) (matches10 m c) (inside10 m c) (hits10 m c)]
  rfl

/-- The matches among a query's hundred nearest points, the smaller position first at an equal distance. -/
def matches_ (q : Fin 1024) : ℕ :=
  (Finset.univ.filter fun a : Fin 100000 => (m ((c : Thread nD τ).loc main_arg1) (ix1 a) : BitVec 32) = m ((c : Thread nD τ).loc main_arg3) (ix1 q) ∧ rank (key m c q) a < 100).card

/-- The kernel's count is the number of matches among the query's hundred nearest points. -/
theorem score_matches (q : Fin 1024) : cnt (R2.hit (Ds m c) (Ms m c) q) 100352 + R4.total (tie (Ds m c q)) (Ms m c q) (need (Ds m c q)) = matches_ m c q := by
  have h := score_eq (Ds m c q) (key m c q) (Ds_key m c q) (key_lo m c q) (key_hi m c q) (Ds_pad m c q) (Ms m c q)
  unfold score at h
  unfold R4.total R2.hit matches_
  rw [h]
  exact congrArg Finset.card (Finset.filter_congr fun a _ => by rw [Ms_key])

/-- The kernel's result. -/
theorem value (i : S_.Idx) : W13 m c main_v13 i = Ideal.div (∑ q : Fin 1024, (((matches_ m c q : ℕ) : ℝ) : EReal)) (Ideal.ofBits FTy.f32 1204289536#32) := by
  rw [W13_v13, W12_main_v12, R4.arr (W11 m) c (fun q => tie (Ds m c q)) (Ms m c) (fun q => need (Ds m c q))
    (fun q => cnt (R2.hit (Ds m c) (Ms m c) q) 100352 + cnt (both (tie (Ds m c q)) (Ms m c q)) (128 * star (tie (Ds m c q)) (need (Ds m c q))))
    (fun q => (spec m c q).2.2.1) (fun q => (spec m c q).1) (words11 m c) (words11' m c) (star11 m c) (room11 m c) (base11 m c)
    (fun q => cnt (R2.hit (Ds m c) (Ms m c) q) 100352) (fun _ => rfl) (fun q => cnt_le _ _)]
  refine congrArg (fun x => Ideal.div x (Ideal.ofBits FTy.f32 1204289536#32)) (Finset.sum_congr rfl fun q _ => ?_)
  rw [score_matches]

end Cert.KernelIdeal.Hand
-- ==== Proof.Ref.Value.lean ====
/-
The reference's result: it is the mean over the queries of the share of matches among a query's hundred nearest points.
-/
module

public import proofs.«01_k».proof.Proof.Gen.ReferenceIdeal.Run
public import proofs.«01_k».proof.Proof.Pure.Ops
public import proofs.«01_k».proof.Proof.Pure.Sorted
public import Idealize.ShloMosaic.Lib.Pipeline.ValueKit
public import Idealize.ShloMosaic.Lib.SortFacts

@[expose] public section

set_option maxRecDepth 16384

noncomputable section

namespace Cert.ReferenceIdeal.Hand

open Idealize.ShloMosaic Idealize.ShloMosaic.TcCoe
open Cert.Pure Cert.ReferenceIdeal Cert.ReferenceIdeal.Gen

variable (X : FVec Ideal S100000x128 .f32) (Q : FVec Ideal S1024x128 .f32)
/-- The signs of the queries' coordinates, as zeros and ones. -/
def signsQ : FVec Ideal S1024x128 .f32 := (id (select (cmpf .ogt Q (broadcastInDim S1024x128 ![] bcast_S_S1024x128 (constant S_ .f32 0x00000000#32))) (broadcastInDim S1024x128 ![] bcast_S_S1024x128 (constant S_ .f32 0x3F800000#32)) (broadcastInDim S1024x128 ![] bcast_S_S1024x128 (constant S_ .f32 0x00000000#32))))
/-- The signs of the points' coordinates, as zeros and ones. -/
def signsX : FVec Ideal S100000x128 .f32 := (id (select (cmpf .ogt X (broadcastInDim S100000x128 ![] bcast_S_S100000x128 (constant S_ .f32 0x00000000#32))) (broadcastInDim S100000x128 ![] bcast_S_S100000x128 (constant S_ .f32 0x3F800000#32)) (broadcastInDim S100000x128 ![] bcast_S_S100000x128 (constant S_ .f32 0x00000000#32))))
/-- The negated distances. -/
def negd : FVec Ideal S1024x100000 .f32 :=
  Host.negf (subf (addf (broadcastInDim S1024x100000 ![0, 1] bcast_S1024x1_S1024x100000_0_1 (broadcastInDim S1024x1 ![0] bcast_S1024_S1024x1_0 (Host.reduceAdd (signsQ Q) (constant S_ .f32 0x00000000#32) reducesTo_S1024x128_S1024_d1 h_S_))) (broadcastInDim S1024x100000 ![0, 1] bcast_S1x100000_S1024x100000_0_1 (broadcastInDim S1x100000 ![1] bcast_S100000_S1x100000_1 (Host.reduceAdd (signsX X) (constant S_ .f32 0x00000000#32) reducesTo_S100000x128_S100000_d1 h_S_)))) (mulf (broadcastInDim S1024x100000 ![] bcast_S_S1024x100000 (constant S_ .f32 0x40000000#32)) (Host.dotGeneral dot_S1024x128_S128x100000_S1024x100000_1_0_0_1_n_n none (signsQ Q) (transpose S128x100000 [1, 0] (signsX X) transposes_S100000x128_S128x100000_1_0))))
/-- The positions of each query's hundred nearest points. -/
def places (D : FVec Ideal S1024x100000 .f32) : IVec S1024x100 32 :=
  (Host.topK S1024x100 1 (FloatOps.cmpfTotal .gt) D sliceFits_S1024x100000_S1024x100).2
/-- The positions, as the gather takes them. -/
def starts (I : IVec S1024x100 32) : IVec S102400x1 32 :=
  broadcastInDim S102400x1 ![0] bcast_S102400_S102400x1_0 (select (cmpi .slt (shapeCast _ I shapeCasts_S1024x100_S102400) (broadcastInDim S102400 ![] bcast_S_S102400 (constantI S_ 32 0#32))) (addi (shapeCast _ I shapeCasts_S1024x100_S102400) (broadcastInDim S102400 ![] bcast_S_S102400 (constantI S_ 32 100000#32))) (shapeCast _ I shapeCasts_S1024x100_S102400))
/-- The labels at those positions. -/
def labels (y : IVec S100000 32) (J : IVec S102400x1 32) : IVec S1024x100 32 :=
  shapeCast _ (Host.gather gather_S100000_S102400x1_S102400_n_0_n_n_0_1_1 y J) shapeCasts_S102400_S1024x100
/-- The mean share of labels that match. -/
def mean (L : IVec S1024x100 32) (z : IVec S1024 32) : FVec Ideal S_ .f32 :=
  Host.divf (Host.reduceAdd (Host.divf (Host.reduceAdd (uitofp .f32 (cmpi .eq L (broadcastInDim S1024x100 ![0, 1] bcast_S1024x1_S1024x100_0_1 (broadcastInDim S1024x1 ![0] bcast_S1024_S1024x1_0 z)))) (constant S_ .f32 0x00000000#32) reducesTo_S1024x100_S1024_d1 h_S_) (broadcastInDim S1024 ![] bcast_S_S1024 (constant S_ .f32 0x42C80000#32))) (constant S_ .f32 0x00000000#32) reducesTo_S1024_S_d0 h_S_) (constant S_ .f32 0x44800000#32)

/-- The reference's result is those stages, one after another. -/
theorem res_eq (m : (ℓ : Loc nD τ sig) → Buf (Elt Ideal) ℓ) (c : Dev nD) : Value.res_main_v38 m c
    = mean (labels (m ((c.tc : Thread nD τ).loc main_arg1)) (starts (places (negd (m ((c.tc : Thread nD τ).loc main_arg0)) (m ((c.tc : Thread nD τ).loc main_arg2)))))) (m ((c.tc : Thread nD τ).loc main_arg3)) := by
  unfold Value.res_main_v38 mean labels starts places negd signsX signsQ
  rfl

/-- One sign. -/
theorem sign_at (v : EReal) : (if 0 < v then (1 : EReal) else 0) = (((if 0 < v then 1 else 0 : ℝ)) : EReal) := by
  by_cases h : 0 < v
  · rw [if_pos h, if_pos h]; rfl
  · rw [if_neg h, if_neg h]; rfl

/-- A query's sign. -/
theorem signsQ_at (q : Fin 1024) (x : Fin 128) : signsQ Q (ix2 q x) = (((if 0 < Q (ix2 q x) then 1 else 0 : ℝ)) : EReal) := by
  unfold signsQ
  simp only [id_eq]
  pointwise
  exact sign_at _
/-- A point's sign. -/
theorem signsX_at (a : Fin 100000) (x : Fin 128) : signsX X (ix2 a x) = (((if 0 < X (ix2 a x) then 1 else 0 : ℝ)) : EReal) := by
  unfold signsX
  simp only [id_eq]
  pointwise
  exact sign_at _

/-- The literal two. -/
theorem ofBits_two : Ideal.ofBits FTy.f32 1073741824#32 = ((2 : ℝ) : EReal) := by
  simp [Ideal.ofBits, Ideal.ieee]; rw [← EReal.coe_mul]; norm_num
/-- The literal one hundred. -/
theorem ofBits_hundred : Ideal.ofBits FTy.f32 1120403456#32 = ((100 : ℝ) : EReal) := by
  simp [Ideal.ofBits, Ideal.ieee]; rw [← EReal.coe_mul]; norm_num
/-- The literal 1024. -/
theorem ofBits_queries : Ideal.ofBits FTy.f32 1149239296#32 = ((1024 : ℝ) : EReal) := by
  simp [Ideal.ofBits, Ideal.ieee]; rw [← EReal.coe_mul]; norm_num
/-- The literal 102400. -/
theorem ofBits_all : Ideal.ofBits FTy.f32 1204289536#32 = ((102400 : ℝ) : EReal) := by
  simp [Ideal.ofBits, Ideal.ieee]; rw [← EReal.coe_mul]; norm_num

/-- Two rows' counts of positive coordinates, less twice the count of the common ones. -/
theorem ham_real (u v : Fin 128 → EReal) :
    (∑ x, (if 0 < u x then 1 else 0 : ℝ)) + (∑ x, (if 0 < v x then 1 else 0 : ℝ)) - 2 * ∑ x, (if 0 < u x then 1 else 0 : ℝ) * (if 0 < v x then 1 else 0 : ℝ)
      = (ham u v : ℝ) := by
  rw [Finset.mul_sum, ← Finset.sum_add_distrib, ← Finset.sum_sub_distrib]
  unfold ham
  rw [← Finset.sum_boole]
  refine Finset.sum_congr rfl fun x _ => ?_
  by_cases h1 : 0 < u x <;> by_cases h2 : 0 < v x <;> simp [h1, h2] <;> norm_num

/-- A negated distance counts the coordinates whose signs differ. -/
theorem negd_at (q : Fin 1024) (a : Fin 100000) :
    negd X Q (ix2 q a) = ((-(ham (fun x => Q (ix2 q x)) (fun x => X (ix2 a x)) : ℝ) : ℝ) : EReal) := by
  unfold negd
  pointwise
  simp only [signsQ_at, signsX_at, ofBits_two]
  rw [Finset.sum_congr rfl fun x _ => (EReal.coe_mul _ _).symm]
  rw [coe_sum, coe_sum, coe_sum, ← EReal.coe_add, ← EReal.coe_mul, ← EReal.coe_sub, ← EReal.coe_neg, ham_real]

/-- The comparison of negated keys. -/
theorem before_at (i j : ℤ) : (FloatOps.cmpfTotal (F := Ideal) (φ := .f32) .gt (((-(i : ℝ)) : ℝ) : EReal) (((-(j : ℝ)) : ℝ) : EReal) == 1#1) = true ↔ i < j := by
  show (BitVec.ofBool (decide ((((-(j : ℝ)) : ℝ) : EReal) < (((-(i : ℝ)) : ℝ) : EReal))) == 1#1) = true ↔ i < j
  have e : ((((-(j : ℝ)) : ℝ) : EReal) < (((-(i : ℝ)) : ℝ) : EReal)) ↔ i < j := by
    rw [EReal.coe_lt_coe_iff, neg_lt_neg_iff, Int.cast_lt]
  by_cases h : i < j
  · rw [decide_eq_true (e.mpr h)]; simp [h]
  · rw [decide_eq_false (fun h' => h (e.mp h'))]; simp [h]

/-- The comparator of the selection on one query's row. -/
def R (D : FVec Ideal S1024x100000 .f32) (q : Fin 1024) : Fin 100000 → Fin 100000 → Bool := fun k k' =>
  FloatOps.cmpfTotal (F := Ideal) (φ := .f32) .gt (D (ix2 q k)) (D (ix2 q k')) == 1#1

/-- A row's element, by its position in the row. -/
theorem along2 (q : Fin 1024) (a k : Fin 100000) (h : 1 < S1024x100000.rank) : Shape.Idx.along (s := S1024x100000) (ix2 q a) ⟨1, h⟩ k = ix2 q k := by
  funext b
  fin_cases b <;> rfl

/-- A sort of two arrays by rows, the second read at an index. -/
theorem sort2_at (D : FVec Ideal S1024x100000 .f32) (y : IVec S1024x100000 32) (gt : EReal → EReal → BitVec 1) (q : Fin 1024) (k : Fin 100000) :
    (Host.sort2 S1024x100000 1 (fun l r => gt l.1 r.1) D y).2 (ix2 q k) = y (ix2 q (sortedFrom (fun a b => gt (D (ix2 q a)) (D (ix2 q b)) == 1#1) k)) := by
  have hd : 1 < S1024x100000.rank := by decide
  unfold Host.sort2
  rw [dif_pos hd]
  refine (congrArg y (along2 q k (sortedFrom (fun a b : Fin 100000 =>
    gt (D (Shape.Idx.along (s := S1024x100000) (ix2 q k) ⟨1, hd⟩ a)) (D (Shape.Idx.along (s := S1024x100000) (ix2 q k) ⟨1, hd⟩ b)) == 1#1) k) hd)).trans ?_
  simp only [along2]

/-- The position selected at place `j` for a query. -/
theorem places_at (D : FVec Ideal S1024x100000 .f32) (q : Fin 1024) (j : Fin 100) :
    places D (ix2 q j) = BitVec.ofNat 32 (sortedFrom (R D q) (j.castLE (by decide))).val := by
  unfold places Host.topK
  pointwise
  rw [sort2_at]
  rfl

/-- A position that is not negative is passed on as it is. -/
theorem starts_at (I : IVec S1024x100 32) (n : Fin 102400) (z : Fin 1) (w : ℕ) (hw : w < 100000)
    (h : I (ix2 ⟨n.val / 100, by omega⟩ ⟨n.val % 100, by omega⟩) = BitVec.ofNat 32 w) : starts I (ix2 n z) = BitVec.ofNat 32 w := by
  unfold starts
  pointwise
  rw [h]
  show (if IntOp.cmpi .slt (BitVec.ofNat 32 w) 0#32 = 1#1 then _ else _) = _
  rw [if_neg]
  rw [IntOp.cmpi_slt, toInt_ofNat w (by omega)]
  simp

/-- The gather reads the label at the position it is given. -/
theorem gather_at (y : IVec S100000 32) (J : IVec S102400x1 32) (n : Fin 102400) (w : Fin 100000) (h : J (ix2 n 0) = BitVec.ofNat 32 w.val) :
    Host.gather gather_S100000_S102400x1_S102400_n_0_n_n_0_1_1 y J (ix1 n) = y (ix1 w) := by
  unfold Host.gather
  refine congrArg y ?_
  funext a
  obtain rfl : a = 0 := Subsingleton.elim (α := Fin 1) _ _
  refine Fin.ext ?_
  show GatherDims.start _ (ix1 n) J 0 + GatherDims.batchCoord _ (ix1 n) 0 + GatherDims.offCoord _ (ix1 n) 0 = w.val
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ GatherDims.startIndexMap gather_S100000_S102400x1_S102400_n_0_n_n_0_1_1 from List.mem_singleton.mpr rfl)]
  have e : ∀ p, GatherDims.siIdx gather_S100000_S102400x1_S102400_n_0_n_n_0_1_1 (ix1 n) p = ix2 n 0 := by
    intro p
    funext b
    refine Fin.ext ?_
    match b with
    | ⟨0, _⟩ => rfl
    | ⟨1, _⟩ => exact congrArg Fin.val (Subsingleton.elim (α := Fin 1) _ _)
  rw [e, h, toInt_ofNat w.val (by omega)]
  show min w.val (100000 - 1) + 0 + 0 = w.val
  omega

/-- A label, from the position given. -/
theorem labels_at (y : IVec S100000 32) (J : IVec S102400x1 32) (q : Fin 1024) (j : Fin 100) (w : Fin 100000)
    (h : J (ix2 ⟨q.val * 100 + j.val, by omega⟩ 0) = BitVec.ofNat 32 w.val) : labels y J (ix2 q j) = y (ix1 w) := by
  unfold labels
  pointwise
  exact gather_at y J _ w h

/-- The labels of the hundred nearest points. -/
theorem labels_places (y : IVec S100000 32) (D : FVec Ideal S1024x100000 .f32) (q : Fin 1024) (j : Fin 100) :
    labels y (starts (places D)) (ix2 q j) = y (ix1 (sortedFrom (R D q) (j.castLE (by decide)))) := by
  refine labels_at _ _ _ _ _ (starts_at _ _ _ _ (Fin.isLt _) ?_)
  rw [← places_at]
  refine congrArg (places D) ?_
  have h1 : (q.val * 100 + j.val) / 100 = q.val := by omega
  have h2 : (q.val * 100 + j.val) % 100 = j.val := by omega
  simp only [h1, h2]

/-- A flag converted is zero or one. -/
theorem uitofp_flag (φ : FTy) (b : BitVec 1) : FloatOps.uitofp (F := Ideal) φ b = (((if b = 1#1 then 1 else 0 : ℝ)) : EReal) := by
  show (((b.toNat : ℕ) : ℝ) : EReal) = _
  revert b
  intro b
  by_cases h : b = 1#1
  · subst h; simp
  · have : b = 0#1 := by revert b; decide
    subst this; simp

/-- The mean of the counts over a hundred is their sum over all the places. -/
theorem mean_at (L : IVec S1024x100 32) (z : IVec S1024 32) (i : S_.Idx) :
    mean L z i = Ideal.div (∑ q : Fin 1024, ((((Finset.univ.filter fun j : Fin 100 => L (ix2 q j) = z (ix1 q)).card : ℕ) : ℝ) : EReal)) (Ideal.ofBits FTy.f32 1204289536#32) := by
  unfold mean
  pointwise
  simp only [ofBits_hundred, ofBits_queries, ofBits_all, uitofp_flag, coe_sum, Ideal.div_coe (show (100 : ℝ) ≠ 0 by norm_num),
    Ideal.div_coe (show (1024 : ℝ) ≠ 0 by norm_num), Ideal.div_coe (show (102400 : ℝ) ≠ 0 by norm_num), ← EReal.coe_mul, IntOp.cmpi_eq, Finset.sum_boole]
  rw [← Finset.sum_mul, mul_assoc]
  norm_num

/-- The selection puts the smaller distance first. -/
theorem R_negd (q : Fin 1024) (a b : Fin 100000) : R (negd X Q) q a b = true
    ↔ ((ham (fun x => Q (ix2 q x)) (fun x => X (ix2 a x)) : ℕ) : ℤ) < ((ham (fun x => Q (ix2 q x)) (fun x => X (ix2 b x)) : ℕ) : ℤ) := by
  unfold R
  rw [negd_at, negd_at]
  exact before_at _ _

/-- The reference's result: the matches among each query's hundred nearest points, over all the places. -/
theorem value (m : (ℓ : Loc nD τ sig) → Buf (Elt Ideal) ℓ) (c : Dev nD) (i : S_.Idx) : Value.res_main_v38 m c i
    = Ideal.div (∑ q : Fin 1024, ((((Finset.univ.filter fun a : Fin 100000 =>
        (m ((c.tc : Thread nD τ).loc main_arg1) (ix1 a) : BitVec 32) = m ((c.tc : Thread nD τ).loc main_arg3) (ix1 q)
          ∧ rank (fun a => ((ham (fun x => m ((c.tc : Thread nD τ).loc main_arg2) (ix2 q x)) (fun x => m ((c.tc : Thread nD τ).loc main_arg0) (ix2 a x)) : ℕ) : ℤ)) a < 100).card : ℕ) : ℝ) : EReal))
      (Ideal.ofBits FTy.f32 1204289536#32) := by
  rw [res_eq, mean_at]
  refine congrArg (fun x => Ideal.div x (Ideal.ofBits FTy.f32 1204289536#32)) (Finset.sum_congr rfl fun q _ => ?_)
  refine congrArg (fun n : ℕ => ((n : ℝ) : EReal)) ?_
  rw [← card_first _ (R (negd (m ((c.tc : Thread nD τ).loc main_arg0)) (m ((c.tc : Thread nD τ).loc main_arg2))) q) (R_negd _ _ q) 100 (by decide)]
  refine congrArg Finset.card (Finset.filter_congr fun j _ => ?_)
  rw [labels_places]

end Cert.ReferenceIdeal.Hand
-- ==== Proof.Equal.lean ====
/-
Kernel and reference compute one function over the extended reals.
-/
module

public import proofs.«01_k».proof.Defs
public import proofs.«01_k».proof.Proof.Ideal.Main
public import proofs.«01_k».proof.Proof.Ideal.ValKernel
public import proofs.«01_k».proof.Proof.Ref.Value

@[expose] public section

set_option maxRecDepth 16384

noncomputable section

namespace Cert.KernelIdeal.Hand

open Idealize.ShloMosaic Idealize.ShloMosaic.TcCoe Idealize.SL.Sem
open Cert.Pure Gen

/-- The kernel ends with the result that `value` states, its arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13) = W13 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run m ρ)
  have e := fun (r : Ref sig .tc) (hr : r.isScoped = false) => (h.1 c _ (mem_uc r hr)).trans (congrFun (V13_eq m c).symm _)
  exact ⟨h.1 c _ (mem_uc main_v13 rfl), (e main_arg0 rfl).trans (V13_main_arg0 m (outs m) c), (e main_arg1 rfl).trans (V13_main_arg1 m (outs m) c),
    (e main_arg2 rfl).trans (V13_main_arg2 m (outs m) c), (e main_arg3 rfl).trans (V13_main_arg3 m (outs m) c)⟩

end Cert.KernelIdeal.Hand

namespace Cert.Proof

open Idealize.ShloMosaic Idealize.ShloMosaic.TcCoe Idealize.SL.Sem

/-- From equal arguments, the kernel and the reference end with equal results. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v38 m' c = Cert.KernelIdeal.Hand.W13 m c Cert.KernelIdeal.main_v13 := by
  funext i
  refine (Cert.ReferenceIdeal.Hand.value m' c i).trans (Eq.trans ?_ (Cert.KernelIdeal.Hand.value m c i).symm)
  refine congrArg (fun x => Ideal.div x (Ideal.ofBits FTy.f32 1204289536#32)) (Finset.sum_congr rfl fun q _ => ?_)
  refine congrArg (fun n : ℕ => ((n : ℝ) : EReal)) ?_
  rw [h0, h1, h2, h3]
  rfl

/-- Kernel and reference compute one function over the extended reals. -/
theorem algebraic (hk : Cert.KernelIdeal.Facts) (hr : Cert.ReferenceIdeal.Facts) : Cert.algebraic_KernelIdeal_ReferenceIdeal := by
  intro m g m' g' _ h
  refine ⟨fun c => Cert.KernelIdeal.Hand.W13 m c Cert.KernelIdeal.main_v13, Cert.KernelIdeal.Hand.run_value m g, ?_⟩
  refine (θ_run Cert.ReferenceIdeal.defs _ _).mono (fun r e c => ?_) (Cert.ReferenceIdeal.Value.run (F := Ideal) m' g')
  exact ⟨(e c).1.trans (results_equal m m' c (h c).1 (h c).2.1 (h c).2.2.1 (h c).2.2.2), (e c).2⟩

end Cert.Proof

end
-- ==== Proof.lean ====
/-
The claims about the nearest-neighbour precision kernel, assembled: the frames of the kernel at the machine's floats
(`Bits/`), of the kernel over the extended reals (`Ideal/`) and of the reference, and the equality of the kernel's and the
reference's results over the extended reals (`Equal`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Ideal.Main
public import proofs.«01_k».proof.Proof.Bits.Main
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel at the machine's floats ends, its arguments unchanged, every counter at zero. -/
theorem frame_kernel : Cert.quiescent_Kernel := fun m ρ _ => Cert.Kernel.Hand.frame m ρ

/-- The kernel over the extended reals ends, its arguments unchanged, every counter at zero. -/
theorem frame_ideal : Cert.quiescent_KernelIdeal := fun m ρ _ => Cert.KernelIdeal.Hand.frame m ρ

/-- The reference ends, its arguments unchanged; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, algebraic Cert.KernelIdeal.Gen.facts Cert.ReferenceIdeal.Gen.facts⟩

end Cert.Proof

end
